-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_values_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_values_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x512x512x32 : Shape := ⟨4, ![4, 512, 512, 32]⟩
abbrev S_ : Shape := ⟨0, ![]⟩

class Facts : Prop where
  bcast_S_S4x512x512x32 : S_.BroadcastsInDim S4x512x512x32 (![] : Fin 0 → Fin S4x512x512x32.rank)
  reducesTo_S4x512x512x32_S_d0_1_2_3 : S4x512x512x32.ReducesTo [0, 1, 2, 3] S_
  h_S_ : 0 < S_.numel

variable [Facts]

def fn {F : FTy → Type} [FloatOps F] (main_arg0 : FVec F S4x512x512x32 .f32) : IVec S_ 1 :=
  let main_v0 : FVec F S4x512x512x32 .f32 := Host.absf main_arg0
  let main_cst : FVec F S_ .f32 := constant S_ .f32 0x7F800000#32
  let main_v1 : FVec F S4x512x512x32 .f32 := broadcastInDim S4x512x512x32 ![] bcast_S_S4x512x512x32 main_cst
  let main_v2 : IVec S4x512x512x32 1 := cmpf .olt main_v0 main_v1
  let main_c : IVec S_ 1 := constantI S_ 1 1#1
  let main_v3 : IVec S_ 1 := (fun x v => Host.reduce IntOp.andi x v reducesTo_S4x512x512x32_S_d0_1_2_3 h_S_) main_v2 main_c
  main_v3
-- ==== Kernel.lean ====
abbrev S4x512x512x32 : Shape := ⟨4, ![4, 512, 512, 32]⟩
abbrev S4x512x512x1 : Shape := ⟨4, ![4, 512, 512, 1]⟩
abbrev S4x512x512 : Shape := ⟨3, ![4, 512, 512]⟩
abbrev S1x512x512 : Shape := ⟨3, ![1, 512, 512]⟩
abbrev S528x768 : Shape := ⟨2, ![528, 768]⟩
abbrev S512x512 : Shape := ⟨2, ![512, 512]⟩
abbrev S64x16384 : Shape := ⟨2, ![64, 16384]⟩
abbrev S64x1000 : Shape := ⟨2, ![64, 1000]⟩
abbrev S4x16x1000 : Shape := ⟨3, ![4, 16, 1000]⟩
abbrev S16 : Shape := ⟨1, ![16]⟩
abbrev S_ : Shape := ⟨0, ![]⟩
abbrev S1x16x1 : Shape := ⟨3, ![1, 16, 1]⟩
abbrev S4x16000 : Shape := ⟨2, ![4, 16000]⟩
abbrev S4x1000 : Shape := ⟨2, ![4, 1000]⟩
abbrev S4x1000x1 : Shape := ⟨3, ![4, 1000, 1]⟩
abbrev S1 : Shape := ⟨1, ![1]⟩
abbrev S1x1x1 : Shape := ⟨3, ![1, 1, 1]⟩
abbrev S4x1024 : Shape := ⟨2, ![4, 1024]⟩
abbrev S4 : Shape := ⟨1, ![4]⟩
abbrev S4x1 : Shape := ⟨2, ![4, 1]⟩
abbrev S4096 : Shape := ⟨1, ![4096]⟩
abbrev S262144x128 : Shape := ⟨2, ![262144, 128]⟩
abbrev S4096x128 : Shape := ⟨2, ![4096, 128]⟩
abbrev S128 : Shape := ⟨1, ![128]⟩
abbrev S128x128 : Shape := ⟨2, ![128, 128]⟩
abbrev S4096x1 : Shape := ⟨2, ![4096, 1]⟩
abbrev S4096x8 : Shape := ⟨2, ![4096, 8]⟩
abbrev S4096x32 : Shape := ⟨2, ![4096, 32]⟩
abbrev S4x1024x8 : Shape := ⟨3, ![4, 1024, 8]⟩
abbrev S4x1000x7 : Shape := ⟨3, ![4, 1000, 7]⟩

abbrev nBuf : Table → Nat
  | .hbm => 82
  | .local .tc .vmem => 8
  | .local .scVector .vmem => 2
  | _ => 0

abbrev bufTy : (tb : Table) → Fin (nBuf tb) → BufTy
  | .hbm, ⟨0, _⟩ => ⟨S4x512x512x32, .f32⟩
  | .hbm, ⟨1, _⟩ => ⟨S4x512x512x1, .f32⟩
  | .hbm, ⟨2, _⟩ => ⟨S4x512x512, .f32⟩
  | .hbm, ⟨3, _⟩ => ⟨S4x512x512x1, .f32⟩
  | .hbm, ⟨4, _⟩ => ⟨S4x512x512, .f32⟩
  | .hbm, ⟨5, _⟩ => ⟨S4x512x512, .f32⟩
  | .hbm, ⟨6, _⟩ => ⟨S4x512x512, .f32⟩
  | .hbm, ⟨7, _⟩ => ⟨S64x16384, .f32⟩
  | .hbm, ⟨8, _⟩ => ⟨S64x1000, .f32⟩
  | .hbm, ⟨9, _⟩ => ⟨S64x1000, .i32⟩
  | .hbm, ⟨10, _⟩ => ⟨S4x16x1000, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S1x16x1, .i32⟩
  | .hbm, ⟨16, _⟩ => ⟨S4x16x1000, .i32⟩
  | .hbm, ⟨17, _⟩ => ⟨S4x16x1000, .i32⟩
  | .hbm, ⟨18, _⟩ => ⟨S4x16000, .i32⟩
  | .hbm, ⟨19, _⟩ => ⟨S4x16000, .f32⟩
  | .hbm, ⟨20, _⟩ => ⟨S4x1000, .f32⟩
  | .hbm, ⟨21, _⟩ => ⟨S4x1000, .i32⟩
  | .hbm, ⟨22, _⟩ => ⟨S_, .i32⟩
  | .hbm, ⟨23, _⟩ => ⟨S4x1000, .i32⟩
  | .hbm, ⟨24, _⟩ => ⟨S4x1000, .i1⟩
  | .hbm, ⟨25, _⟩ => ⟨S_, .i32⟩
  | .hbm, ⟨26, _⟩ => ⟨S4x1000, .i32⟩
  | .hbm, ⟨27, _⟩ => ⟨S4x1000, .i32⟩
  | .hbm, ⟨28, _⟩ => ⟨S4x1000, .i32⟩
  | .hbm, ⟨29, _⟩ => ⟨S4x1000x1, .i32⟩
  | .hbm, ⟨30, _⟩ => ⟨S1, .i32⟩
  | .hbm, ⟨31, _⟩ => ⟨S_, .i32⟩
  | .hbm, ⟨32, _⟩ => ⟨S4x1000x1, .i32⟩
  | .hbm, ⟨33, _⟩ => ⟨S4x1000x1, .i1⟩
  | .hbm, ⟨34, _⟩ => ⟨S1x1x1, .i32⟩
  | .hbm, ⟨35, _⟩ => ⟨S4x1000x1, .i32⟩
  | .hbm, ⟨36, _⟩ => ⟨S4x1000x1, .i1⟩
  | .hbm, ⟨37, _⟩ => ⟨S4x1000x1, .i1⟩
  | .hbm, ⟨38, _⟩ => ⟨S_, .i1⟩
  | .hbm, ⟨39, _⟩ => ⟨S4x1000, .i1⟩
  | .hbm, ⟨40, _⟩ => ⟨S4x1000, .i32⟩
  | .hbm, ⟨41, _⟩ => ⟨S_, .i32⟩
  | .hbm, ⟨42, _⟩ => ⟨S4x1000, .i32⟩
  | .hbm, ⟨43, _⟩ => ⟨S4x1000, .i32⟩
  | .hbm, ⟨44, _⟩ => ⟨S_, .i32⟩
  | .hbm, ⟨45, _⟩ => ⟨S_, .i32⟩
  | .hbm, ⟨46, _⟩ => ⟨S4x1024, .i32⟩
  | .hbm, ⟨47, _⟩ => ⟨S4, .i32⟩
  | .hbm, ⟨48, _⟩ => ⟨S_, .i32⟩
  | .hbm, ⟨49, _⟩ => ⟨S4, .i32⟩
  | .hbm, ⟨50, _⟩ => ⟨S4, .i32⟩
  | .hbm, ⟨51, _⟩ => ⟨S4x1, .i32⟩
  | .hbm, ⟨52, _⟩ => ⟨S4x1024, .i32⟩
  | .hbm, ⟨53, _⟩ => ⟨S4x1024, .i32⟩
  | .hbm, ⟨54, _⟩ => ⟨S4096, .i32⟩
  | .hbm, ⟨55, _⟩ => ⟨S_, .i32⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S4096, .i1⟩
  | .hbm, ⟨69, _⟩ => ⟨S_, .i32⟩
  | .hbm, ⟨70, _⟩ => ⟨S4096, .i32⟩
  | .hbm, ⟨71, _⟩ => ⟨S4096, .i32⟩
  | .hbm, ⟨72, _⟩ => ⟨S4096, .i32⟩
  | .hbm, ⟨73, _⟩ => ⟨S262144x128, .f32⟩
  | .hbm, ⟨74, _⟩ => ⟨S4096x128, .f32⟩
  | .hbm, ⟨75, _⟩ => ⟨S4x1024, .f32⟩
  | .hbm, ⟨76, _⟩ => ⟨S4096x1, .f32⟩
  | .hbm, ⟨77, _⟩ => ⟨S4096x8, .f32⟩
  | .hbm, ⟨78, _⟩ => ⟨S4x1024x8, .f32⟩
  | .hbm, ⟨79, _⟩ => ⟨S4x1000x7, .f32⟩
  | .hbm, ⟨80, _⟩ => ⟨S_, .i32⟩
  | .hbm, ⟨81, _⟩ => ⟨S4x1000, .i32⟩
  | .local .tc .vmem, ⟨0, _⟩ => ⟨S1x512x512, .f32⟩
  | .local .tc .vmem, ⟨1, _⟩ => ⟨S1x512x512, .f32⟩
  | .local .tc .vmem, ⟨2, _⟩ => ⟨S1x512x512, .f32⟩
  | .local .tc .vmem, ⟨3, _⟩ => ⟨S1x512x512, .f32⟩
  | .local .tc .vmem, ⟨4, _⟩ => ⟨S528x768, .f32⟩
  | .local .tc .vmem, ⟨5, _⟩ => ⟨S4096x128, .f32⟩
  | .local .tc .vmem, ⟨6, _⟩ => ⟨S4096x1, .f32⟩
  | .local .tc .vmem, ⟨7, _⟩ => ⟨S4096x8, .f32⟩
  | .local .scVector .vmem, ⟨0, _⟩ => ⟨S128, .i32⟩
  | .local .scVector .vmem, ⟨1, _⟩ => ⟨S128x128, .f32⟩
  | _, _ => ⟨S4x512x512x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_values : Ref sig .tc := ⟨.hbm, 8, rfl⟩
abbrev main_indices : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_values_0 : Ref sig .tc := ⟨.hbm, 20, rfl⟩
abbrev main_indices_1 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_c_4 : Ref sig .tc := ⟨.hbm, 41, rfl⟩
abbrev main_call0_v14 : Ref sig .tc := ⟨.hbm, 42, rfl⟩
abbrev main_v16 : Ref sig .tc := ⟨.hbm, 43, rfl⟩
abbrev main_c_2 : Ref sig .tc := ⟨.hbm, 44, rfl⟩
abbrev main_call1_v0 : Ref sig .tc := ⟨.hbm, 45, rfl⟩
abbrev main_v17 : Ref sig .tc := ⟨.hbm, 46, rfl⟩
abbrev main_v18 : Ref sig .tc := ⟨.hbm, 47, rfl⟩
abbrev main_c_3 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_4 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_c_5 : Ref sig .tc := ⟨.hbm, 80, rfl⟩
abbrev main_v33 : Ref sig .tc := ⟨.hbm, 81, rfl⟩
abbrev main_v26_scv : Ref sig .scVector := ⟨.hbm, 73, rfl⟩
abbrev main_v25_scv : Ref sig .scVector := ⟨.hbm, 72, rfl⟩
abbrev main_v27_scv : Ref sig .scVector := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.vmem, 7, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 7
abbrev cc2_sem1_0 : DmaSem sig := 8
abbrev cc2_sem2_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev grid2 : Pipeline.Grid := .none

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4096x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4096x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x512x512x32 : Shape := ⟨4, ![4, 512, 512, 32]⟩
abbrev S3 : Shape := ⟨1, ![3]⟩
abbrev S4x512x512x2 : Shape := ⟨4, ![4, 512, 512, 2]⟩
abbrev S_ : Shape := ⟨0, ![]⟩
abbrev S4x512x512 : Shape := ⟨3, ![4, 512, 512]⟩
abbrev S4x512x512x1 : Shape := ⟨4, ![4, 512, 512, 1]⟩
abbrev S4x262144 : Shape := ⟨2, ![4, 262144]⟩
abbrev S4x1000 : Shape := ⟨2, ![4, 1000]⟩
abbrev S4x512x512x30 : Shape := ⟨4, ![4, 512, 512, 30]⟩
abbrev S4x262144x30 : Shape := ⟨3, ![4, 262144, 30]⟩
abbrev S4x1000x1 : Shape := ⟨3, ![4, 1000, 1]⟩
abbrev S1 : Shape := ⟨1, ![1]⟩
abbrev S1x1x1 : Shape := ⟨3, ![1, 1, 1]⟩
abbrev S4x1000x30 : Shape := ⟨3, ![4, 1000, 30]⟩
abbrev S4000x30 : Shape := ⟨2, ![4000, 30]⟩
abbrev S4000x1 : Shape := ⟨2, ![4000, 1]⟩
abbrev S4000 : Shape := ⟨1, ![4000]⟩
abbrev S4000x27 : Shape := ⟨2, ![4000, 27]⟩
abbrev S4000x12 : Shape := ⟨2, ![4000, 12]⟩
abbrev S4000x1x1 : Shape := ⟨3, ![4000, 1, 1]⟩
abbrev S4000x3 : Shape := ⟨2, ![4000, 3]⟩
abbrev S1x3 : Shape := ⟨2, ![1, 3]⟩
abbrev S4000x7 : Shape := ⟨2, ![4000, 7]⟩
abbrev S4x1000x7 : Shape := ⟨3, ![4, 1000, 7]⟩
abbrev S4x3 : Shape := ⟨2, ![4, 3]⟩
abbrev S512 : Shape := ⟨1, ![512]⟩
abbrev S512x512 : Shape := ⟨2, ![512, 512]⟩
abbrev S512x512x1 : Shape := ⟨3, ![512, 512, 1]⟩
abbrev S512x512x3 : Shape := ⟨3, ![512, 512, 3]⟩
abbrev S1x512x512x3 : Shape := ⟨4, ![1, 512, 512, 3]⟩
abbrev S4x512x512x3 : Shape := ⟨4, ![4, 512, 512, 3]⟩
abbrev S4x1x1x3 : Shape := ⟨4, ![4, 1, 1, 3]⟩
abbrev S4x512x512x1x3 : Shape := ⟨5, ![4, 512, 512, 1, 3]⟩
abbrev S4x262144x3 : Shape := ⟨3, ![4, 262144, 3]⟩
abbrev S4x1000x3 : Shape := ⟨3, ![4, 1000, 3]⟩
abbrev S4x1000x4 : Shape := ⟨3, ![4, 1000, 4]⟩

abbrev nBuf : Space → Nat
  | .hbm => 237
  | .vmem => 0
  | .smem => 0
  | _ => 0

abbrev hbmTy0_0 (i : Nat) : BufTy := match i % 128 with
  | 0 => ⟨S4x512x512x32, .f32⟩
  | 1 => ⟨S3, .f32⟩
  | 2 => ⟨S4x512x512x2, .f32⟩
  | 3 => ⟨S_, .f32⟩
  | 4 => ⟨S4x512x512, .f32⟩
  | 5 => ⟨S_, .f32⟩
  | 6 => ⟨S4x512x512, .f32⟩
  | 7 => ⟨S4x512x512, .f32⟩
  | 8 => ⟨S4x512x512x1, .f32⟩
  | 9 => ⟨S4x512x512x2, .f32⟩
  | 10 => ⟨S4x512x512x2, .f32⟩
  | 11 => ⟨S4x512x512x2, .f32⟩
  | 12 => ⟨S_, .f32⟩
  | 13 => ⟨S4x512x512, .f32⟩
  | 14 => ⟨S4x512x512x1, .f32⟩
  | 15 => ⟨S4x512x512x2, .f32⟩
  | 16 => ⟨S4x512x512x2, .f32⟩
  | 17 => ⟨S4x512x512x1, .f32⟩
  | 18 => ⟨S_, .f32⟩
  | 19 => ⟨S_, .f32⟩
  | 20 => ⟨S4x512x512x1, .f32⟩
  | 21 => ⟨S_, .f32⟩
  | 22 => ⟨S4x512x512x1, .f32⟩
  | 23 => ⟨S4x512x512x1, .i1⟩
  | 24 => ⟨S4x512x512x1, .i1⟩
  | 25 => ⟨S4x512x512x1, .i1⟩
  | 26 => ⟨S_, .f32⟩
  | 27 => ⟨S_, .f32⟩
  | 28 => ⟨S4x512x512x1, .f32⟩
  | 29 => ⟨S4x512x512x1, .f32⟩
  | 30 => ⟨S4x512x512, .f32⟩
  | 31 => ⟨S4x262144, .f32⟩
  | 32 => ⟨S4x1000, .f32⟩
  | 33 => ⟨S4x1000, .i32⟩
  | 34 => ⟨S4x512x512x30, .f32⟩
  | 35 => ⟨S4x262144x30, .f32⟩
  | 36 => ⟨S4x1000x1, .i32⟩
  | 37 => ⟨S_, .i32⟩
  | 38 => ⟨S4x1000x1, .i32⟩
  | 39 => ⟨S4x1000x1, .i1⟩
  | 40 => ⟨S_, .i32⟩
  | 41 => ⟨S4x1000x1, .i32⟩
  | 42 => ⟨S4x1000x1, .i32⟩
  | 43 => ⟨S4x1000x1, .i32⟩
  | 44 => ⟨S1, .i32⟩
  | 45 => ⟨S_, .i32⟩
  | 46 => ⟨S4x1000x1, .i32⟩
  | 47 => ⟨S4x1000x1, .i1⟩
  | 48 => ⟨S1x1x1, .i32⟩
  | 49 => ⟨S4x1000x1, .i32⟩
  | 50 => ⟨S4x1000x1, .i1⟩
  | 51 => ⟨S4x1000x1, .i1⟩
  | 52 => ⟨S_, .i1⟩
  | 53 => ⟨S4x1000, .i1⟩
  | 54 => ⟨S4x1000x30, .f32⟩
  | 55 => ⟨S4x1000x30, .i1⟩
  | 56 => ⟨S_, .f32⟩
  | 57 => ⟨S4x1000x30, .f32⟩
  | 58 => ⟨S4x1000x30, .f32⟩
  | 59 => ⟨S_, .i32⟩
  | 60 => ⟨S4x1000, .i32⟩
  | 61 => ⟨S4x1000, .i1⟩
  | 62 => ⟨S_, .i32⟩
  | 63 => ⟨S4x1000, .i32⟩
  | 64 => ⟨S4x1000, .i32⟩
  | 65 => ⟨S4x1000, .i32⟩
  | 66 => ⟨S4x1000x1, .i32⟩
  | 67 => ⟨S1, .i32⟩
  | 68 => ⟨S_, .i32⟩
  | 69 => ⟨S4x1000x1, .i32⟩
  | 70 => ⟨S4x1000x1, .i1⟩
  | 71 => ⟨S1x1x1, .i32⟩
  | 72 => ⟨S4x1000x1, .i32⟩
  | 73 => ⟨S4x1000x1, .i1⟩
  | 74 => ⟨S4x1000x1, .i1⟩
  | 75 => ⟨S_, .i1⟩
  | 76 => ⟨S4x1000, .i1⟩
  | 77 => ⟨S4x1000, .f32⟩
  | 78 => ⟨S_, .f32⟩
  | 79 => ⟨S4x1000, .f32⟩
  | 80 => ⟨S4x1000, .f32⟩
  | 81 => ⟨S_, .i32⟩
  | 82 => ⟨S4x1000, .i32⟩
  | 83 => ⟨S_, .i32⟩
  | 84 => ⟨S4x1000, .i32⟩
  | 85 => ⟨S4x1000, .i32⟩
  | 86 => ⟨S4000x30, .f32⟩
  | 87 => ⟨S4000x1, .f32⟩
  | 88 => ⟨S4000, .f32⟩
  | 89 => ⟨S4000x1, .f32⟩
  | 90 => ⟨S4000, .f32⟩
  | 91 => ⟨S4000x1, .f32⟩
  | 92 => ⟨S4000, .f32⟩
  | 93 => ⟨S4000x27, .f32⟩
  | 94 => ⟨S4000x12, .f32⟩
  | 95 => ⟨S4000x12, .i32⟩
  | 96 => ⟨S_, .f32⟩
  | 97 => ⟨S_, .i32⟩
  | 98 => ⟨S4000, .f32⟩
  | 99 => ⟨S4000, .i32⟩
  | 100 => ⟨S4000, .f32⟩
  | 101 => ⟨S4000x12, .f32⟩
  | 102 => ⟨S4000x1, .i32⟩
  | 103 => ⟨S_, .i32⟩
  | 104 => ⟨S4000x1, .i32⟩
  | 105 => ⟨S4000x1, .i1⟩
  | 106 => ⟨S_, .i32⟩
  | 107 => ⟨S4000x1, .i32⟩
  | 108 => ⟨S4000x1, .i32⟩
  | 109 => ⟨S4000x1, .i32⟩
  | 110 => ⟨S4000x1x1, .i32⟩
  | 111 => ⟨S1, .i32⟩
  | 112 => ⟨S_, .i32⟩
  | 113 => ⟨S4000x1x1, .i32⟩
  | 114 => ⟨S4000x1x1, .i1⟩
  | 115 => ⟨S1x1x1, .i32⟩
  | 116 => ⟨S4000x1x1, .i32⟩
  | 117 => ⟨S4000x1x1, .i1⟩
  | 118 => ⟨S4000x1x1, .i1⟩
  | 119 => ⟨S_, .i1⟩
  | 120 => ⟨S4000x1, .i1⟩
  | 121 => ⟨S4000x1, .f32⟩
  | 122 => ⟨S_, .f32⟩
  | 123 => ⟨S4000x1, .f32⟩
  | 124 => ⟨S4000x1, .f32⟩
  | 125 => ⟨S4000, .f32⟩
  | 126 => ⟨S_, .f32⟩
  | 127 => ⟨S4000, .f32⟩
  | _ => ⟨S4x512x512x32, .f32⟩

abbrev hbmTy0_1 (i : Nat) : BufTy := match i % 128 with
  | 0 => ⟨S4000, .f32⟩
  | 1 => ⟨S_, .f32⟩
  | 2 => ⟨S4000, .f32⟩
  | 3 => ⟨S4000, .f32⟩
  | 4 => ⟨S4000, .f32⟩
  | 5 => ⟨S_, .f32⟩
  | 6 => ⟨S_, .f32⟩
  | 7 => ⟨S4000, .f32⟩
  | 8 => ⟨S4000, .f32⟩
  | 9 => ⟨S_, .f32⟩
  | 10 => ⟨S4000, .f32⟩
  | 11 => ⟨S4000, .i1⟩
  | 12 => ⟨S_, .f32⟩
  | 13 => ⟨S4000, .f32⟩
  | 14 => ⟨S4000, .i1⟩
  | 15 => ⟨S_, .f32⟩
  | 16 => ⟨S_, .i1⟩
  | 17 => ⟨S4000, .i1⟩
  | 18 => ⟨S4000, .i1⟩
  | 19 => ⟨S4000, .i1⟩
  | 20 => ⟨S4000, .f32⟩
  | 21 => ⟨S4000, .f32⟩
  | 22 => ⟨S4000, .f32⟩
  | 23 => ⟨S_, .f32⟩
  | 24 => ⟨S4000, .f32⟩
  | 25 => ⟨S4000, .i1⟩
  | 26 => ⟨S_, .f32⟩
  | 27 => ⟨S4000, .f32⟩
  | 28 => ⟨S4000, .f32⟩
  | 29 => ⟨S4000, .f32⟩
  | 30 => ⟨S4000x3, .f32⟩
  | 31 => ⟨S1x3, .f32⟩
  | 32 => ⟨S4000x3, .f32⟩
  | 33 => ⟨S4000x3, .f32⟩
  | 34 => ⟨S1x3, .f32⟩
  | 35 => ⟨S4000x3, .f32⟩
  | 36 => ⟨S4000x3, .f32⟩
  | 37 => ⟨S4000x1, .f32⟩
  | 38 => ⟨S4000x1, .f32⟩
  | 39 => ⟨S4000x1, .f32⟩
  | 40 => ⟨S4000x3, .f32⟩
  | 41 => ⟨S4000x1, .f32⟩
  | 42 => ⟨S4000x7, .f32⟩
  | 43 => ⟨S4x1000x7, .f32⟩
  | 44 => ⟨S_, .f32⟩
  | 45 => ⟨S4x3, .f32⟩
  | 46 => ⟨S512, .f32⟩
  | 47 => ⟨S_, .f32⟩
  | 48 => ⟨S512, .f32⟩
  | 49 => ⟨S512, .f32⟩
  | 50 => ⟨S_, .f32⟩
  | 51 => ⟨S512, .f32⟩
  | 52 => ⟨S512, .f32⟩
  | 53 => ⟨S_, .f32⟩
  | 54 => ⟨S512, .f32⟩
  | 55 => ⟨S512, .f32⟩
  | 56 => ⟨S512, .f32⟩
  | 57 => ⟨S_, .f32⟩
  | 58 => ⟨S512, .f32⟩
  | 59 => ⟨S512, .f32⟩
  | 60 => ⟨S_, .f32⟩
  | 61 => ⟨S512, .f32⟩
  | 62 => ⟨S512, .f32⟩
  | 63 => ⟨S_, .f32⟩
  | 64 => ⟨S512, .f32⟩
  | 65 => ⟨S512, .f32⟩
  | 66 => ⟨S512x512, .f32⟩
  | 67 => ⟨S512x512, .f32⟩
  | 68 => ⟨S_, .f32⟩
  | 69 => ⟨S512x512, .f32⟩
  | 70 => ⟨S512x512x1, .f32⟩
  | 71 => ⟨S512x512x1, .f32⟩
  | 72 => ⟨S512x512x1, .f32⟩
  | 73 => ⟨S512x512x3, .f32⟩
  | 74 => ⟨S1x512x512x3, .f32⟩
  | 75 => ⟨S4x512x512x3, .f32⟩
  | 76 => ⟨S4x1x1x3, .f32⟩
  | 77 => ⟨S4x512x512x3, .f32⟩
  | 78 => ⟨S4x512x512x3, .f32⟩
  | 79 => ⟨S4x512x512x1x3, .f32⟩
  | 80 => ⟨S4x512x512x3, .f32⟩
  | 81 => ⟨S4x262144x3, .f32⟩
  | 82 => ⟨S4x1000x1, .i32⟩
  | 83 => ⟨S_, .i32⟩
  | 84 => ⟨S4x1000x1, .i32⟩
  | 85 => ⟨S4x1000x1, .i1⟩
  | 86 => ⟨S_, .i32⟩
  | 87 => ⟨S4x1000x1, .i32⟩
  | 88 => ⟨S4x1000x1, .i32⟩
  | 89 => ⟨S4x1000x1, .i32⟩
  | 90 => ⟨S1, .i32⟩
  | 91 => ⟨S_, .i32⟩
  | 92 => ⟨S4x1000x1, .i32⟩
  | 93 => ⟨S4x1000x1, .i1⟩
  | 94 => ⟨S1x1x1, .i32⟩
  | 95 => ⟨S4x1000x1, .i32⟩
  | 96 => ⟨S4x1000x1, .i1⟩
  | 97 => ⟨S4x1000x1, .i1⟩
  | 98 => ⟨S_, .i1⟩
  | 99 => ⟨S4x1000, .i1⟩
  | 100 => ⟨S4x1000x3, .f32⟩
  | 101 => ⟨S4x1000x3, .i1⟩
  | 102 => ⟨S_, .f32⟩
  | 103 => ⟨S4x1000x3, .f32⟩
  | 104 => ⟨S4x1000x3, .f32⟩
  | 105 => ⟨S4x1000x3, .f32⟩
  | 106 => ⟨S4x1000x3, .f32⟩
  | 107 => ⟨S4x1000x4, .f32⟩
  | 108 => ⟨S4x1000x7, .f32⟩
  | _ => ⟨S4x512x512x32, .f32⟩

abbrev hbmTy (i : Nat) : BufTy := match i / 128 with
  | 0 => hbmTy0_0 i
  | 1 => hbmTy0_1 i
  | _ => ⟨S4x512x512x32, .f32⟩

abbrev bufTy : (tb : Table) → Fin (tcTables nBuf tb) → BufTy
  | .hbm, ⟨i, _⟩ => hbmTy i
  | _, _ => ⟨S4x512x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_values : Ref sig .tc := ⟨.hbm, 32, rfl⟩
abbrev main_indices : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_c_2 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_c_3 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v25 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_cst : Ref sig .tc := ⟨.hbm, 78, rfl⟩
abbrev main_call2_v14 : Ref sig .tc := ⟨.hbm, 79, rfl⟩
abbrev main_v26 : Ref sig .tc := ⟨.hbm, 80, rfl⟩
abbrev main_c : Ref sig .tc := ⟨.hbm, 81, rfl⟩
abbrev main_v27 : Ref sig .tc := ⟨.hbm, 82, rfl⟩
abbrev main_c_6 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_call3_v0 : Ref sig .tc := ⟨.hbm, 95, rfl⟩
abbrev main_call3_cst : Ref sig .tc := ⟨.hbm, 96, rfl⟩
abbrev main_call3_c : Ref sig .tc := ⟨.hbm, 97, rfl⟩
abbrev main_call3_v1_0 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_c_1 : Ref sig .tc := ⟨.hbm, 111, rfl⟩
abbrev main_call4_c_2 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_3 : Ref sig .tc := ⟨.hbm, 119, rfl⟩
abbrev main_call4_v12 : Ref sig .tc := ⟨.hbm, 120, rfl⟩
abbrev main_call4_v13 : Ref sig .tc := ⟨.hbm, 121, rfl⟩
abbrev main_call4_cst : Ref sig .tc := ⟨.hbm, 122, rfl⟩
abbrev main_call4_v14 : Ref sig .tc := ⟨.hbm, 123, rfl⟩
abbrev main_v43 : Ref sig .tc := ⟨.hbm, 124, rfl⟩
abbrev main_v44 : Ref sig .tc := ⟨.hbm, 125, rfl⟩
abbrev main_cst_7 : Ref sig .tc := ⟨.hbm, 126, rfl⟩
abbrev main_v45 : Ref sig .tc := ⟨.hbm, 127, rfl⟩
abbrev main_v46 : Ref sig .tc := ⟨.hbm, 128, rfl⟩
abbrev main_cst_8 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_cst_9 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_cst : Ref sig .tc := ⟨.hbm, 137, rfl⟩
abbrev main_call5_v3 : Ref sig .tc := ⟨.hbm, 138, rfl⟩
abbrev main_call5_v4 : Ref sig .tc := ⟨.hbm, 139, rfl⟩
abbrev main_call5_cst_0 : Ref sig .tc := ⟨.hbm, 140, rfl⟩
abbrev main_call5_v5 : Ref sig .tc := ⟨.hbm, 141, rfl⟩
abbrev main_call5_v6 : Ref sig .tc := ⟨.hbm, 142, rfl⟩
abbrev main_call5_cst_1 : Ref sig .tc := ⟨.hbm, 143, rfl⟩
abbrev main_call5_v7 : Ref sig .tc := ⟨.hbm, 144, rfl⟩
abbrev main_call5_v8 : Ref sig .tc := ⟨.hbm, 145, rfl⟩
abbrev main_call5_v9 : Ref sig .tc := ⟨.hbm, 146, rfl⟩
abbrev main_call5_v10 : Ref sig .tc := ⟨.hbm, 147, rfl⟩
abbrev main_call5_v11 : Ref sig .tc := ⟨.hbm, 148, rfl⟩
abbrev main_call5_v12 : Ref sig .tc := ⟨.hbm, 149, rfl⟩
abbrev main_v50 : Ref sig .tc := ⟨.hbm, 150, rfl⟩
abbrev main_cst_10 : Ref sig .tc := ⟨.hbm, 151, rfl⟩
abbrev main_v51 : Ref sig .tc := ⟨.hbm, 152, rfl⟩
abbrev main_v52 : Ref sig .tc := ⟨.hbm, 153, rfl⟩
abbrev main_cst_11 : Ref sig .tc := ⟨.hbm, 154, rfl⟩
abbrev main_v53 : Ref sig .tc := ⟨.hbm, 155, rfl⟩
abbrev main_v54 : Ref sig .tc := ⟨.hbm, 156, rfl⟩
abbrev main_v55 : Ref sig .tc := ⟨.hbm, 157, rfl⟩
abbrev main_v56 : Ref sig .tc := ⟨.hbm, 158, rfl⟩
abbrev main_v57 : Ref sig .tc := ⟨.hbm, 159, rfl⟩
abbrev main_v58 : Ref sig .tc := ⟨.hbm, 160, rfl⟩
abbrev main_v59 : Ref sig .tc := ⟨.hbm, 161, rfl⟩
abbrev main_v60 : Ref sig .tc := ⟨.hbm, 162, rfl⟩
abbrev main_v61 : Ref sig .tc := ⟨.hbm, 163, rfl⟩
abbrev main_v62 : Ref sig .tc := ⟨.hbm, 164, rfl⟩
abbrev main_v63 : Ref sig .tc := ⟨.hbm, 165, rfl⟩
abbrev main_v64 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_cst_12 : Ref sig .tc := ⟨.hbm, 172, rfl⟩
abbrev main_v70 : Ref sig .tc := ⟨.hbm, 173, rfl⟩
abbrev main_v71 : Ref sig .tc := ⟨.hbm, 174, rfl⟩
abbrev main_cst_13 : Ref sig .tc := ⟨.hbm, 175, rfl⟩
abbrev main_v72 : Ref sig .tc := ⟨.hbm, 176, rfl⟩
abbrev main_v73 : Ref sig .tc := ⟨.hbm, 177, rfl⟩
abbrev main_cst_14 : Ref sig .tc := ⟨.hbm, 178, rfl⟩
abbrev main_v74 : Ref sig .tc := ⟨.hbm, 179, rfl⟩
abbrev main_v75 : Ref sig .tc := ⟨.hbm, 180, rfl⟩
abbrev main_cst_15 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev main_cst_16 : Ref sig .tc := ⟨.hbm, 185, rfl⟩
abbrev main_v79 : Ref sig .tc := ⟨.hbm, 186, rfl⟩
abbrev main_v80 : Ref sig .tc := ⟨.hbm, 187, rfl⟩
abbrev main_cst_17 : Ref sig .tc := ⟨.hbm, 188, rfl⟩
abbrev main_v81 : Ref sig .tc := ⟨.hbm, 189, rfl⟩
abbrev main_v82 : Ref sig .tc := ⟨.hbm, 190, rfl⟩
abbrev main_cst_18 : Ref sig .tc := ⟨.hbm, 191, rfl⟩
abbrev main_v83 : Ref sig .tc := ⟨.hbm, 192, rfl⟩
abbrev main_v84 : Ref sig .tc := ⟨.hbm, 193, rfl⟩
abbrev main_v85 : Ref sig .tc := ⟨.hbm, 194, rfl⟩
abbrev main_v86 : Ref sig .tc := ⟨.hbm, 195, rfl⟩
abbrev main_cst_19 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_call7_c : Ref sig .tc := ⟨.hbm, 211, rfl⟩
abbrev main_call7_v0 : Ref sig .tc := ⟨.hbm, 212, rfl⟩
abbrev main_call7_v1 : Ref sig .tc := ⟨.hbm, 213, rfl⟩
abbrev main_call7_c_0 : Ref sig .tc := ⟨.hbm, 214, rfl⟩
abbrev main_call7_v2 : Ref sig .tc := ⟨.hbm, 215, rfl⟩
abbrev main_call7_v3 : Ref sig .tc := ⟨.hbm, 216, rfl⟩
abbrev main_call7_v4 : Ref sig .tc := ⟨.hbm, 217, rfl⟩
abbrev main_call7_c_1 : Ref sig .tc := ⟨.hbm, 218, rfl⟩
abbrev main_call7_c_2 : Ref sig .tc := ⟨.hbm, 219, rfl⟩
abbrev main_call7_v5 : Ref sig .tc := ⟨.hbm, 220, rfl⟩
abbrev main_call7_v6 : Ref sig .tc := ⟨.hbm, 221, rfl⟩
abbrev main_call7_v7 : Ref sig .tc := ⟨.hbm, 222, rfl⟩
abbrev main_call7_v8 : Ref sig .tc := ⟨.hbm, 223, rfl⟩
abbrev main_call7_v9 : Ref sig .tc := ⟨.hbm, 224, rfl⟩
abbrev main_call7_v10 : Ref sig .tc := ⟨.hbm, 225, rfl⟩
abbrev main_call7_c_3 : Ref sig .tc := ⟨.hbm, 226, rfl⟩
abbrev main_call7_v11 : Ref sig .tc := ⟨.hbm, 227, rfl⟩
abbrev main_call7_v12 : Ref sig .tc := ⟨.hbm, 228, rfl⟩
abbrev main_call7_v13 : Ref sig .tc := ⟨.hbm, 229, rfl⟩
abbrev main_call7_cst : Ref sig .tc := ⟨.hbm, 230, rfl⟩
abbrev main_call7_v14 : Ref sig .tc := ⟨.hbm, 231, rfl⟩
abbrev main_v101 : Ref sig .tc := ⟨.hbm, 232, rfl⟩
abbrev main_v102 : Ref sig .tc := ⟨.hbm, 233, rfl⟩
abbrev main_v103 : Ref sig .tc := ⟨.hbm, 234, rfl⟩
abbrev main_v104 : Ref sig .tc := ⟨.hbm, 235, rfl⟩
abbrev main_v105 : Ref sig .tc := ⟨.hbm, 236, rfl⟩

abbrev nD : Nat := 1
abbrev τ : Topo := Topo.v7x

variable {F : FTy → Type} [FloatOps F]
-- ==== Proof.Maths.TopPos.lean ====
/- The k greatest of each row, as positions: which entry of the row each output of a top-k comes from. -/
module

public import Idealize.ShloMosaic.PureOps
public import Idealize.ShloMosaic.Lib.SortPrefix
public import Idealize.ShloMosaic.Lib.ValueIdxCoords
public import Idealize.ShloMosaic.Lib.ReduceAll

@[expose] public section

noncomputable section

namespace Cert.Proof.Maths

open Idealize.ShloMosaic Idealize.ShloMosaic.ValueIdx

/-- The position the stable descending sort of a row puts in place `k`. -/
def tkPos {α : Type} {n : ℕ} (gt : α → α → BitVec 1) (x : Fin n → α) (k : Fin n) : Fin n :=
  sortedFrom (fun a b => gt (x a) (x b) == 1#1) k

/-- A row of a matrix. -/
def rowAt {α : Type} {R n : ℕ} (x : (⟨2, ![R, n]⟩ : Shape).Idx → α) (r : Fin R) : Fin n → α := fun c => x (ix2 r c)

theorem along_ix2 {R n : ℕ} (j : (⟨2, ![R, n]⟩ : Shape).Idx) (r : Fin R) (h : j 0 = r) (c : Fin n) :
    Shape.Idx.along j (1 : Fin 2) c = (ix2 r c : (⟨2, ![R, n]⟩ : Shape).Idx) := by
  funext a
  match a with
  | ⟨0, _⟩ => exact (Function.update_of_ne (show (0 : Fin 2) ≠ 1 by decide) _ _).trans h
  | ⟨1, _⟩ => exact Function.update_self _ _ _

theorem sorted_along {α β ι : Type} {n : ℕ} (gt : α → α → BitVec 1) (x : ι → α) (y : ι → β) (f g : Fin n → ι) (p q : Fin n) (hf : f = g) (hp : p = q) :
    y (f (sortedFrom (fun a b => gt (x (f a)) (x (f b)) == 1#1) p)) = y (g (sortedFrom (fun a b => gt (x (g a)) (x (g b)) == 1#1) q)) := by
  subst hf hp; rfl

/-- The values a top-k of a matrix along its rows gives. -/
theorem topK_val {α : Type} {R n k : ℕ} (gt : α → α → BitVec 1) (x : (⟨2, ![R, n]⟩ : Shape).Idx → α)
    (h : (⟨2, ![R, n]⟩ : Shape).Slices (fun _ => 0) ⟨2, ![R, k]⟩) (hk : k ≤ n) (r : Fin R) (i : Fin k) :
    (Host.topK (s := ⟨2, ![R, n]⟩) ⟨2, ![R, k]⟩ 1 gt x h).1 (ix2 r i)
      = rowAt x r (tkPos gt (rowAt x r) (i.castLE hk)) :=
  sorted_along gt x x _ _ _ (i.castLE hk) (funext fun c => along_ix2 (fun a => ⟨0 + (ix2 r i (a.cast h.1.symm)).val, Nat.lt_of_lt_of_le (Nat.add_lt_add_left (ix2 r i _).isLt _) (h.2 a)⟩) r (Fin.ext (Nat.zero_add _)) c) (Fin.ext (Nat.zero_add _))

/-- The positions a top-k of a matrix along its rows gives. -/
theorem topK_idx {α : Type} {R n k : ℕ} (gt : α → α → BitVec 1) (x : (⟨2, ![R, n]⟩ : Shape).Idx → α)
    (h : (⟨2, ![R, n]⟩ : Shape).Slices (fun _ => 0) ⟨2, ![R, k]⟩) (hk : k ≤ n) (r : Fin R) (i : Fin k) :
    (Host.topK (s := ⟨2, ![R, n]⟩) ⟨2, ![R, k]⟩ 1 gt x h).2 (ix2 r i)
      = BitVec.ofNat 32 (tkPos gt (rowAt x r) (i.castLE hk)).val :=
  sorted_along gt x (iotaInDim ⟨2, ![R, n]⟩ 32 (1 : Fin 2)) _ _ _ (i.castLE hk) (funext fun c => along_ix2 (fun a => ⟨0 + (ix2 r i (a.cast h.1.symm)).val, Nat.lt_of_lt_of_le (Nat.add_lt_add_left (ix2 r i _).isLt _) (h.2 a)⟩) r (Fin.ext (Nat.zero_add _)) c) (Fin.ext (Nat.zero_add _))

/-- A reshaped array read at an index, by the entry at the same place in row-major order. -/
theorem cast_at {α : Type} {s t : Shape} (x : s.Idx → α) (h : s.ShapeCasts t) (j : t.Idx) (i : s.Idx)
    (e : (s.rowMajor i).val = (t.rowMajor j).val) : shapeCast t x h j = x i :=
  congrArg x (Shape.reshapeEquiv_eq_of_rowMajor h e)

end Cert.Proof.Maths

end
-- ==== Proof.KernelIdeal.Base.lean ====
/- The program `KernelIdeal` as the SparseCore launch theorem sees it, the ghost state the proof runs over (the launch handshakes' rounds,
   the two pipelined calls' rounds, the transfers' counters), and the three arrays the SparseCore call works on. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels below the SparseCore's own: the two pipelines' and the bodies'. -/
abbrev ΛP : Labels := Pipeline.Sig Λ₀ (Fin 2) fun p => (pcfgs (F := F) p).Adm
/-- The SparseCore call's configuration. -/
abbrev K : SparseCore.Cfg τ sig (ΛP (F := F)) 1 := sc (F := F)
theorem nSub_zero : (K (F := F)).nSub 0 = 16 := rfl
theorem nCore_zero : (K (F := F)).nCore 0 = 2 := rfl
/-- The definitions below the SparseCore's. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of the configuration, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch handshakes' rounds. -/
abbrev UH : Type := URounds (GSem nD τ sig) ℕ
/-- The handshakes' rounds, the pipelines' rounds, the transfers' counters. -/
abbrev UU : Type := UH × (UR sig nD τ × Counters)

local notation "𝕄" => MT nD τ sig (HIx 1) (Elt F) ℕ UU ℕ

/-- The handshakes' rounds in the machine's algebra. -/
abbrev EH : Emb UH (MT nD τ sig (HIx 1) (Elt F) ℕ UU ℕ) := embL
/-- The pipelines' rounds in the machine's algebra. -/
def EP : Emb (UR sig nD τ) (MT nD τ sig (HIx 1) (Elt F) ℕ UU ℕ) :=
  (Emb.inl : Emb (UR sig nD τ) (UR sig nD τ × Counters)).trans embR
instance EP_landsIn : (EP : Emb (UR sig nD τ) 𝕄).LandsIn (upEmb : UEmb _ 𝕄) := by unfold EP; infer_instance

/-- The gather's index list, its table and its result, in the device's memory. -/
abbrev iLoc (d : Dev nD) : Loc nD τ sig := (SparseCore.T d).loc main_v25
abbrev tLoc (d : Dev nD) : Loc nD τ sig := (SparseCore.T d).loc main_v26
abbrev oLoc (d : Dev nD) : Loc nD τ sig := (SparseCore.T d).loc main_v27

/-- Entry `k` of the index list. -/
def at1 (k : Fin 4096) : S4096.Idx := fun | 0 => k
/-- Row `r`, column `l` of the table. -/
def at2 (r : Fin 262144) (l : Fin 128) : S262144x128.Idx := fun | 0 => r | 1 => l
/-- The table's row an index word names (a word below 262144 names its own row). -/
def rowOf (w : BitVec 32) : Fin 262144 := ⟨w.toNat % 262144, Nat.mod_lt _ (by decide)⟩

/-- What the gather leaves: row `k` is the table's row the list's entry `k` names. -/
def gathered (tb : S262144x128.Idx → Elt F .f32) (ix : S4096.Idx → Elt F .i32) : S4096x128.Idx → Elt F .f32 :=
  fun j => tb (at2 (rowOf (ix (at1 (j 0)))) (j 1))

end Cert.Proof.KernelIdeal

end
-- ==== Proof.KernelIdeal.Mask.lean ====
/- The mask kernel's body: from one image's logit difference to its masked confidence map. -/
module

public import proofs.«01_k».proof.Proof.KernelIdeal.Base
public import Idealize.ShloMosaic.Lib.VecWindow

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- Memref `M`'s buffer on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The scratch once written: the image's confidences inside a border of −∞. -/
def padded (x : Vec F S1x512x512 .f32) : S528x768.Idx → Elt F .f32 :=
  VecWindow.put (s := S528x768) (k0_pay3 (F := F)) ![8, 128] S512x512.size (k0_pay4 x)

/-- The 512×512 window of the scratch at row `a`, column `b`. -/
def tap (x : Vec F S1x512x512 .f32) (a b : ℕ) (h : ∀ q, (![a, b] : Fin S528x768.rank → ℕ) q + S512x512.size q ≤ S528x768.size q) : Vec F S512x512 .f32 :=
  VecWindow.window (s := S528x768) (padded x) ![a, b] S512x512.size h

/-- What the body makes of one image: the confidence where it passes the threshold and is the largest of its 3×3 neighbourhood, zero elsewhere. -/
def maskBlock (x : Vec F S1x512x512 .f32) : FVec F S1x512x512 .f32 :=
  k0_pay1 (k0_pay2 x)
    (k0_pay5 (tap x 7 127 inb_S528x768_S512x512_7_127) (tap x 7 128 inb_S528x768_S512x512_7_128) (tap x 7 129 inb_S528x768_S512x512_7_129) (tap x 8 127 inb_S528x768_S512x512_8_127))
    (tap x 8 128 inb_S528x768_S512x512_8_128) (tap x 8 129 inb_S528x768_S512x512_8_129) (tap x 9 127 inb_S528x768_S512x512_9_127) (tap x 9 128 inb_S528x768_S512x512_9_128)
    (tap x 9 129 inb_S528x768_S512x512_9_129)

/-- A load of the scratch after the border's store and the image's store. -/
theorem tap_eq [∀ e, Nonempty (Elt F e)] (v : View sig .tc .vmem S528x768 .f32) (x : Vec F S1x512x512 .f32) (a b : ℕ)
    (h : ∀ q, (![a, b] : Fin S528x768.rank → ℕ) q + S512x512.size q ≤ S528x768.size q) :
    v.readCov (Val := Elt F) [⟨Rect.unit (s := S528x768) ![8, 128] S512x512.size inb_S528x768_S512x512_8_128, k0_pay4 x⟩,
        ⟨Rect.unit (s := S528x768) ![0, 0] S528x768.size inb_S528x768_S528x768_0_0, k0_pay3⟩] (Rect.unit (s := S528x768) ![a, b] S512x512.size h).toLoadRect = tap x a b h := by
  unfold View.readCov
  rw [View.readAt_unit v _ h rfl h, View.read_writes_cons_put v _ _ _ _ rfl, View.read_writes_full]
  rfl

set_option maxHeartbeats 4000000 in
/-- The body, from the input window and the scratch held whole: it leaves `maskBlock` of the image in the output window. -/
theorem mask_run (c : Dev nD) (i : grid0.Coords) (M0 : Memref sig .tc .vmem S1x512x512 .f32) (h0 : M0.IsWhole) (M1 : Memref sig .tc .vmem S1x512x512 .f32) (h1 : M1.IsWhole)
    (f0 : Buf (Elt F) (M0.view.loc (c : Thread nD τ))) (f1 : Buf (Elt F) (M1.view.loc (c : Thread nD τ))) (fs : Buf (Elt F) ((c : Thread nD τ).loc cc0_scratch0))
    (E : Set ℕ) (Q : PUnit → sProp 𝕄) :
    iprop(pt c M0 f0 ∗ pt c M1 f1 ∗ pt c (Memref.whole cc0_scratch0) fs
        ∗ (iprop(pt c M0 f0 ∗ (∃ W, ⌜M1.view.read (Elt F) W = maskBlock (M0.view.read (Elt F) f0)⌝ ∗ pt c M1 W) ∗ (∃ g, pt c (Memref.whole cc0_scratch0) g)) -∗ Q ⟨⟩))
      ⊢ wp frame (wpE (defs₀ (F := F)) Variants.none c none) E (cc0__mask_kernel i M0 h0 M1 h1 (Memref.whole cc0_scratch0) (Memref.isWhole_whole _)) Q := by
  simp only [cc0__mask_kernel_eq_skeleton]; unfold cc0__mask_kernel_skel
  simp only [k0_part1_eq_skeleton]; unfold k0_part1_skel
  iintro ⟨H0, H1, Hs, Hk⟩
  sl_exec!
  sl_step
  iapply Hk
  isplitl [H0]; · iexact H0
  isplitl [H1]
  · iexists _; isplitr; swap; (· iexact H1)
    ipureintro
    unfold mask_run.sl.H1_1
    refine (View.read_writes_full _ _ _ _ _).trans ?_
    unfold maskBlock
    simp only [← tap_eq (View.whole cc0_scratch0)]
    unfold mask_run.sl.v24 mask_run.sl.v26 mask_run.sl.v28 mask_run.sl.v30 mask_run.sl.v32 mask_run.sl.v34 mask_run.sl.v36 mask_run.sl.v38 mask_run.sl.v40 mask_run.sl.Hs_2
    rw [View.readAt_full]
  iexists _; iexact Hs

end Cert.Proof.KernelIdeal

end
-- ==== Proof.KernelIdeal.Decode.lean ====
/- The decode kernel's body: from the gathered rows and their grid positions to the decoded boxes. -/
module

public import proofs.«01_k».proof.Proof.KernelIdeal.Mask

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- What the body makes of the gathered rows `x0` (four boxes' 32 features each) and the positions `x1`. -/
def decodeBlock (x0 : Vec F S4096x128 .f32) (x1 : Vec F S4096x1 .f32) : FVec F S4096x8 .f32 :=
  have v3 : FVec F S4096x1 .f32 := k2_pay1 x1
  have v42 : FVec F S4096x32 .f32 := k2_pay2 x0 x1
  have v43 : IVec S4096x32 32 := iota .tc S4096x32 32 [1] iota_S4096x32_d1_w32
  have v44 : FVec F S4096x32 .f32 := k2_pay3 (F := F)
  have cst_23 : F .f32 := Scalar.ofBits .f32 0x40C90FDB#32
  have v129 : FVec F S4096x1 .f32 := k2_pay12 v3
  k2_pay19 (k2_pay8 cst_23 (k2_pay4 v42 v43 v44) (k2_pay5 v42 v43 v44) (k2_pay6 v42 v43 v44) (k2_pay7 (F := F))) (k2_pay9 v42 v43) (k2_pay10 v42 v43) (k2_pay11 v42 v43)
    (k2_pay14 v3 v42 v43 v129) (k2_pay15 v42 v43) (iota .tc S4096x8 32 [1] iota_S4096x8_d1_w32) (k2_pay16 (F := F)) k2_pay17 (Scalar.ofBits .f32 0x00000000#32) (k2_pay18 v42 v43 v129)

set_option maxHeartbeats 4000000 in
/-- The body, from its three windows held whole: it leaves `decodeBlock` of the two inputs in the output window. -/
theorem decode_run (c : Dev nD) (M0 : Memref sig .tc .vmem S4096x128 .f32) (h0 : M0.IsWhole) (M1 : Memref sig .tc .vmem S4096x1 .f32) (h1 : M1.IsWhole)
    (M2 : Memref sig .tc .vmem S4096x8 .f32) (h2 : M2.IsWhole)
    (f0 : Buf (Elt F) (M0.view.loc (c : Thread nD τ))) (f1 : Buf (Elt F) (M1.view.loc (c : Thread nD τ))) (f2 : Buf (Elt F) (M2.view.loc (c : Thread nD τ)))
    (E : Set ℕ) (Q : PUnit → sProp 𝕄) :
    iprop(pt c M0 f0 ∗ pt c M1 f1 ∗ pt c M2 f2
        ∗ (iprop(pt c M0 f0 ∗ pt c M1 f1 ∗ (∃ W, ⌜M2.view.read (Elt F) W = decodeBlock (M0.view.read (Elt F) f0) (M1.view.read (Elt F) f1)⌝ ∗ pt c M2 W)) -∗ Q ⟨⟩))
      ⊢ wp frame (wpE (defs₀ (F := F)) Variants.none c none) E (cc2__decode_kernel M0 h0 M1 h1 M2 h2) Q := by
  simp only [cc2__decode_kernel_eq_skeleton]; unfold cc2__decode_kernel_skel
  simp only [k2_part1_eq_skeleton, k2_part2_eq_skeleton, k2_part3_eq_skeleton, k2_part4_eq_skeleton, k2_part5_eq_skeleton]
  unfold k2_part1_skel k2_part2_skel k2_part3_skel k2_part4_skel k2_part5_skel
  iintro ⟨H0, H1, H2, Hk⟩
  sl_exec!
  sl_step
  iapply Hk
  isplitl [H0]; · iexact H0
  isplitl [H1]; · iexact H1
  iexists _; isplitr; swap; (· iexact H2)
  ipureintro
  unfold decode_run.sl.H2_1
  refine (View.read_writes_full _ _ _ _ _).trans ?_
  unfold decodeBlock
  rw [View.readAt_full, View.readAt_full]
  rfl

end Cert.Proof.KernelIdeal

end
-- ==== Proof.KernelIdeal.Regions.lean ====
/- The two pipelined calls of @main: their proof data from the buffers at their entry, their bodies' obligations, and each as a region
   of @main between two states of the TensorCore, beside what it owes the SparseCore call. -/
module

public import proofs.«01_k».proof.Proof.KernelIdeal.Decode
public import Idealize.ShloMosaic.Lib.Pipeline.FrameTail

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F]

local notation "𝕄" => MT nD τ sig (HIx 1) (Elt F) ℕ UU ℕ

/-- A whole memref owned at contents `X` is its buffer held at something the view reads as `X`. -/
theorem owns_pt (c : Dev nD) {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

variable (n : ℕ) (V : (c : Dev nD) → Valuation τ sig (Elt F))

/-- The wait records a call of @main may find before SparseCore call `n`. -/
def recs (c : Dev nD) : Set (SemLoc sig × HIx 1) := {p | (K (F := F)).lev (T c, p.1) p.2 ≤ 8 * n}

/-- The mask call's data: its input array as found; after each point the input window as fetched and the output window `maskBlock` of it. -/
def dat0 (c : Dev nD) : Dat τ (Elt F) (HIx 1) ℕ UU ℕ cfg0 c where
  A w := V c (Pipeline.arrRef spec0 w)
  after w t := match w with
    | ⟨0, _⟩ => ((cfg0.win 0).blk t).view.read (Elt F) (V c main_v4)
    | ⟨1, _⟩ => maskBlock (((cfg0.win 0).blk t).view.read (Elt F) (V c main_v4))
  Φ _ := Pipeline.scopedRest (Ix := HIx 1) (Name := ℕ) (U := UU) (Lvl := ℕ) (Val := Elt F) spec0 c
  q _ := fullShare
  owed _ := (K (F := F)).Otc c n
  recorded _ := recs (F := F) n c

/-- The decode call's data: its two input arrays as found; after its one point the output window `decodeBlock` of them. -/
def dat2 (c : Dev nD) : Dat τ (Elt F) (HIx 1) ℕ UU ℕ cfg2 c where
  A w := V c (Pipeline.arrRef spec2 w)
  after w t := match w with
    | ⟨0, _⟩ => ((cfg2.win 0).blk t).view.read (Elt F) (V c main_v27)
    | ⟨1, _⟩ => ((cfg2.win 1).blk t).view.read (Elt F) (V c main_v29)
    | ⟨2, _⟩ => decodeBlock (((cfg2.win 0).blk t).view.read (Elt F) (V c main_v27)) (((cfg2.win 1).blk t).view.read (Elt F) (V c main_v29))
  Φ _ := Pipeline.scopedRest (Ix := HIx 1) (Name := ℕ) (U := UU) (Lvl := ℕ) (Val := Elt F) spec2 c
  q _ := fullShare
  owed _ := (K (F := F)).Otc c n
  recorded _ := recs (F := F) n c

/-- The mask call's obligation: the body at every point, from the windows to the windows. -/
theorem body0 (c : Dev nD) : BodyObligation (dat0 n V c) (defs₀ (F := F)) 𝒱₀ none Set.univ := fun t => by
  rw [bigSep_W0, bigSep_W0]
  rw [show (dat0 n V c).Φ t.castSucc = Pipeline.scopedRest (Ix := HIx 1) (Name := ℕ) (U := UU) (Lvl := ℕ) (Val := Elt F) spec0 c from rfl,
    show (dat0 n V c).Φ t.succ = Pipeline.scopedRest (Ix := HIx 1) (Name := ℕ) (U := UU) (Lvl := ℕ) (Val := Elt F) spec0 c from rfl,
    show (dat0 n V c).owesAt none t.succ = (dat0 n V c).owesAt none t.castSucc from rfl, scopedRest0_eq]
  simp only [owns_pt c (stage_whole0 0 (cfg0.slots t 0)), owns_pt c (stage_whole0 1 (cfg0.slots t 1))]
  iintro ⟨⟨⟨%fs, Hs⟩, Hrest⟩, Howes, ⟨%d0, %f0, %hf0, H0⟩, ⟨%d1, %f1, -, H1⟩⟩
  have hb : (dat0 n V c).before 0 t d0 = ((cfg0.win 0).blk t).view.read (Elt F) (V c main_v4) := by
    unfold Dat.before; rw [if_pos (fetch0_0 t)]; rfl
  rw [hb] at hf0
  iapply (mask_run c (grid0.coords t) (win0_0.stage (cfg0.slots t 0)) (hstage0_0 ((cfg0.slots t 0).cast nbuf0_0)) (win0_1.stage (cfg0.slots t 1)) (hstage0_1 ((cfg0.slots t 1).cast nbuf0_1))
    f0 f1 fs Set.univ _)
  isplitl [H0]; · iexact H0
  isplitl [H1]; · iexact H1
  isplitl [Hs]; · iexact Hs
  iintro ⟨H0, ⟨%W, %hW, H1⟩, ⟨%g, Hs⟩⟩
  isplitl [Hs Hrest]
  · isplitl [Hs]; · iexists g; iexact Hs
    iexact Hrest
  isplitl [Howes]; · iexact Howes
  isplitl [H0]
  · iexists f0; isplitr; swap; (· iexact H0)
    ipureintro; exact hf0
  iexists W; isplitr; swap; (· iexact H1)
  ipureintro; exact hW.trans (congrArg maskBlock hf0)

/-- The decode call's obligation. -/
theorem body2 (c : Dev nD) : BodyObligation (dat2 n V c) (defs₀ (F := F)) 𝒱₀ none Set.univ := fun t => by
  rw [bigSep_W2, bigSep_W2]
  rw [show (dat2 n V c).Φ t.castSucc = Pipeline.scopedRest (Ix := HIx 1) (Name := ℕ) (U := UU) (Lvl := ℕ) (Val := Elt F) spec2 c from rfl,
    show (dat2 n V c).Φ t.succ = Pipeline.scopedRest (Ix := HIx 1) (Name := ℕ) (U := UU) (Lvl := ℕ) (Val := Elt F) spec2 c from rfl,
    show (dat2 n V c).owesAt none t.succ = (dat2 n V c).owesAt none t.castSucc from rfl]
  simp only [owns_pt c (stage_whole2 0 (cfg2.slots t 0)), owns_pt c (stage_whole2 1 (cfg2.slots t 1)), owns_pt c (stage_whole2 2 (cfg2.slots t 2))]
  iintro ⟨Hrest, Howes, ⟨%d0, %f0, %hf0, H0⟩, ⟨%d1, %f1, %hf1, H1⟩, ⟨%d2, %f2, -, H2⟩⟩
  have hb0 : (dat2 n V c).before 0 t d0 = ((cfg2.win 0).blk t).view.read (Elt F) (V c main_v27) := by
    unfold Dat.before; rw [if_pos (fetch2_0 t)]; rfl
  have hb1 : (dat2 n V c).before 1 t d1 = ((cfg2.win 1).blk t).view.read (Elt F) (V c main_v29) := by
    unfold Dat.before; rw [if_pos (fetch2_1 t)]; rfl
  rw [hb0] at hf0; rw [hb1] at hf1
  iapply (decode_run c (win2_0.stage (cfg2.slots t 0)) (hstage2_0 0) (win2_1.stage (cfg2.slots t 1)) (hstage2_1 0) (win2_2.stage (cfg2.slots t 2)) (hstage2_2 0)
    f0 f1 f2 Set.univ _)
  isplitl [H0]; · iexact H0
  isplitl [H1]; · iexact H1
  isplitl [H2]; · iexact H2
  iintro ⟨H0, H1, ⟨%W, %hW, H2⟩⟩
  isplitl [Hrest]; · iexact Hrest
  isplitl [Howes]; · iexact Howes
  isplitl [H0]
  · iexists f0; isplitr; swap; (· iexact H0)
    ipureintro; exact hf0
  isplitl [H1]
  · iexists f1; isplitr; swap; (· iexact H1)
    ipureintro; exact hf1
  iexists W; isplitr; swap; (· iexact H2)
  ipureintro; exact hW.trans (by rw [hf0, hf1]; rfl)

/-- The tables the pipelines prefetch: none. -/
abbrev adm : (p : Fin 2) → (pcfgs (F := F) p).Adm := fun p => (cfgs p).toPCfg_adm

/-- Both calls' data, as the library takes them: a family over the pipelines. -/
def dats (c : Dev nD) : (p : Fin 2) → Dat τ (Elt F) (HIx 1) ℕ UU ℕ (Pipeline.pin (pcfgs (F := F)) adm p) c
  | ⟨0, _⟩ => dat0 n V c
  | ⟨1, _⟩ => dat2 n V c

/-- What the TensorCore holds of the SparseCore handshakes beside what it owes. -/
def hsRest (c : Dev nD) : sProp 𝕄 :=
  iprop(atPos EH ((K (F := F)).doneCell c) n ∅ 0 ∗ reached EH ((K (F := F)).doneCell c) n
    ∗ (bigSep Finset.univ fun s : Fin τ.nSC => reached EH ((K (F := F)).startCell c s) ((K (F := F)).sRank s n))
    ∗ bigSep (SparseCore.Cfg.callsFrom n) fun q => bigSep Finset.univ fun s : Fin ((K (F := F)).nCore q) =>
        iprop(dutyTok EH ((K (F := F)).startCell c ((K (F := F)).core q s)) ((K (F := F)).sRank ((K (F := F)).core q s) q.val) 0 ∗ cred (tallyAt ((K (F := F)).doneCell c) (some q) 1)))

theorem tcSt_eq (c : Dev nD) : ((K (F := F)).tcSt EH c n : sProp 𝕄)
    = iprop((∃ W, ⌜(K (F := F)).WBelow (T c) W (8 * n)⌝ ∗ owes (T c) ((K (F := F)).Otc c n) W) ∗ hsRest (F := F) n c) := rfl

/-- A wait of a pipeline's own, at the lowest level, stays below what the core still owes the SparseCores. -/
theorem waits_ok (p : Fin 2) (c : Dev nD) :
    (levAts (K (F := F)).L (K (F := F)).lev : sProp 𝕄) ⊢ Pipeline.cellsWaits (Pipeline.pin (pcfgs (F := F)) adm) (fun p c => dats n V c p) none p c := by
  refine Pipeline.cellsWaits_of_cut (Pipeline.pin (pcfgs (F := F)) adm) (fun p c => dats n V c p) none p c 0 ((K (F := F)).Otc c n) ?_ (fun _ _ => Finset.mem_univ _) (fun _ _ => le_refl _) ?_
  · intro t; match p with
    | ⟨0, _⟩ => rfl
    | ⟨1, _⟩ => rfl
  · intro g i h
    exact ⟨Finset.mem_univ _, lt_of_lt_of_le (Nat.succ_pos _) (SparseCore.Cfg.lev_of_Otc_pos h)⟩

set_option backward.isDefEq.respectTransparency.types false in
/-- A pipelined call as a region of @main: from every unscoped buffer at `V` to every unscoped buffer at what the pipeline leaves, the SparseCore handshakes' state untouched. -/
def region (p : Fin 2) (launch : Pipeline.LaunchFacts (nD := nD) (τ := τ) cfgs p)
    (hA : ∀ c w, (dats n V c p).A w = V c (Pipeline.arrRef (cfgs p).spec w))
    (hq : ∀ c w, (dats n V c p).q w = fullShare)
    (hΦ : ∀ c t, (dats n V c p).Φ t = Pipeline.scopedRest (Ix := HIx 1) (Name := ℕ) (U := UU) (Lvl := ℕ) (Val := Elt F) (cfgs p).spec c)
    (ho : ∀ c t, (dats n V c p).owed t = (K (F := F)).Otc c n) (hr : ∀ c t, (dats n V c p).recorded t = recs (F := F) n c)
    (hbody : ∀ c, BodyObligation (dats n V c p) (defs₀ (F := F)) 𝒱₀ none Set.univ) :
    Pipeline.RegionSeg (pcfgs (F := F)) adm (fun p c => dats n V c p) none defs₀ 𝒱₀ (K (F := F)).L (K (F := F)).lev p where
  win := launch.win.to₀
  block_pos := launch.block_pos
  stage_whole := launch.stage_whole
  K := PEmpty
  osem k := k.elim
  ho := Pipeline.OwnSemFacts.none _
  hbody c := (hbody c).loose
  hwaits c := waits_ok n V p c
  pre c := iprop(StableHlo.held (c : Thread nD τ) (ucRefs τ sig) (V c) ∗ (K (F := F)).tcSt EH c n)
  post c := iprop(StableHlo.held (c : Thread nD τ) (ucRefs τ sig) (Pipeline.afterRegion (cfg := cfgs p) (dats n V c p) (V c)) ∗ (K (F := F)).tcSt EH c n)
  X _ := BI.emp
  Y _ := BI.emp
  Z c := iprop(Pipeline.unscopedRest (Ix := HIx 1) (Name := ℕ) (U := UU) (Lvl := ℕ) (cfgs p).spec c (fun b => V c b) ∗ hsRest (F := F) n c)
  hentry c := by
    rw [Pipeline.ownSems0_none, tcSt_eq,
      show StableHlo.held (c : Thread nD τ) (ucRefs τ sig) (V c) = (unscopedBufs c (fun b => V c b) : sProp 𝕄) from (Pipeline.unscopedBufs_held c (V c)).symm]
    have hsplit := Pipeline.arrays_of_unscopedBufs (p := p) (pcfgs (F := F)) adm (fun p c => dats n V c p) launch.win launch.arr_whole c
      ((dats n V c p).share_full (hq c)) (fun b => V c b) (fun w => hA c w)
    iintro ⟨⟨Hub, HO, HR⟩, -, -⟩
    ihave H := hsplit $$ Hub
    icases H with ⟨Ha, Hrest⟩
    imodintro
    isplitl [Ha]; · iexact Ha
    isplitr; · unfold Pipeline.prefHeld; iapply (show (BI.emp : sProp 𝕄) ⊢ bigSep (Finset.univ : Finset (Fin 0)) _ from by
            rw [show (Finset.univ : Finset (Fin 0)) = ∅ from rfl, BI.bigSep_empty]); iempintro
    isplitl [HO]
    · unfold Pipeline.Dat.owesAt Pipeline.owesWithin Pipeline.Dat.bound
      rw [ho c, hr c]
      icases HO with ⟨%W, %hW, HO⟩; iexists W; isplitr; · ipureintro; exact fun p hp => Or.inl (hW p hp)
      iexact HO
    isplitr; · iempintro
    isplitl [Hrest]; · iexact Hrest
    iexact HR
  hin c := by
    rw [hΦ c]
    iintro ⟨-, -, Hr⟩; iexact Hr
  hout c := by
    rw [Pipeline.ownSems0_none, hΦ c]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) launch.win launch.arr_whole c
      (fun p c => dats n V c p) ((dats n V c p).share_full (hq c)) (fun b => V c b) (fun b => Pipeline.afterRegion (cfg := cfgs p) (dats n V c p) (V c) b) ((dats n V c p).arrAt · (cfgs p).N)
      (fun w => (Pipeline.afterRegion_arr (cfg := cfgs p) (dats n V c p) (V c) launch.win.arr_inj w).symm)
      (fun b hb => Pipeline.afterRegion_of_not_arr (cfg := cfgs p) (dats n V c p) (V c) fun w h => hb (h ▸ Finset.mem_image.mpr ⟨w, Finset.mem_univ _, rfl⟩))
    rw [tcSt_eq, show StableHlo.held (c : Thread nD τ) (ucRefs τ sig) (Pipeline.afterRegion (cfg := cfgs p) (dats n V c p) (V c))
      = (unscopedBufs c (fun b => Pipeline.afterRegion (cfg := cfgs p) (dats n V c p) (V c) b) : sProp 𝕄) from (Pipeline.unscopedBufs_held c _).symm]
    iintro ⟨Ha, HO, -, Hrest, HR⟩
    imodintro
    isplitl [Ha Hrest]
    · iapply hjoin; isplitl [Ha] <;> iassumption
    isplitl [HO]
    · unfold Pipeline.Dat.owesAt Pipeline.owesWithin Pipeline.Dat.bound
      rw [ho c, hr c]
      icases HO with ⟨%W, %hW, HO⟩; iexists W; isplitr; swap; (· iexact HO)
      ipureintro
      intro p hp
      rcases hW hp with h | ⟨w, s, rfl⟩
      · exact h
      · exact Nat.zero_le _
    iexact HR

/-- The mask call's region. -/
def region0 := region n V 0 launch0 (fun _ _ => rfl) (fun _ _ => rfl) (fun _ _ => rfl) (fun _ _ => rfl) (fun _ _ => rfl) (fun c => body0 n V c)
/-- The decode call's region. -/
def region2 := region n V 1 launch2 (fun _ _ => rfl) (fun _ _ => rfl) (fun _ _ => rfl) (fun _ _ => rfl) (fun _ _ => rfl) (fun c => body2 n V c)

end Cert.Proof.KernelIdeal

end
-- ==== Proof.KernelIdeal.Host.lean ====
/- @main of the kernel as straight lines of host operations around its three calls. -/
module

public import proofs.«01_k».proof.Proof.KernelIdeal.Regions
public import Idealize.ShloMosaic.Lib.StableHlo.RunHlo

@[expose] public section

set_option maxRecDepth 8192

noncomputable section
namespace Cert.Proof.KernelIdeal

open Cert.KernelIdeal Cert.KernelIdeal.Gen
open Idealize.ShloMosaic
open Idealize.ShloMosaic.TcCoe Idealize.ShloMosaic.Tactic
open Idealize.SL.Sem

variable {F : FTy → Type} [FloatOps F]

/-- The operations before the mask call. -/
def opsA : List (HloOp τ sig (Elt F)) :=
  [ StableHlo.unary main_arg0 main_v0 ((extractStridedSlice S4x512x512x1 ![0, 0, 0, 1] · slices_S4x512x512x32_S4x512x512x1_0_0_0_1) : (⟨S4x512x512x32, .f32⟩ : BufTy).Contents (Elt F) → (⟨S4x512x512x1, .f32⟩ : BufTy).Contents (Elt F)),
    StableHlo.reshape main_v0 main_v1 (rfl : (.f32 : EltTy) = .f32) shapeCasts_S4x512x512x1_S4x512x512,
    StableHlo.unary main_arg0 main_v2 ((extractStridedSlice S4x512x512x1 ![0, 0, 0, 0] · slices_S4x512x512x32_S4x512x512x1_0_0_0_0) : (⟨S4x512x512x32, .f32⟩ : BufTy).Contents (Elt F) → (⟨S4x512x512x1, .f32⟩ : BufTy).Contents (Elt F)),
    StableHlo.reshape main_v2 main_v3 (rfl : (.f32 : EltTy) = .f32) shapeCasts_S4x512x512x1_S4x512x512,
    StableHlo.binary main_v1 main_v3 main_v4 (subf : (⟨S4x512x512, .f32⟩ : BufTy).Contents (Elt F) → (⟨S4x512x512, .f32⟩ : BufTy).Contents (Elt F) → (⟨S4x512x512, .f32⟩ : BufTy).Contents (Elt F)) ]

/-- The two rounds of top-k: of each of 64 strips, then of what those give. -/
def opsB1 : List (HloOp τ sig (Elt F)) :=
  [ StableHlo.reshape main_v5 main_v6 (rfl : (.f32 : EltTy) = .f32) shapeCasts_S4x512x512_S64x16384,
    StableHlo.unary main_v6 main_values ((fun x => (Host.topK S64x1000 1 (FloatOps.cmpfTotal .gt) x sliceFits_S64x16384_S64x1000).1) : (⟨S64x16384, .f32⟩ : BufTy).Contents (Elt F) → (⟨S64x1000, .f32⟩ : BufTy).Contents (Elt F)),
    StableHlo.unary main_v6 main_indices ((fun x => (Host.topK S64x1000 1 (FloatOps.cmpfTotal .gt) x sliceFits_S64x16384_S64x1000).2) : (⟨S64x16384, .f32⟩ : BufTy).Contents (Elt F) → (⟨S64x1000, .i32⟩ : BufTy).Contents (Elt F)),
    StableHlo.reshape main_indices main_v7 (rfl : (.i32 : EltTy) = .i32) shapeCasts_S64x1000_S4x16x1000,
    StableHlo.nullary main_v8 (iotaInDim S16 32 0),
    StableHlo.nullary main_c (constantI S_ 32 16384#32),
    StableHlo.unary main_c main_v9 (broadcastInDim S16 ![] bcast_S_S16 : (⟨S_, .i32⟩ : BufTy).Contents (Elt F) → (⟨S16, .i32⟩ : BufTy).Contents (Elt F)),
    StableHlo.binary main_v8 main_v9 main_v10 (muli : (⟨S16, .i32⟩ : BufTy).Contents (Elt F) → (⟨S16, .i32⟩ : BufTy).Contents (Elt F) → (⟨S16, .i32⟩ : BufTy).Contents (Elt F)),
    StableHlo.unary main_v10 main_v11 (broadcastInDim S1x16x1 ![1] bcast_S16_S1x16x1_1 : (⟨S16, .i32⟩ : BufTy).Contents (Elt F) → (⟨S1x16x1, .i32⟩ : BufTy).Contents (Elt F)),
    StableHlo.unary main_v11 main_v12 (broadcastInDim S4x16x1000 ![0, 1, 2] bcast_S1x16x1_S4x16x1000_0_1_2 : (⟨S1x16x1, .i32⟩ : BufTy).Contents (Elt F) → (⟨S4x16x1000, .i32⟩ : BufTy).Contents (Elt F)),
    StableHlo.binary main_v7 main_v12 main_v13 (addi : (⟨S4x16x1000, .i32⟩ : BufTy).Contents (Elt F) → (⟨S4x16x1000, .i32⟩ : BufTy).Contents (Elt F) → (⟨S4x16x1000, .i32⟩ : BufTy).Contents (Elt F)),
    StableHlo.reshape main_v13 main_v14 (rfl : (.i32 : EltTy) = .i32) shapeCasts_S4x16x1000_S4x16000,
    StableHlo.reshape main_values main_v15 (rfl : (.f32 : EltTy) = .f32) shapeCasts_S64x1000_S4x16000,
    StableHlo.unary main_v15 main_values_0 ((fun x => (Host.topK S4x1000 1 (FloatOps.cmpfTotal .gt) x sliceFits_S4x16000_S4x1000).1) : (⟨S4x16000, .f32⟩ : BufTy).Contents (Elt F) → (⟨S4x1000, .f32⟩ : BufTy).Contents (Elt F)),
    StableHlo.unary main_v15 main_indices_1 ((fun x => (Host.topK S4x1000 1 (FloatOps.cmpfTotal .gt) x sliceFits_S4x16000_S4x1000).2) : (⟨S4x16000, .f32⟩ : BufTy).Contents (Elt F) → (⟨S4x1000, .i32⟩ : BufTy).Contents (Elt F)) ]

/-- The flat index within an image of each of the 1000 peaks. -/
def opsB2 : List (HloOp τ sig (Elt F)) :=
  [ StableHlo.nullary main_call0_c (constantI S_ 32 0#32),
    StableHlo.unary main_call0_c main_call0_v0 (broadcastInDim S4x1000 ![] bcast_S_S4x1000 : (⟨S_, .i32⟩ : BufTy).Contents (Elt F) → (⟨S4x1000, .i32⟩ : BufTy).Contents (Elt F)),
    StableHlo.binary main_indices_1 main_call0_v0 main_call0_v1 (cmpi .slt : (⟨S4x1000, .i32⟩ : BufTy).Contents (Elt F) → (⟨S4x1000, .i32⟩ : BufTy).Contents (Elt F) → (⟨S4x1000, .i1⟩ : BufTy).Contents (Elt F)),
    StableHlo.nullary main_call0_c_0 (constantI S_ 32 16000#32),
    StableHlo.unary main_call0_c_0 main_call0_v2 (broadcastInDim S4x1000 ![] bcast_S_S4x1000 : (⟨S_, .i32⟩ : BufTy).Contents (Elt F) → (⟨S4x1000, .i32⟩ : BufTy).Contents (Elt F)),
    StableHlo.binary main_indices_1 main_call0_v2 main_call0_v3 (addi : (⟨S4x1000, .i32⟩ : BufTy).Contents (Elt F) → (⟨S4x1000, .i32⟩ : BufTy).Contents (Elt F) → (⟨S4x1000, .i32⟩ : BufTy).Contents (Elt F)),
    StableHlo.ternary main_call0_v1 main_call0_v3 main_indices_1 main_call0_v4 (select : (⟨S4x1000, .i1⟩ : BufTy).Contents (Elt F) → (⟨S4x1000, .i32⟩ : BufTy).Contents (Elt F) → (⟨S4x1000, .i32⟩ : BufTy).Contents (Elt F) → (⟨S4x1000, .i32⟩ : BufTy).Contents (Elt F)),
    StableHlo.reshape main_call0_v4 main_call0_v5 (rfl : (.i32 : EltTy) = .i32) shapeCasts_S4x1000_S4x1000x1,
    StableHlo.nullary main_call0_c_1 (constantI S1 32 15999#32),
    StableHlo.nullary main_call0_c_2 (constantI S_ 32 0#32),
    StableHlo.unary main_call0_c_2 main_call0_v6 (broadcastInDim S4x1000x1 ![] bcast_S_S4x1000x1 : (⟨S_, .i32⟩ : BufTy).Contents (Elt F) → (⟨S4x1000x1, .i32⟩ : BufTy).Contents (Elt F)),
    StableHlo.binary main_call0_v5 main_call0_v6 main_call0_v7 (cmpi .sge : (⟨S4x1000x1, .i32⟩ : BufTy).Contents (Elt F) → (⟨S4x1000x1, .i32⟩ : BufTy).Contents (Elt F) → (⟨S4x1000x1, .i1⟩ : BufTy).Contents (Elt F)),
    StableHlo.unary main_call0_c_1 main_call0_v8 (broadcastInDim S1x1x1 ![2] bcast_S1_S1x1x1_2 : (⟨S1, .i32⟩ : BufTy).Contents (Elt F) → (⟨S1x1x1, .i32⟩ : BufTy).Contents (Elt F)),
    StableHlo.unary main_call0_v8 main_call0_v9 (broadcastInDim S4x1000x1 ![0, 1, 2] bcast_S1x1x1_S4x1000x1_0_1_2 : (⟨S1x1x1, .i32⟩ : BufTy).Contents (Elt F) → (⟨S4x1000x1, .i32⟩ : BufTy).Contents (Elt F)),
    StableHlo.binary main_call0_v5 main_call0_v9 main_call0_v10 (cmpi .sle : (⟨S4x1000x1, .i32⟩ : BufTy).Contents (Elt F) → (⟨S4x1000x1, .i32⟩ : BufTy).Contents (Elt F) → (⟨S4x1000x1, .i1⟩ : BufTy).Contents (Elt F)),
    StableHlo.binary main_call0_v7 main_call0_v10 main_call0_v11 (andi : (⟨S4x1000x1, .i1⟩ : BufTy).Contents (Elt F) → (⟨S4x1000x1, .i1⟩ : BufTy).Contents (Elt F) → (⟨S4x1000x1, .i1⟩ : BufTy).Contents (Elt F)),
    StableHlo.nullary main_call0_c_3 (constantI S_ 1 1#1),
    StableHlo.binary main_call0_v11 main_call0_c_3 main_call0_v12 ((fun x v => Host.reduce IntOp.andi x v reducesTo_S4x1000x1_S4x1000_d2 h_S_) : (⟨S4x1000x1, .i1⟩ : BufTy).Contents (Elt F) → (⟨S_, .i1⟩ : BufTy).Contents (Elt F) → (⟨S4x1000, .i1⟩ : BufTy).Contents (Elt F)),
    StableHlo.binary main_v14 main_call0_v5 main_call0_v13 ((fun x i => Host.gather gather_S4x16000_S4x1000x1_S4x1000_n_1_0_0_1_2_11 x i) : (⟨S4x16000, .i32⟩ : BufTy).Contents (Elt F) → (⟨S4x1000x1, .i32⟩ : BufTy).Contents (Elt F) → (⟨S4x1000, .i32⟩ : BufTy).Contents (Elt F)),
    StableHlo.nullary main_call0_c_4 (constantI S_ 32 2147483648#32),
    StableHlo.unary main_call0_c_4 main_call0_v14 (broadcastInDim S4x1000 ![] bcast_S_S4x1000 : (⟨S_, .i32⟩ : BufTy).Contents (Elt F) → (⟨S4x1000, .i32⟩ : BufTy).Contents (Elt F)),
    StableHlo.ternary main_call0_v12 main_call0_v13 main_call0_v14 main_v16 (select : (⟨S4x1000, .i1⟩ : BufTy).Contents (Elt F) → (⟨S4x1000, .i32⟩ : BufTy).Contents (Elt F) → (⟨S4x1000, .i32⟩ : BufTy).Contents (Elt F) → (⟨S4x1000, .i32⟩ : BufTy).Contents (Elt F)) ]

/-- The flat index over the batch of each padded peak. -/
def opsB3 : List (HloOp τ sig (Elt F)) :=
  [ StableHlo.nullary main_c_2 (constantI S_ 32 0#32),
    StableHlo.unary main_c_2 main_call1_v0 (id : (⟨S_, .i32⟩ : BufTy).Contents (Elt F) → (⟨S_, .i32⟩ : BufTy).Contents (Elt F)),
    StableHlo.binary main_v16 main_call1_v0 main_v17 ((fun x v => pad S4x1024 ![0, 0] ![0, 24] ![0, 0] x v pads_S4x1000_S4x1024_000_0240 h_S_) : (⟨S4x1000, .i32⟩ : BufTy).Contents (Elt F) → (⟨S_, .i32⟩ : BufTy).Contents (Elt F) → (⟨S4x1024, .i32⟩ : BufTy).Contents (Elt F)),
    StableHlo.nullary main_v18 (iotaInDim S4 32 0),
    StableHlo.nullary main_c_3 (constantI S_ 32 262144#32),
    StableHlo.unary main_c_3 main_v19 (broadcastInDim S4 ![] bcast_S_S4 : (⟨S_, .i32⟩ : BufTy).Contents (Elt F) → (⟨S4, .i32⟩ : BufTy).Contents (Elt F)),
    StableHlo.binary main_v18 main_v19 main_v20 (muli : (⟨S4, .i32⟩ : BufTy).Contents (Elt F) → (⟨S4, .i32⟩ : BufTy).Contents (Elt F) → (⟨S4, .i32⟩ : BufTy).Contents (Elt F)),
    StableHlo.unary main_v20 main_v21 (broadcastInDim S4x1 ![0] bcast_S4_S4x1_0 : (⟨S4, .i32⟩ : BufTy).Contents (Elt F) → (⟨S4x1, .i32⟩ : BufTy).Contents (Elt F)),
    StableHlo.unary main_v21 main_v22 (broadcastInDim S4x1024 ![0, 1] bcast_S4x1_S4x1024_0_1 : (⟨S4x1, .i32⟩ : BufTy).Contents (Elt F) → (⟨S4x1024, .i32⟩ : BufTy).Contents (Elt F)),
    StableHlo.binary main_v17 main_v22 main_v23 (addi : (⟨S4x1024, .i32⟩ : BufTy).Contents (Elt F) → (⟨S4x1024, .i32⟩ : BufTy).Contents (Elt F) → (⟨S4x1024, .i32⟩ : BufTy).Contents (Elt F)),
    StableHlo.reshape main_v23 main_v24 (rfl : (.i32 : EltTy) = .i32) shapeCasts_S4x1024_S4096 ]

/-- The table row of each padded peak, and the table. -/
def opsB4 : List (HloOp τ sig (Elt F)) :=
  [ StableHlo.nullary main_c_4 (constantI S_ 32 4#32),
    StableHlo.unary main_c_4 main_call2_v0 (id : (⟨S_, .i32⟩ : BufTy).Contents (Elt F) → (⟨S_, .i32⟩ : BufTy).Contents (Elt F)),
    StableHlo.unary main_call2_v0 main_call2_v1 (broadcastInDim S4096 ![] bcast_S_S4096 : (⟨S_, .i32⟩ : BufTy).Contents (Elt F) → (⟨S4096, .i32⟩ : BufTy).Contents (Elt F)),
    StableHlo.binary main_v24 main_call2_v1 main_call2_v2 (Host.divsi : (⟨S4096, .i32⟩ : BufTy).Contents (Elt F) → (⟨S4096, .i32⟩ : BufTy).Contents (Elt F) → (⟨S4096, .i32⟩ : BufTy).Contents (Elt F)),
    StableHlo.unary main_v24 main_call2_v3 (signi : (⟨S4096, .i32⟩ : BufTy).Contents (Elt F) → (⟨S4096, .i32⟩ : BufTy).Contents (Elt F)),
    StableHlo.unary main_call2_v0 main_call2_v4 (signi : (⟨S_, .i32⟩ : BufTy).Contents (Elt F) → (⟨S_, .i32⟩ : BufTy).Contents (Elt F)),
    StableHlo.unary main_call2_v4 main_call2_v5 (broadcastInDim S4096 ![] bcast_S_S4096 : (⟨S_, .i32⟩ : BufTy).Contents (Elt F) → (⟨S4096, .i32⟩ : BufTy).Contents (Elt F)),
    StableHlo.binary main_call2_v3 main_call2_v5 main_call2_v6 (cmpi .ne : (⟨S4096, .i32⟩ : BufTy).Contents (Elt F) → (⟨S4096, .i32⟩ : BufTy).Contents (Elt F) → (⟨S4096, .i1⟩ : BufTy).Contents (Elt F)),
    StableHlo.unary main_call2_v0 main_call2_v7 (broadcastInDim S4096 ![] bcast_S_S4096 : (⟨S_, .i32⟩ : BufTy).Contents (Elt F) → (⟨S4096, .i32⟩ : BufTy).Contents (Elt F)),
    StableHlo.binary main_v24 main_call2_v7 main_call2_v8 (Host.remsi : (⟨S4096, .i32⟩ : BufTy).Contents (Elt F) → (⟨S4096, .i32⟩ : BufTy).Contents (Elt F) → (⟨S4096, .i32⟩ : BufTy).Contents (Elt F)),
    StableHlo.nullary main_call2_c (constantI S_ 32 0#32),
    StableHlo.unary main_call2_c main_call2_v9 (broadcastInDim S4096 ![] bcast_S_S4096 : (⟨S_, .i32⟩ : BufTy).Contents (Elt F) → (⟨S4096, .i32⟩ : BufTy).Contents (Elt F)),
    StableHlo.binary main_call2_v8 main_call2_v9 main_call2_v10 (cmpi .ne : (⟨S4096, .i32⟩ : BufTy).Contents (Elt F) → (⟨S4096, .i32⟩ : BufTy).Contents (Elt F) → (⟨S4096, .i1⟩ : BufTy).Contents (Elt F)),
    StableHlo.binary main_call2_v6 main_call2_v10 main_call2_v11 (andi : (⟨S4096, .i1⟩ : BufTy).Contents (Elt F) → (⟨S4096, .i1⟩ : BufTy).Contents (Elt F) → (⟨S4096, .i1⟩ : BufTy).Contents (Elt F)),
    StableHlo.nullary main_call2_c_0 (constantI S_ 32 1#32),
    StableHlo.unary main_call2_c_0 main_call2_v12 (broadcastInDim S4096 ![] bcast_S_S4096 : (⟨S_, .i32⟩ : BufTy).Contents (Elt F) → (⟨S4096, .i32⟩ : BufTy).Contents (Elt F)),
    StableHlo.binary main_call2_v2 main_call2_v12 main_call2_v13 (subi : (⟨S4096, .i32⟩ : BufTy).Contents (Elt F) → (⟨S4096, .i32⟩ : BufTy).Contents (Elt F) → (⟨S4096, .i32⟩ : BufTy).Contents (Elt F)),
    StableHlo.ternary main_call2_v11 main_call2_v13 main_call2_v2 main_v25 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.reshape main_arg0 main_v26 (rfl : (.f32 : EltTy) = .f32) shapeCasts_S4x512x512x32_S262144x128 ]

/-- The operations between the SparseCore call and the decode call. -/
def opsC : List (HloOp τ sig (Elt F)) :=
  [ StableHlo.unary main_v17 main_v28 (sitofp .f32 : (⟨S4x1024, .i32⟩ : BufTy).Contents (Elt F) → (⟨S4x1024, .f32⟩ : BufTy).Contents (Elt F)),
    StableHlo.reshape main_v28 main_v29 (rfl : (.f32 : EltTy) = .f32) shapeCasts_S4x1024_S4096x1 ]

/-- The operations after the decode call. -/
def opsD : List (HloOp τ sig (Elt F)) :=
  [ StableHlo.reshape main_v30 main_v31 (rfl : (.f32 : EltTy) = .f32) shapeCasts_S4096x8_S4x1024x8,
    StableHlo.unary main_v31 main_v32 ((extractStridedSlice S4x1000x7 ![0, 0, 0] · slices_S4x1024x8_S4x1000x7_0_0_0) : (⟨S4x1024x8, .f32⟩ : BufTy).Contents (Elt F) → (⟨S4x1000x7, .f32⟩ : BufTy).Contents (Elt F)),
    StableHlo.nullary main_c_5 (constantI S_ 32 1#32),
    StableHlo.unary main_c_5 main_v33 (broadcastInDim S4x1000 ![] bcast_S_S4x1000 : (⟨S_, .i32⟩ : BufTy).Contents (Elt F) → (⟨S4x1000, .i32⟩ : BufTy).Contents (Elt F)) ]

/-- The operations between the mask call and the SparseCore call. -/
def opsB : List (HloOp τ sig (Elt F)) := opsB1 ++ (opsB2 ++ (opsB3 ++ opsB4))

set_option maxHeartbeats 4000000 in
/-- @main is its four straight lines around its three calls. -/
theorem main_eq (d : Dev nD) : main (F := F) d = (StableHlo.seq opsA >>= fun _ =>
    Prog.lift (.customCall (SparseCore.inner (Pipeline.entry 0)) ()) >>= fun _ => StableHlo.seq opsB >>= fun _ =>
    sc.run d 0 >>= fun _ => StableHlo.seq opsC >>= fun _ =>
    Prog.lift (.customCall (SparseCore.inner (Pipeline.entry 1)) ()) >>= fun _ => StableHlo.seq opsD) := by
  simp only [main, opsA, opsB, opsB1, opsB2, opsB3, opsB4, opsC, opsD, List.cons_append, List.nil_append, StableHlo.seq, bind_assoc, pure_bind,
    fn_take_along_axis.body, fn_pad.body, fn_floor_divide.body, fn_where.body]
  rfl

theorem subA : ∀ op ∈ (opsA : List (HloOp τ sig (Elt F))), op.bufs ⊆ StableHlo.tcRefs τ sig ∧ op.fresh = ∅ := by
  unfold opsA
  simp only [List.forall_mem_cons, StableHlo.nullary_bufs_sub, StableHlo.unary_bufs_sub, StableHlo.binary_bufs_sub, StableHlo.ternary_bufs_sub, StableHlo.reshape_bufs_sub, true_and, List.not_mem_nil, false_imp_iff, implies_true, and_true]
  repeat' apply And.intro
  all_goals rfl

theorem subB1 : ∀ op ∈ (opsB1 : List (HloOp τ sig (Elt F))), op.bufs ⊆ StableHlo.tcRefs τ sig ∧ op.fresh = ∅ := by
  unfold opsB1
  simp only [List.forall_mem_cons, StableHlo.nullary_bufs_sub, StableHlo.unary_bufs_sub, StableHlo.binary_bufs_sub, StableHlo.ternary_bufs_sub, StableHlo.reshape_bufs_sub, true_and, List.not_mem_nil, false_imp_iff, implies_true, and_true]
  repeat' apply And.intro
  all_goals rfl

theorem subB2 : ∀ op ∈ (opsB2 : List (HloOp τ sig (Elt F))), op.bufs ⊆ StableHlo.tcRefs τ sig ∧ op.fresh = ∅ := by
  unfold opsB2
  simp only [List.forall_mem_cons, StableHlo.nullary_bufs_sub, StableHlo.unary_bufs_sub, StableHlo.binary_bufs_sub, StableHlo.ternary_bufs_sub, StableHlo.reshape_bufs_sub, true_and, List.not_mem_nil, false_imp_iff, implies_true, and_true]
  repeat' apply And.intro
  all_goals rfl

theorem subB3 : ∀ op ∈ (opsB3 : List (HloOp τ sig (Elt F))), op.bufs ⊆ StableHlo.tcRefs τ sig ∧ op.fresh = ∅ := by
  unfold opsB3
  simp only [List.forall_mem_cons, StableHlo.nullary_bufs_sub, StableHlo.unary_bufs_sub, StableHlo.binary_bufs_sub, StableHlo.ternary_bufs_sub, StableHlo.reshape_bufs_sub, true_and, List.not_mem_nil, false_imp_iff, implies_true, and_true]
  repeat' apply And.intro
  all_goals rfl

theorem subB4 : ∀ op ∈ (opsB4 : List (HloOp τ sig (Elt F))), op.bufs ⊆ StableHlo.tcRefs τ sig ∧ op.fresh = ∅ := by
  unfold opsB4
  simp only [List.forall_mem_cons, StableHlo.nullary_bufs_sub, StableHlo.unary_bufs_sub, StableHlo.binary_bufs_sub, StableHlo.ternary_bufs_sub, StableHlo.reshape_bufs_sub, true_and, List.not_mem_nil, false_imp_iff, implies_true, and_true]
  repeat' apply And.intro
  all_goals rfl

theorem subC : ∀ op ∈ (opsC : List (HloOp τ sig (Elt F))), op.bufs ⊆ StableHlo.tcRefs τ sig ∧ op.fresh = ∅ := by
  unfold opsC
  simp only [List.forall_mem_cons, StableHlo.nullary_bufs_sub, StableHlo.unary_bufs_sub, StableHlo.binary_bufs_sub, StableHlo.ternary_bufs_sub, StableHlo.reshape_bufs_sub, true_and, List.not_mem_nil, false_imp_iff, implies_true, and_true]
  repeat' apply And.intro
  all_goals rfl

theorem subD : ∀ op ∈ (opsD : List (HloOp τ sig (Elt F))), op.bufs ⊆ StableHlo.tcRefs τ sig ∧ op.fresh = ∅ := by
  unfold opsD
  simp only [List.forall_mem_cons, StableHlo.nullary_bufs_sub, StableHlo.unary_bufs_sub, StableHlo.binary_bufs_sub, StableHlo.ternary_bufs_sub, StableHlo.reshape_bufs_sub, true_and, List.not_mem_nil, false_imp_iff, implies_true, and_true]
  repeat' apply And.intro
  all_goals rfl

end Cert.Proof.KernelIdeal
-- ==== Proof.KernelIdeal.Chain.lean ====
/- The host operations between the mask call and the SparseCore call, as functions of arrays, and what each stretch of @main leaves. -/
module

public import proofs.«01_k».proof.Proof.KernelIdeal.Host

@[expose] public section

set_option maxRecDepth 8192

noncomputable section

namespace Cert.Proof.KernelIdeal

open Cert.KernelIdeal Cert.KernelIdeal.Gen
open Idealize.ShloMosaic
open Idealize.ShloMosaic.TcCoe Idealize.ShloMosaic.Tactic

variable {F : FTy → Type} [FloatOps F]

/-- The two top-k rounds' comparison. -/
abbrev gtF : F .f32 → F .f32 → BitVec 1 := FloatOps.cmpfTotal .gt

/-- The masked heat map as 64 strips. -/
def strips (s : FVec F S4x512x512 .f32) : FVec F S64x16384 .f32 := shapeCast S64x16384 s shapeCasts_S4x512x512_S64x16384
/-- Each strip's 1000 greatest, and where they lie in it. -/
def top1 (s : FVec F S4x512x512 .f32) : FVec F S64x1000 .f32 × IVec S64x1000 32 :=
  Host.topK S64x1000 1 (FloatOps.cmpfTotal .gt) (strips s) sliceFits_S64x16384_S64x1000
/-- An image's 16 lists of greatest ones, end to end. -/
def lists (v : FVec F S64x1000 .f32) : FVec F S4x16000 .f32 := shapeCast S4x16000 v shapeCasts_S64x1000_S4x16000
/-- The 1000 greatest of an image's lists, and where they lie in them. -/
def top2 (s : FVec F S4x512x512 .f32) : FVec F S4x1000 .f32 × IVec S4x1000 32 :=
  Host.topK S4x1000 1 (FloatOps.cmpfTotal .gt) (lists (top1 s).1) sliceFits_S4x16000_S4x1000

/-- Positions in a strip made positions in the image. -/
def within (i : IVec S64x1000 32) : IVec S4x16000 32 :=
  shapeCast S4x16000 (addi (shapeCast S4x16x1000 i shapeCasts_S64x1000_S4x16x1000)
    (broadcastInDim S4x16x1000 ![0, 1, 2] bcast_S1x16x1_S4x16x1000_0_1_2 (broadcastInDim S1x16x1 ![1] bcast_S16_S1x16x1_1
      (muli (iotaInDim S16 32 0) (broadcastInDim S16 ![] bcast_S_S16 (constantI S_ 32 16384#32)))))) shapeCasts_S4x16x1000_S4x16000

/-- Indices into the lists, those below zero counted from the end, as a column of start indices. -/
def wrapped (i : IVec S4x1000 32) : IVec S4x1000x1 32 :=
  shapeCast S4x1000x1 (select (cmpi .slt i (broadcastInDim S4x1000 ![] bcast_S_S4x1000 (constantI S_ 32 0#32)))
    (addi i (broadcastInDim S4x1000 ![] bcast_S_S4x1000 (constantI S_ 32 16000#32))) i) shapeCasts_S4x1000_S4x1000x1

/-- Which start indices name an entry. -/
def inside (w : IVec S4x1000x1 32) : IVec S4x1000 1 :=
  Host.reduce IntOp.andi (andi (cmpi .sge w (broadcastInDim S4x1000x1 ![] bcast_S_S4x1000x1 (constantI S_ 32 0#32)))
    (cmpi .sle w (broadcastInDim S4x1000x1 ![0, 1, 2] bcast_S1x1x1_S4x1000x1_0_1_2 (broadcastInDim S1x1x1 ![2] bcast_S1_S1x1x1_2 (constantI S1 32 15999#32)))))
    (constantI S_ 1 1#1) reducesTo_S4x1000x1_S4x1000_d2 h_S_

/-- The entries of `a` that `i` names, row by row. -/
def takeAlong (a : IVec S4x16000 32) (i : IVec S4x1000 32) : IVec S4x1000 32 :=
  select (inside (wrapped i)) (Host.gather gather_S4x16000_S4x1000x1_S4x1000_n_1_0_0_1_2_11 a (wrapped i))
    (broadcastInDim S4x1000 ![] bcast_S_S4x1000 (constantI S_ 32 2147483648#32))

/-- Each image's 1000 indices followed by 24 zeros. -/
def padIdx (t : IVec S4x1000 32) : IVec S4x1024 32 :=
  pad S4x1024 ![0, 0] ![0, 24] ![0, 0] t (id (constantI S_ 32 0#32)) pads_S4x1000_S4x1024_000_0240 h_S_

/-- Positions in an image made positions in the batch. -/
def overBatch (p : IVec S4x1024 32) : IVec S4096 32 :=
  shapeCast S4096 (addi p (broadcastInDim S4x1024 ![0, 1] bcast_S4x1_S4x1024_0_1 (broadcastInDim S4x1 ![0] bcast_S4_S4x1_0
    (muli (iotaInDim S4 32 0) (broadcastInDim S4 ![] bcast_S_S4 (constantI S_ 32 262144#32)))))) shapeCasts_S4x1024_S4096

/-- The four, at every place. -/
def fours : IVec S4096 32 := broadcastInDim S4096 ![] bcast_S_S4096 (id (constantI S_ 32 4#32))

/-- Positions in the batch divided by four, rounding down. -/
def quarter (g : IVec S4096 32) : IVec S4096 32 :=
  select (andi (cmpi .ne (signi g) (broadcastInDim S4096 ![] bcast_S_S4096 (signi (id (constantI S_ 32 4#32)))))
      (cmpi .ne (Host.remsi g fours) (broadcastInDim S4096 ![] bcast_S_S4096 (constantI S_ 32 0#32))))
    (subi (Host.divsi g fours) (broadcastInDim S4096 ![] bcast_S_S4096 (constantI S_ 32 1#32))) (Host.divsi g fours)

section
variable (V : Valuation τ sig (Elt F))

theorem b1_v14 : StableHlo.after opsB1 V main_v14 = within (top1 (V main_v5)).2 := by
  unfold opsB1
  after_results_simp
  rfl
theorem b1_values : StableHlo.after opsB1 V main_values_0 = (top2 (V main_v5)).1 := by
  unfold opsB1
  after_results_simp
  rfl
theorem b1_indices : StableHlo.after opsB1 V main_indices_1 = (top2 (V main_v5)).2 := by
  unfold opsB1
  after_results_simp
  rfl
theorem b2_v16 : StableHlo.after opsB2 V main_v16 = takeAlong (V main_v14) (V main_indices_1) := by
  unfold opsB2
  after_results_simp
  rfl
theorem b3_v17 : StableHlo.after opsB3 V main_v17 = padIdx (V main_v16) := by
  unfold opsB3
  after_results_simp
  rfl
theorem b3_v24 : StableHlo.after opsB3 V main_v24 = overBatch (padIdx (V main_v16)) := by
  unfold opsB3
  after_results_simp
  rfl
theorem b4_v25 : StableHlo.after opsB4 V main_v25 = quarter (V main_v24) := by
  unfold opsB4
  after_results_simp
  rfl
theorem b4_v26 : StableHlo.after opsB4 V main_v26 = shapeCast S262144x128 (V main_arg0) shapeCasts_S4x512x512x32_S262144x128 := by
  unfold opsB4
  after_results_simp
  rfl
theorem b1_arg : StableHlo.after opsB1 V main_arg0 = V main_arg0 := by
  unfold opsB1
  after_results_simp
theorem b2_arg : StableHlo.after opsB2 V main_arg0 = V main_arg0 := by
  unfold opsB2
  after_results_simp
theorem b3_arg : StableHlo.after opsB3 V main_arg0 = V main_arg0 := by
  unfold opsB3
  after_results_simp
theorem b4_arg : StableHlo.after opsB4 V main_arg0 = V main_arg0 := by
  unfold opsB4
  after_results_simp
theorem b2_values : StableHlo.after opsB2 V main_values_0 = V main_values_0 := by
  unfold opsB2
  after_results_simp
theorem b3_values : StableHlo.after opsB3 V main_values_0 = V main_values_0 := by
  unfold opsB3
  after_results_simp
theorem b4_values : StableHlo.after opsB4 V main_values_0 = V main_values_0 := by
  unfold opsB4
  after_results_simp
theorem b4_v17 : StableHlo.after opsB4 V main_v17 = V main_v17 := by
  unfold opsB4
  after_results_simp
end

section
variable (V : Valuation τ sig (Elt F))

/-- The channel difference the mask call reads. -/
def diff (x : FVec F S4x512x512x32 .f32) : FVec F S4x512x512 .f32 :=
  subf (shapeCast S4x512x512 (extractStridedSlice S4x512x512x1 ![0, 0, 0, 1] x slices_S4x512x512x32_S4x512x512x1_0_0_0_1) shapeCasts_S4x512x512x1_S4x512x512)
    (shapeCast S4x512x512 (extractStridedSlice S4x512x512x1 ![0, 0, 0, 0] x slices_S4x512x512x32_S4x512x512x1_0_0_0_0) shapeCasts_S4x512x512x1_S4x512x512)

theorem a_v4 : StableHlo.after opsA V main_v4 = diff (V main_arg0) := by
  unfold opsA
  after_results_simp
  rfl
theorem a_arg : StableHlo.after opsA V main_arg0 = V main_arg0 := by
  unfold opsA
  after_results_simp

theorem b_append : StableHlo.after opsB V = StableHlo.after opsB4 (StableHlo.after opsB3 (StableHlo.after opsB2 (StableHlo.after opsB1 V))) := by
  simp only [opsB, StableHlo.after_append]

theorem b_arg : StableHlo.after opsB V main_arg0 = V main_arg0 := by
  rw [b_append, b4_arg, b3_arg, b2_arg, b1_arg]
theorem b_values : StableHlo.after opsB V main_values_0 = (top2 (V main_v5)).1 := by
  rw [b_append, b4_values, b3_values, b2_values, b1_values]
/-- The peaks' flat indices, in their image. -/
def peaks (s : FVec F S4x512x512 .f32) : IVec S4x1000 32 := takeAlong (within (top1 s).2) (top2 s).2
theorem b_v17 : StableHlo.after opsB V main_v17 = padIdx (peaks (V main_v5)) := by
  rw [b_append, b4_v17, b3_v17, b2_v16, b1_v14, b1_indices]; rfl
theorem b_v25 : StableHlo.after opsB V main_v25 = quarter (overBatch (padIdx (peaks (V main_v5)))) := by
  rw [b_append, b4_v25, b3_v24, b2_v16, b1_v14, b1_indices]; rfl
theorem b_v26 : StableHlo.after opsB V main_v26 = shapeCast S262144x128 (V main_arg0) shapeCasts_S4x512x512x32_S262144x128 := by
  rw [b_append, b4_v26, b3_arg, b2_arg, b1_arg]

theorem c_arg : StableHlo.after opsC V main_arg0 = V main_arg0 := by
  unfold opsC
  after_results_simp
theorem c_values : StableHlo.after opsC V main_values_0 = V main_values_0 := by
  unfold opsC
  after_results_simp
theorem c_v27 : StableHlo.after opsC V main_v27 = V main_v27 := by
  unfold opsC
  after_results_simp
theorem c_v29 : StableHlo.after opsC V main_v29 = shapeCast S4096x1 (sitofp .f32 (V main_v17 : IVec S4x1024 32) : FVec F S4x1024 .f32) shapeCasts_S4x1024_S4096x1 := by
  unfold opsC
  after_results_simp
  rfl
theorem d_arg : StableHlo.after opsD V main_arg0 = V main_arg0 := by
  unfold opsD
  after_results_simp
theorem d_values : StableHlo.after opsD V main_values_0 = V main_values_0 := by
  unfold opsD
  after_results_simp
theorem d_v32 : StableHlo.after opsD V main_v32 = extractStridedSlice S4x1000x7 ![0, 0, 0] (shapeCast S4x1024x8 (V main_v30) shapeCasts_S4096x8_S4x1024x8) slices_S4x1024x8_S4x1000x7_0_0_0 := by
  unfold opsD
  after_results_simp
  rfl
theorem d_v33 : StableHlo.after opsD V main_v33 = broadcastInDim S4x1000 ![] bcast_S_S4x1000 (constantI S_ 32 1#32) := by
  unfold opsD
  after_results_simp
end

end Cert.Proof.KernelIdeal

end
-- ==== Proof.KernelIdeal.Index.lean ====
/- The flat indices of the peaks, and that every index the SparseCore gathers by names a row of its table. -/
module

public import proofs.«01_k».proof.Proof.KernelIdeal.Chain
public import proofs.«01_k».proof.Proof.Maths.TopPos
public import Idealize.ShloMosaic.Lib.WordCmp
public import Idealize.ShloMosaic.Lib.Routing.Words

@[expose] public section

set_option maxRecDepth 8192

noncomputable section

namespace Cert.Proof.KernelIdeal

open Cert.KernelIdeal Cert.KernelIdeal.Gen
open Idealize.ShloMosaic Idealize.ShloMosaic.ValueIdx
open Cert.Proof.Maths

variable {F : FTy → Type} [FloatOps F]

/-- A position in a strip, moved to its image. -/
theorem within_at (i : IVec S64x1000 32) (b : Fin 4) (q : Fin 16000) :
    within i (ix2 b q) = i (ix2 ⟨16 * b.val + q.val / 1000, by omega⟩ ⟨q.val % 1000, by omega⟩) + BitVec.ofNat 32 (q.val / 1000 * 16384) := by
  unfold within
  rw [cast_at _ _ _ (ix3 b ⟨q.val / 1000, by omega⟩ ⟨q.val % 1000, by omega⟩ : S4x16x1000.Idx) (by
    rw [Shape.rowMajor_val_three, Shape.rowMajor_val_two]; simp; omega)]
  show IntOp.addi (shapeCast S4x16x1000 i _ _) (BitVec.ofNat 32 (q.val / 1000) * 16384#32) = _
  rw [cast_at _ _ _ (ix2 ⟨16 * b.val + q.val / 1000, by omega⟩ ⟨q.val % 1000, by omega⟩ : S64x1000.Idx) (by
    rw [Shape.rowMajor_val_three, Shape.rowMajor_val_two]; simp; omega)]
  rw [BitVec.ofNat_mul]; rfl

theorem wrapped_at (i : IVec S4x1000 32) (b : Fin 4) (k : Fin 1000) (u : Fin 1) (q : ℕ) (hq : q < 16000) (h : i (ix2 b k) = BitVec.ofNat 32 q) :
    wrapped i (ix3 b k u) = BitVec.ofNat 32 q := by
  unfold wrapped
  rw [cast_at _ _ _ (ix2 b k : S4x1000.Idx) (by
    rw [Shape.rowMajor_val_three, Shape.rowMajor_val_two]; simp)]
  show Scalar.select (IntOp.cmpi .slt (i (ix2 b k)) 0#32) (IntOp.addi (i (ix2 b k)) 16000#32) (i (ix2 b k)) = _
  have : IntOp.cmpi .slt (i (ix2 b k)) 0#32 = 0#1 := by
    rw [h, show (0#32 : BitVec 32) = BitVec.ofNat 32 0 from rfl, WordCmp.cmpi_slt_ofNat_eq_zero_iff (by omega) (by omega)]; omega
  rw [this, select_zero, h]

theorem inside_at (i : IVec S4x1000 32) (q : Fin 4 → Fin 1000 → Fin 16000) (h : ∀ b k, i (ix2 b k) = BitVec.ofNat 32 (q b k).val) (j : S4x1000.Idx) :
    inside (wrapped i) j = 1#1 := by
  refine Host.reduce_andi_one _ _ _ _ _ rfl fun w => ?_
  obtain ⟨b, k, u, rfl⟩ : ∃ (b : Fin 4) (k : Fin 1000) (u : Fin 1), w = ix3 b k u := ⟨w 0, w 1, w 2, eq_ix3 w⟩
  have hw := wrapped_at i b k u _ (q b k).isLt (h _ _)
  show IntOp.andi (IntOp.cmpi .sge (wrapped i (ix3 b k u)) (BitVec.ofNat 32 0)) (IntOp.cmpi .sle (wrapped i (ix3 b k u)) (BitVec.ofNat 32 15999)) = 1#1
  rw [hw]
  have hq := (q b k).isLt
  rw [(WordCmp.cmpi_sge_ofNat_eq_one_iff (by omega) (by omega)).2 (by omega), (WordCmp.cmpi_sle_ofNat_eq_one_iff (by omega) (by omega)).2 (by omega)]
  rfl

local notation "GD" => gather_S4x16000_S4x1000x1_S4x1000_n_1_0_0_1_2_11

theorem operand_at (w : IVec S4x1000x1 32) (b : Fin 4) (k : Fin 1000) (q : Fin 16000) (h : w (ix3 b k 0) = BitVec.ofNat 32 q.val) :
    GatherDims.operandIdx GD (ix2 b k) w = (ix2 b q : S4x16000.Idx) := by
  funext a
  refine Fin.ext ?_
  show GatherDims.start GD (ix2 b k) w a + GatherDims.batchCoord GD (ix2 b k) a + GatherDims.offCoord GD (ix2 b k) a = _
  match a with
  | ⟨0, _⟩ =>
    change GatherDims.start GD (ix2 b k) w (0 : Fin 2) + GatherDims.batchCoord GD (ix2 b k) (0 : Fin 2) + GatherDims.offCoord GD (ix2 b k) (0 : Fin 2) = b.val
    rw [GatherDims.start_batching GD _ _ _ (List.mem_singleton.2 rfl),
      GatherDims.offCoord_eq_zero GD _ _ (fun h => ((GatherDims.mem_sKept _ _).1 h).2 (List.mem_singleton.2 rfl))]
    unfold GatherDims.batchCoord
    rw [dif_pos (show (0 : Fin 2) ∈ GatherDims.operandBatchingDims GD from List.mem_singleton.2 rfl)]
    simp only [Nat.zero_add, Nat.add_zero]
    rfl
  | ⟨1, _⟩ =>
    change GatherDims.start GD (ix2 b k) w (1 : Fin 2) + GatherDims.batchCoord GD (ix2 b k) (1 : Fin 2) + GatherDims.offCoord GD (ix2 b k) (1 : Fin 2) = q.val
    rw [GatherDims.batchCoord_eq_zero GD _ _ (show (1 : Fin 2) ∉ GatherDims.operandBatchingDims GD from by
        show _ ∉ [(0 : Fin 2)]; decide),
      GatherDims.offCoord_eq_zero GD _ _ (fun h => ((GatherDims.mem_sKept _ _).1 h).1 (List.mem_singleton.2 rfl))]
    simp only [Nat.add_zero]
    unfold GatherDims.start
    rw [dif_pos (show (1 : Fin 2) ∈ GatherDims.startIndexMap GD from List.mem_singleton.2 rfl)]
    have hsi : GatherDims.siIdx GD (ix2 b k) ⟨List.idxOf (1 : Fin 2) (GatherDims.startIndexMap GD),
        List.idxOf_lt_length_iff.2 (List.mem_singleton.mpr rfl)⟩ = (ix3 b k 0 : S4x1000x1.Idx) := by
      funext c; refine Fin.ext ?_
      match c with
      | ⟨0, _⟩ => rfl
      | ⟨1, _⟩ => rfl
      | ⟨2, _⟩ => rfl
    refine (congrArg (fun z => min (w z).toInt.toNat 15999) hsi).trans ?_
    rw [h]
    have hq := q.isLt
    have : (BitVec.ofNat 32 q.val).toInt.toNat = q.val := by
      rw [WordCmp.toInt_ofNat_of_lt (by omega)]; rfl
    rw [this]
    exact Nat.min_eq_left (by omega)

/-- What taking along the lists at indices below their length gives. -/
theorem takeAlong_at (a : IVec S4x16000 32) (i : IVec S4x1000 32) (q : Fin 4 → Fin 1000 → Fin 16000) (h : ∀ b k, i (ix2 b k) = BitVec.ofNat 32 (q b k).val)
    (b : Fin 4) (k : Fin 1000) : takeAlong a i (ix2 b k) = a (ix2 b (q b k)) := by
  show Scalar.select (inside (wrapped i) (ix2 b k)) (a (GatherDims.operandIdx GD (ix2 b k) (wrapped i))) _ = _
  rw [inside_at i q h, select_one, operand_at _ b k (q b k) (wrapped_at i b k 0 _ (q b k).isLt (h b k))]

/-- Where in its image's lists the `k`-th peak lies. -/
def pos2 (s : FVec F S4x512x512 .f32) (b : Fin 4) (k : Fin 1000) : Fin 16000 :=
  tkPos gtF (rowAt (lists (top1 s).1) b) (k.castLE (by omega))
/-- Where in strip `r` its `i`-th greatest lies. -/
def pos1 (s : FVec F S4x512x512 .f32) (r : Fin 64) (i : Fin 1000) : Fin 16384 :=
  tkPos gtF (rowAt (strips s) r) (i.castLE (by omega))

/-- Where in its image the `q`-th entry of its lists lies. -/
def flatOf (s : FVec F S4x512x512 .f32) (b : Fin 4) (q : Fin 16000) : Fin 262144 :=
  ⟨q.val / 1000 * 16384 + (pos1 s ⟨16 * b.val + q.val / 1000, by omega⟩ ⟨q.val % 1000, by omega⟩).val, by omega⟩

/-- Where in its image the `k`-th peak lies. -/
def peak (s : FVec F S4x512x512 .f32) (b : Fin 4) (k : Fin 1000) : Fin 262144 := flatOf s b (pos2 s b k)

theorem peaks_at (s : FVec F S4x512x512 .f32) (b : Fin 4) (k : Fin 1000) : peaks s (ix2 b k) = BitVec.ofNat 32 (peak s b k).val := by
  unfold peaks
  have h2 : ∀ b k, (top2 s).2 (ix2 b k) = BitVec.ofNat 32 (pos2 s b k).val := fun b k => topK_idx _ _ _ (by omega) b k
  rw [takeAlong_at _ _ (pos2 s) h2, within_at]
  unfold top1
  rw [topK_idx _ _ _ (by omega), ← BitVec.ofNat_add, Nat.add_comm]
  rfl

/-- Each padded place's index: the peak's, or zero past the thousandth. -/
def padPeak (s : FVec F S4x512x512 .f32) (b : Fin 4) (k : Fin 1024) : Fin 262144 :=
  if h : k.val < 1000 then peak s b ⟨k.val, h⟩ else ⟨0, by omega⟩

theorem padIdx_at (s : FVec F S4x512x512 .f32) (b : Fin 4) (k : Fin 1024) : padIdx (peaks s) (ix2 b k) = BitVec.ofNat 32 (padPeak s b k).val := by
  unfold padIdx pad padPeak
  by_cases h : k.val < 1000
  · rw [dif_pos h, dif_pos (by
      intro a
      match a with
      | ⟨0, _⟩ => exact ⟨Nat.zero_le _, Nat.mod_one _, by show (b.val - 0) / (0 + 1) < 4; omega⟩
      | ⟨1, _⟩ => exact ⟨Nat.zero_le _, Nat.mod_one _, by show (k.val - 0) / (0 + 1) < 1000; omega⟩)]
    rw [← peaks_at]
    congr 1
    funext a
    refine Fin.ext ?_
    match a with
    | ⟨0, _⟩ => show (b.val - 0) / (0 + 1) = b.val; omega
    | ⟨1, _⟩ => show (k.val - 0) / (0 + 1) = k.val; omega
  · rw [dif_neg h, dif_neg (fun hin => h (by
      have h2 : (k.val - 0) / (0 + 1) < 1000 := (hin (1 : Fin 2)).2.2
      omega))]
    rfl

/-- The batch position of padded place `j`. -/
def batchPos (s : FVec F S4x512x512 .f32) (j : Fin 4096) : ℕ :=
  (padPeak s ⟨j.val / 1024, by omega⟩ ⟨j.val % 1024, by omega⟩).val + j.val / 1024 * 262144

theorem batchPos_lt (s : FVec F S4x512x512 .f32) (j : Fin 4096) : batchPos s j < 1048576 := by
  unfold batchPos; omega

theorem overBatch_at (s : FVec F S4x512x512 .f32) (j : Fin 4096) : overBatch (padIdx (peaks s)) (ix1 j) = BitVec.ofNat 32 (batchPos s j) := by
  unfold overBatch
  rw [cast_at _ _ _ (ix2 ⟨j.val / 1024, by omega⟩ ⟨j.val % 1024, by omega⟩ : S4x1024.Idx) (by
    rw [Shape.rowMajor_val_two, Shape.rowMajor_val_one]; show j.val / 1024 * 1024 + j.val % 1024 = j.val; omega)]
  show IntOp.addi (padIdx (peaks s) (ix2 _ _)) (BitVec.ofNat 32 (j.val / 1024) * 262144#32) = _
  rw [padIdx_at, batchPos, BitVec.ofNat_add, BitVec.ofNat_mul]; rfl

/-- Dividing by four, rounding down, a word below the sign bit. -/
theorem quarter_at (g : IVec S4096 32) (j : S4096.Idx) (n : ℕ) (hn : n < 2 ^ 31) (h : g j = BitVec.ofNat 32 n) :
    quarter g j = BitVec.ofNat 32 (n / 4) := by
  have hd : Host.divsi g fours j = BitVec.ofNat 32 (n / 4) := by
    show IntOp.divsi .host (g j) (BitVec.ofNat 32 4) = _
    rw [h, Routing.divsi_word _ hn (by omega) (by omega)]
  have hr : Host.remsi g fours j = BitVec.ofNat 32 (n % 4) := by
    show IntOp.remsi .host (g j) (BitVec.ofNat 32 4) = _
    rw [h, Routing.remsi_word _ hn (by omega) (by omega)]
  have ha : IntOp.andi (IntOp.cmpi .ne (signi g j) (signi (constantI S_ 32 4#32) (fun a => a.elim0))) (IntOp.cmpi .ne (Host.remsi g fours j) 0#32) = 0#1 := by
    rw [hr, show signi (constantI S_ 32 4#32) (fun a => a.elim0) = 1#32 from by decide]
    rcases Nat.eq_zero_or_pos n with rfl | hp
    · show IntOp.andi _ (IntOp.cmpi .ne 0#32 0#32) = 0#1
      exact BitVec.and_zero
    · have hs : signi g j = 1#32 := by
        unfold signi
        rw [h, if_neg, if_neg]
        · rfl
        · rw [BitVec.msb_eq_decide]; simp; omega
        · intro e
          have := congrArg BitVec.toNat e
          rw [BitVec.toNat_ofNat, Nat.mod_eq_of_lt (by omega)] at this
          exact absurd this (by simp; omega)
      rw [hs]
      exact BitVec.zero_and
  have ha' : andi (cmpi .ne (signi g) (broadcastInDim S4096 ![] bcast_S_S4096 (signi (id (constantI S_ 32 4#32)))))
      (cmpi .ne (Host.remsi g fours) (broadcastInDim S4096 ![] bcast_S_S4096 (constantI S_ 32 0#32))) j = 0#1 := by
    refine Eq.trans ?_ ha
    show IntOp.andi (IntOp.cmpi .ne (signi g j) (signi (constantI S_ 32 4#32) _)) (IntOp.cmpi .ne (Host.remsi g fours j) 0#32) = _
    rfl
  unfold quarter
  rw [select_apply, ha', select_zero, hd]

/-- The table row of padded place `j`. -/
theorem row_at (s : FVec F S4x512x512 .f32) (j : Fin 4096) : quarter (overBatch (padIdx (peaks s))) (ix1 j) = BitVec.ofNat 32 (batchPos s j / 4) :=
  quarter_at _ _ _ (by have := batchPos_lt s j; omega) (overBatch_at s j)

theorem row_lt (s : FVec F S4x512x512 .f32) (j : Fin 4096) : (quarter (overBatch (padIdx (peaks s))) (ix1 j)).toNat < 262144 := by
  have := batchPos_lt s j
  rw [row_at, BitVec.toNat_ofNat, Nat.mod_eq_of_lt (by omega)]; omega

end Cert.Proof.KernelIdeal

end
-- ==== Proof.KernelIdeal.Tile.lean ====
/- One vector subcore's task of the SparseCore call: it fetches its 128 entries of the index list, gathers the table's rows they
   name, and writes them to its 128 rows of the result. The 32 tasks share the table; together they cover the list and the result. -/
module

public import proofs.«01_k».proof.Proof.KernelIdeal.Base

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v25_scv : Memref Cert.KernelIdeal.sig Kind.scVector Space.hbm Cert.KernelIdeal.S4096 EltTy.i32)
local notation "tV" => (Memref.whole Cert.KernelIdeal.main_v26_scv : Memref Cert.KernelIdeal.sig Kind.scVector Space.hbm Cert.KernelIdeal.S262144x128 EltTy.f32)
local notation "oV" => (Memref.whole Cert.KernelIdeal.main_v27_scv : Memref Cert.KernelIdeal.sig Kind.scVector Space.hbm Cert.KernelIdeal.S4096x128 EltTy.f32)
local notation "sV" => (Memref.whole Cert.KernelIdeal.cc1_scratch0 : Memref Cert.KernelIdeal.sig Kind.scVector Space.vmem Cert.KernelIdeal.S128 EltTy.i32)
local notation "rV" => (Memref.whole Cert.KernelIdeal.cc1_scratch1 : Memref Cert.KernelIdeal.sig Kind.scVector Space.vmem Cert.KernelIdeal.S128x128 EltTy.f32)

/-- The index list's entries of task `w`, and the result's rows. -/
def iSet (w : Fin 32) : Finset S4096.Idx := Finset.univ.filter fun j => (j 0).val / 128 = w.val
def oSet (w : Fin 32) : Finset S4096x128.Idx := Finset.univ.filter fun j => (j 0).val / 128 = w.val
/-- Task `w`'s share of the table. -/
abbrev tq (w : Fin 32) : PosShare TreeShare := pieceOf fullShare 32 (by decide) w

/-- The task of subcore `s` on SparseCore `c`. -/
def task (c : Fin 2) (s : Fin 16) : Fin 32 := ⟨2 * s.val + c.val, by omega⟩

theorem iSet_disjoint : ∀ i ∈ (Finset.univ : Finset (Fin 32)), ∀ j ∈ (Finset.univ : Finset (Fin 32)), i ≠ j → Disjoint (iSet i) (iSet j) := by
  intro i _ j _ h
  rw [Finset.disjoint_left]; intro x hx hy
  exact h (Fin.ext ((Finset.mem_filter.mp hx).2.symm.trans (Finset.mem_filter.mp hy).2))
theorem oSet_disjoint : ∀ i ∈ (Finset.univ : Finset (Fin 32)), ∀ j ∈ (Finset.univ : Finset (Fin 32)), i ≠ j → Disjoint (oSet i) (oSet j) := by
  intro i _ j _ h
  rw [Finset.disjoint_left]; intro x hx hy
  exact h (Fin.ext ((Finset.mem_filter.mp hx).2.symm.trans (Finset.mem_filter.mp hy).2))
theorem iSet_cover : (Finset.univ : Finset (Fin 32)).biUnion iSet = Finset.univ := by
  ext x; simp only [Finset.mem_biUnion, Finset.mem_univ, true_and, iff_true, iSet, Finset.mem_filter]
  have hx : (x 0).val < 4096 := (x 0).isLt
  exact ⟨⟨(x 0).val / 128, by omega⟩, rfl⟩
theorem oSet_cover : (Finset.univ : Finset (Fin 32)).biUnion oSet = Finset.univ := by
  ext x; simp only [Finset.mem_biUnion, Finset.mem_univ, true_and, iff_true, oSet, Finset.mem_filter]
  have hx : (x 0).val < 4096 := (x 0).isLt
  exact ⟨⟨(x 0).val / 128, by omega⟩, rfl⟩

/-- The 32 tasks, by SparseCore and subcore. -/
def taskEquiv : Fin 2 × Fin 16 ≃ Fin 32 where
  toFun p := task p.1 p.2
  invFun w := (⟨w.val % 2, by omega⟩, ⟨w.val / 2, by omega⟩)
  left_inv p := by ext <;> simp [task] <;> omega
  right_inv w := by ext; simp [task]; omega

variable [FloatOps F]

/-! ## What the handshakes carry -/

variable (tb : (d : Dev nD) → Buf (Elt F) (tLoc d)) (ix : (d : Dev nD) → Buf (Elt F) (iLoc d)) (ob : (d : Dev nD) → Buf (Elt F) (oLoc d))

/-- What a task is handed: its entries of the list, its share of the table, its rows of the result; -/
abbrev taskIn (d : Dev nD) (w : Fin 32) : sProp 𝕄 :=
  iprop((iLoc d ↦[iSet w]{fullShare} ix d) ∗ (tLoc d ↦{tq w} tb d) ∗ oLoc d ↦[oSet w]{fullShare} ob d)
/-- and what it brings back: the same, its rows of the result now the gathered ones. -/
abbrev taskOut (d : Dev nD) (w : Fin 32) : sProp 𝕄 :=
  iprop((iLoc d ↦[iSet w]{fullShare} ix d) ∗ (tLoc d ↦{tq w} tb d) ∗ oLoc d ↦[oSet w]{fullShare} gathered (tb d) (ix d))

/-- The call deals the tasks' holdings out to the SparseCores and these to their subcores. -/
def P : (K (F := F)).Pay (nD := nD) (Val := Elt F) (Name := ℕ) (U := UU) where
  st := fun q d c => match q with | 0 => bigSep Finset.univ fun i : Fin 16 => taskIn tb ix ob d (task (Fin.cast nCore_zero c) i)
  dn := fun q d c => match q with | 0 => bigSep Finset.univ fun i : Fin 16 => taskOut tb ix d (task (Fin.cast nCore_zero c) i)
  go := fun q d c i => match q with | 0 => taskIn tb ix ob d (task (Fin.cast nCore_zero c) (Fin.cast nSub_zero i))
  td := fun q d c i => match q with | 0 => taskOut tb ix d (task (Fin.cast nCore_zero c) (Fin.cast nSub_zero i))
  x := fun _ _ => iprop(emp)

instance P_storable : (P (F := F) tb ix ob).IsStorable where
  st q d c := match q with
    | 0 => (inferInstance : BI.Storable (upEmb : UEmb _ 𝕄) (bigSep Finset.univ fun i : Fin 16 => taskIn tb ix ob d (task (Fin.cast nCore_zero c) i)))
  dn q d c := match q with
    | 0 => (inferInstance : BI.Storable (upEmb : UEmb _ 𝕄) (bigSep Finset.univ fun i : Fin 16 => taskOut tb ix d (task (Fin.cast nCore_zero c) i)))
  go q d c i := match q with
    | 0 => (inferInstance : BI.Storable (upEmb : UEmb _ 𝕄) (taskIn tb ix ob d (task (Fin.cast nCore_zero c) (Fin.cast nSub_zero i))))
  td q d c i := match q with
    | 0 => (inferInstance : BI.Storable (upEmb : UEmb _ 𝕄) (taskOut tb ix d (task (Fin.cast nCore_zero c) (Fin.cast nSub_zero i))))

/-- Every word of the index list names a row of the table. -/
def InRange : Prop := ∀ (d : Dev nD) (j : S4096.Idx), (ix d j).toNat < 262144

/-! ## The task -/

section Tile

variable (d : Dev nD) (L : grid1.Coords)

abbrev cV (L : grid1.Coords) : Fin τ.nSC := (L 0).castLE hcore1
abbrev jV (L : grid1.Coords) : Fin τ.nSub := (L 1).castLE hsub1
/-- The task at grid coordinates `L`. -/
abbrev tk (L : grid1.Coords) : Fin 32 := task (L 0) (L 1)

/-- The list's entries and the result's rows, and all of the table, as the task addresses them. -/
abbrev iSl (L : grid1.Coords) : Memref sig .scVector .hbm S128 .i32 := (iV).slice (Rect.unit (s := S4096) (k1_off1 L) S128.size (k1_off1_inb L)) (fun _ => rfl)
abbrev oSl (L : grid1.Coords) : Memref sig .scVector .hbm S128x128 .f32 := (oV).slice (Rect.unit (s := S4096x128) (k1_off2 L) S128x128.size (k1_off2_inb L)) (fun _ => rfl)
abbrev tSl : Memref sig .scVector .hbm S262144x128 .f32 := (tV).slice (Rect.unit (s := S262144x128) ![0, 0] S262144x128.size inb_S262144x128_S262144x128_0_0) (fun _ => rfl)

omit [FloatOps F] in
theorem off_task : 256 * (L 1).val + 128 * (L 0).val = 128 * (tk L).val := by
  show _ = 128 * (2 * (L 1).val + (L 0).val)
  omega
omit [FloatOps F] in
theorem set_iSl : (iSl L).view.set = iSet (tk L) := by
  show ((View.whole (main_v25_scv : Ref sig .scVector)).slice (Rect.unit (s := S4096) (k1_off1 L) S128.size (k1_off1_inb L))).set = _
  rw [View.set_slice]
  refine Eq.trans (Finset.map_refl (s := (Rect.unit (s := S4096) (k1_off1 L) S128.size (k1_off1_inb L)).set)) ?_
  ext x
  have h := off_task L
  rw [Rect.mem_set_unit]
  simp only [iSet, Finset.mem_filter, Finset.mem_univ, true_and, k1_off1_eq]
  constructor
  · intro hx
    have := hx 0
    simp only [Matrix.cons_val_zero, show S128.size 0 = 128 from rfl] at this
    omega
  · intro hx a
    match a with
    | 0 =>
      simp only [Matrix.cons_val_zero, show S128.size 0 = 128 from rfl]
      omega
omit [FloatOps F] in
theorem set_oSl : (oSl L).view.set = oSet (tk L) := by
  show ((View.whole (main_v27_scv : Ref sig .scVector)).slice (Rect.unit (s := S4096x128) (k1_off2 L) S128x128.size (k1_off2_inb L))).set = _
  rw [View.set_slice]
  refine Eq.trans (Finset.map_refl (s := (Rect.unit (s := S4096x128) (k1_off2 L) S128x128.size (k1_off2_inb L)).set)) ?_
  ext x
  have h := off_task L
  rw [Rect.mem_set_unit]
  simp only [oSet, Finset.mem_filter, Finset.mem_univ, true_and, k1_off2_eq]
  constructor
  · intro hx
    have := hx 0
    simp only [Matrix.cons_val_zero, show S128x128.size 0 = 128 from rfl] at this
    omega
  · intro hx a
    match a with
    | 0 =>
      simp only [Matrix.cons_val_zero, show S128x128.size 0 = 128 from rfl]
      omega
    | 1 =>
      have hl : (x 1).val < 128 := (x 1).isLt
      simp only [Matrix.cons_val_one, Matrix.cons_val_fin_one, show S128x128.size 1 = 128 from rfl]
      omega

omit [FloatOps F] in
theorem pts_iSl (f : Buf (Elt F) (iLoc d)) :
    ((iSl L).view.loc (V d (cV L) (jV L)) ↦[(iSl L).view.set]{fullShare} f : sProp 𝕄) = iLoc d ↦[iSet (tk L)]{fullShare} f := by
  rw [set_iSl]
omit [FloatOps F] in
theorem pts_oSl (f : Buf (Elt F) (oLoc d)) :
    ((oSl L).view.loc (V d (cV L) (jV L)) ↦[(oSl L).view.set]{fullShare} f : sProp 𝕄) = oLoc d ↦[oSet (tk L)]{fullShare} f := by
  rw [set_oSl]
omit [FloatOps F] in
theorem pts_tSl (q : PosShare TreeShare) (f : Buf (Elt F) (tLoc d)) :
    ((tSl).view.loc (V d (cV L) (jV L)) ↦{q} f : sProp 𝕄) = tLoc d ↦{q} f := rfl
omit [FloatOps F] in
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] in
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

/-- The subcore's three transfer semaphores: the list's fetch, the gather, the write-out. -/
abbrev semI (d : Dev nD) (c : Fin τ.nSC) (i : Fin τ.nSub) : GSem nD τ sig := (V d c i, .dma cc1_scoped0.sem)
abbrev semG (d : Dev nD) (c : Fin τ.nSC) (i : Fin τ.nSub) : GSem nD τ sig := (V d c i, .dma cc1_scratch2.sem)
abbrev semO (d : Dev nD) (c : Fin τ.nSC) (i : Fin τ.nSub) : GSem nD τ sig := (V d c i, .dma cc1_scoped1.sem)

omit [FloatOps F] in
/-- The three semaphores among the subcore's own. -/
theorem sems_of_own :
    (ownSems0 (V d (cV L) (jV L)) : sProp 𝕄)
      = iprop(semVal (semI d (cV L) (jV L)) 0 ∗ semVal (semG d (cV L) (jV L)) 0 ∗ semVal (semO d (cV L) (jV L)) 0
          ∗ bigSep ((((ownCells (V d (cV L) (jV L))).erase (semI d (cV L) (jV L))).erase (semG d (cV L) (jV L))).erase (semO d (cV L) (jV L))) fun g => semVal g 0) := by
  unfold SparseCore.Cfg.ownSems0
  have mI : semI d (cV L) (jV L) ∈ ownCells (V d (cV L) (jV L)) :=
    mem_ownCells.mpr ⟨rfl, show (SemLoc.dma cc1_scoped0.sem : SemLoc sig).isScoped .scVector = true by decide⟩
  have mG : semG d (cV L) (jV L) ∈ ownCells (V d (cV L) (jV L)) :=
    mem_ownCells.mpr ⟨rfl, show (SemLoc.dma cc1_scratch2.sem : SemLoc sig).isScoped .scVector = true by decide⟩
  have mO : semO d (cV L) (jV L) ∈ ownCells (V d (cV L) (jV L)) :=
    mem_ownCells.mpr ⟨rfl, show (SemLoc.dma cc1_scoped1.sem : SemLoc sig).isScoped .scVector = true by decide⟩
  have nGI : semG d (cV L) (jV L) ≠ semI d (cV L) (jV L) := by simp [semG, semI]; decide
  have nOI : semO d (cV L) (jV L) ≠ semI d (cV L) (jV L) := by simp [semO, semI]; decide
  have nOG : semO d (cV L) (jV L) ≠ semG d (cV L) (jV L) := by simp [semO, semG]; decide
  rw [SparseCore.bigSep_erase' mI, SparseCore.bigSep_erase' (Finset.mem_erase.mpr ⟨nGI, mG⟩),
    SparseCore.bigSep_erase' (Finset.mem_erase.mpr ⟨nOG, Finset.mem_erase.mpr ⟨nOI, mO⟩⟩)]

omit [FloatOps F] in
/-- The two scratch buffers among the subcore's own, at some contents. -/
theorem bufs_of_own :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  have m0 : (Proc.scVector (cV L) (jV L)).devRef cc1_scratch0 ∈ ownRefs (τ := τ) (.scVector (cV L) (jV L)) :=
    SparseCore.Cfg.mem_ownRefs_of_owner (p := Proc.scVector (cV L) (jV L)) (b := (Proc.scVector (cV L) (jV L)).devRef cc1_scratch0) rfl
  have m1 : (Proc.scVector (cV L) (jV L)).devRef cc1_scratch1 ∈ ownRefs (τ := τ) (.scVector (cV L) (jV L)) :=
    SparseCore.Cfg.mem_ownRefs_of_owner (p := Proc.scVector (cV L) (jV L)) (b := (Proc.scVector (cV L) (jV L)).devRef cc1_scratch1) rfl
  have ne : (Proc.scVector (cV L) (jV L)).devRef cc1_scratch1 ≠ (Proc.scVector (cV L) (jV L)).devRef cc1_scratch0 :=
    fun e => absurd (Proc.devRef_injective _ e) (show (cc1_scratch1 : Ref sig .scVector) ≠ cc1_scratch0 by decide)
  refine (SparseCore.bigSep_erase' m0).trans ?_
  rw [SparseCore.bigSep_erase' (Finset.mem_erase.mpr ⟨ne, m1⟩)]

/-- Entry `y` of the task's part of the list is the list's entry `128 w + y`. -/
theorem read_iSl (y : S128.Idx) : (iSl L).view.read (Elt F) (ix d) y
    = ix d (at1 ⟨128 * (tk L).val + (y 0).val, by have := (tk L).isLt; have : (y 0).val < 128 := (y 0).isLt; omega⟩) := by
  refine ((View.read_apply _ _).trans (cast_eq _ _)).trans (congrArg (ix d) ?_)
  funext a
  match a with
  | 0 =>
    refine Fin.ext ?_
    have h := off_task L
    show (k1_off1 L) 0 + 1 * (y 0).val = _
    rw [k1_off1_eq]
    show 256 * (L 1).val + 128 * (L 0).val + 1 * (y 0).val = 128 * (tk L).val + (y 0).val
    omega

/-- The list as it lands in the subcore's scratch is in range. -/
theorem landed_inRange (hr : InRange ix) (fs : Buf (Elt F) ((V d (cV L) (jV L)).loc cc1_scratch0)) (pay : S128.Idx → Elt F .i32)
    (hpay : pay = (iSl L).view.read (Elt F) (ix d)) :
    ∀ x, ((sV).view.read (Elt F) (View.write (Elt F) (sV).view fs pay Finset.univ) x).toNat < S262144x128.size gathers_S262144x128_S128x128.axis := by
  subst hpay; intro x
  rw [View.write_whole_univ]
  simp only [Memref.view_whole, View.read_whole]
  rw [read_iSl]
  exact hr d _

/-- The gather's payload is the gathered rows at the task's rows. -/
theorem payload_eq (hr : InRange ix) (fs : Buf (Elt F) ((V d (cV L) (jV L)).loc cc1_scratch0)) (pay : S128.Idx → Elt F .i32)
    (hpay : pay = (iSl L).view.read (Elt F) (ix d)) (hn : S128.numel = S128x128.size gathers_S262144x128_S128x128.axis')
    (hin : ∀ x, ((sV).view.read (Elt F) (View.write (Elt F) (sV).view fs pay Finset.univ) x).toNat < S262144x128.size gathers_S262144x128_S128x128.axis)
    (y : S128x128.Idx) :
    SparseCore.gatherPayload gathers_S262144x128_S128x128 ((tSl).view.read (Elt F) (tb d))
        (SparseCore.rows ((sV).view.read (Elt F) (View.write (Elt F) (sV).view fs pay Finset.univ)) hn hin) y
      = gathered (tb d) (ix d) ((oSl L).view.emb y) := by
  subst hpay
  unfold SparseCore.gatherPayload gathered
  refine ((View.read_apply _ _).trans (cast_eq _ _)).trans (congrArg (tb d) ?_)
  have hk : (S128.rowMajor.symm ((y gathers_S262144x128_S128x128.axis').cast hn.symm) 0).val = (y 0).val := by
    have h := Shape.rowMajor_val_one (S128.rowMajor.symm ((y gathers_S262144x128_S128x128.axis').cast hn.symm))
    rw [← h]
    exact congrArg Fin.val (S128.rowMajor.apply_symm_apply _)
  have hoff := off_task L
  have hrow : ((sV).view.read (Elt F) (View.write (Elt F) (sV).view fs ((iSl L).view.read (Elt F) (ix d)) Finset.univ)
      (S128.rowMajor.symm ((y gathers_S262144x128_S128x128.axis').cast hn.symm)))
      = ix d (at1 (((oSl L).view.emb y) 0)) := by
    rw [View.write_whole_univ]
    simp only [Memref.view_whole, View.read_whole]
    rw [read_iSl]
    refine congrArg (ix d) (congrArg at1 (Fin.ext ?_))
    show 128 * (tk L).val + _ = (k1_off2 L) 0 + 1 * (y 0).val
    rw [hk, k1_off2_eq]
    show 128 * (tk L).val + (y 0).val = 256 * (L 1).val + 128 * (L 0).val + 1 * (y 0).val
    omega
  funext a
  match a with
  | 0 =>
    refine Fin.ext ?_
    refine Eq.trans (b := 0 + 1 * ((sV).view.read (Elt F) (View.write (Elt F) (sV).view fs ((iSl L).view.read (Elt F) (ix d)) Finset.univ)
      (S128.rowMajor.symm ((y gathers_S262144x128_S128x128.axis').cast hn.symm))).toNat) rfl ?_
    rw [hrow]
    show _ = (ix d (at1 (((oSl L).view.emb y) 0))).toNat % 262144
    have := hr d (at1 (((oSl L).view.emb y) 0))
    rw [Nat.mod_eq_of_lt this]; omega
  | 1 =>
    refine Fin.ext ?_
    show 0 + 1 * (y 1).val = (k1_off2 L) 1 + 1 * (y 1).val
    rw [k1_off2_eq]; rfl

omit [FloatOps F] in
/-- The result's rows of the task, written with a payload that agrees with `g` there, hold `g`. -/
theorem written_pts (pay : S128x128.Idx → Elt F .f32) (g : S4096x128.Idx → Elt F .f32) (f : Buf (Elt F) (oLoc d))
    (h : ∀ y, pay y = g ((oSl L).view.emb y)) :
    ((oSl L).view.loc (V d (cV L) (jV L)) ↦[(oSl L).view.set]{fullShare}
        (oSl L).view.writes (Elt F) f [⟨Rect.whole S128x128, pay⟩] : sProp 𝕄)
      ⊢ (oSl L).view.loc (V d (cV L) (jV L)) ↦[(oSl L).view.set]{fullShare} g := by
  refine Entails.of_eq (pointsTo_congr fun j hj => ?_)
  obtain ⟨y, -, rfl⟩ := Finset.mem_map.mp hj
  have hy : (oSl L).view.emb y = ((oSl L).view.slice (Rect.whole S128x128)).emb y := by
    rw [View.emb_slice]; exact congrArg _ (show (Rect.whole S128x128).emb y = y from Rect.emb_whole_apply S128x128 y).symm
  rw [View.writes_singleton, hy]
  refine (View.write_emb_of_mem _ _ (Finset.mem_univ y)).trans ((cast_eq _ _).trans ((h y).trans ?_))
  rw [hy]

omit [FloatOps F] in
/-- The gather's rows complete together by as much as the whole scratch does. -/
theorem rows_credit : ∀ h : S262144x128.Gathers 0 S128x128, ∑ j, ((rV).slice (S128x128.rowRect h.axis' j) (S128x128.stride_rowRect h.axis' j)).view.dmaCredit
    = (rV).view.dmaCredit := by decide +kernel

/-- What the task writes out, the gather having landed whole in its scratch, is the gathered rows at its rows. -/
theorem out_value (hr : InRange ix) (fs : Buf (Elt F) ((V d (cV L) (jV L)).loc cc1_scratch0)) (fr : Buf (Elt F) ((V d (cV L) (jV L)).loc cc1_scratch1))
    (y : S128x128.Idx) :
    (rV).view.read (Elt F) (View.write (Elt F) (rV).view fr
        (SparseCore.gatherPayload gathers_S262144x128_S128x128 ((tSl).view.read (Elt F) (tb d))
          (SparseCore.rows ((sV).view.read (Elt F) (View.write (Elt F) (sV).view fs ((iSl L).view.read (Elt F) (ix d)) Finset.univ)) rfl
            (landed_inRange ix d L hr fs _ rfl))) Finset.univ) y
      = gathered (tb d) (ix d) ((oSl L).view.emb y) := by
  rw [View.write_whole_univ]
  exact payload_eq tb ix d L hr fs _ rfl rfl _ y

set_option maxHeartbeats 4000000 in
/-- The task: from its entries of the list, its share of the table and its rows of the result to the gathered rows, its scratch and
    semaphores given back. -/
theorem tile_body (hF : (K (F := F)).Facts) (hr : InRange ix) (O : CellTallies nD τ sig (HIx 1)) (W : Waits sig (HIx 1)) (hO : ∀ g, O g none = 0) :
    iprop(levAts (K (F := F)).L (K (F := F)).lev ∗ emp
        ∗ taskIn tb ix ob d (tk L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gk L tV (Memref.isWhole_whole _) iV (Memref.isWhole_whole _) oV (Memref.isWhole_whole _)
            sV (Memref.isWhole_whole _) rV (Memref.isWhole_whole _) cc1_scratch2 cc1_scoped0 cc1_scoped1)
          fun _ => iprop(taskOut tb ix d (tk L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gk_eq_skeleton]; unfold cc1_gk_skel
  rw [(K (F := F)).scopedBufs_V hF d (cV L) (jV L), SparseCore.Cfg.scopedSems0_V (Val := Elt F) d (cV L) (jV L), sems_of_own, bufs_of_own]
  iintro ⟨#Hlv, -, ⟨Hi, Ht, Ho⟩, ⟨⟨%fs, Hs⟩, ⟨%fr, Hr⟩, Hbufs⟩, ⟨HsemI, HsemG, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iSl (F := F) d L _).symm) $$ Hi
  ihave Ho' := (Entails.of_eq (pts_oSl (F := F) d L _).symm) $$ Ho
  ihave Ht' := (Entails.of_eq (pts_tSl (F := F) d L _ _).symm) $$ Ht
  ihave Hs' := (Entails.of_eq (pts_sV (F := F) d L _).symm) $$ Hs
  ihave Hr' := (Entails.of_eq (pts_rV (F := F) d L _).symm) $$ Hr
  sl_exec
  iapply (SparseCore.wp_gatherFromWhole countersEmb 𝒱₀ (V d (cV L) (jV L)) none (hg := gathers_S262144x128_S128x128) (default : HIx 1)
      (rV).view.dmaCredit (rows_credit _) (by decide) (landed_inRange ix d L hr fs _ rfl)) $$ [Ht' Hr' Hs' HsemG]
  · isplitl [Ht']; · iexact Ht'
    isplitl [Hr']; · iexact Hr'
    isplitl [Hs']; · iexact Hs'
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Ht', Hs'⟩, HsemG, HO⟩
  sl_exec
  sl_step
  isplitl [Hi' Ht' Ho']
  · isplitl [Hi']; · iapply (Entails.of_eq (pts_iSl (F := F) d L _)); iexact Hi'
    isplitl [Ht']; · iexact Ht'
    iapply (Entails.of_eq (pts_oSl (F := F) d L _))
    iapply (written_pts d L (tile_body.sl.dma0_1 tb ix d L hr fs fr) (gathered (tb d) (ix d)) _ (by
      intro y; exact out_value tb ix d L hr fs fr y)) $$ Ho'
  isplitl [Hs' Hr' Hbufs]
  · isplitl [Hs']; · iexists _; iexact Hs'
    isplitl [Hr']; · iexists _; iexact Hr'
    iexact Hbufs
  isplitl [HsemI HsemG HsemO Hsems]
  · isplitl [HsemI]; · iexact HsemI
    isplitl [HsemG]; · iexact HsemG
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The launch's obligations of the task -/

/-- Grid coordinates from the SparseCore and the subcore. -/
def coordsOf (c : Fin (grid1.bound 0)) (s : Fin (grid1.bound 1)) : grid1.Coords :=
  fun | 0 => c | 1 => s | ⟨_ + 2, h⟩ => absurd h (Nat.not_lt.2 (Nat.le_add_left _ _))

theorem body_on_tile (c : Fin τ.nSC) (s : Fin τ.nSub) :
    defs₀ (F := F) (.scVector c s) 1 ()
      = SparseCore.onTile hcore1 hsub1 (fun c s => cc1_gk (coordsOf c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit [FloatOps F] in
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hr : InRange ix) : (K (F := F)).TileObl (D (F := F)) 𝒱 (P tb ix ob) v₀ 0 := by
  intro d c i O W hO _ _
  simp only [show (P tb ix ob).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [body_on_tile]; simp only [SparseCore.onTile, hci, and_self, ↓reduceDIte]
  exact (tile_body tb ix ob d (coordsOf ⟨_, hci.1⟩ ⟨_, hci.2⟩) hF hr O W hO).trans (wp_mono frame _ _ fun _ => weaken_waits)

end Tile

omit [FloatOps F] in
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands are its subcores' already. -/
theorem vecSplit : (K (F := F)).VecSplit' (P tb ix ob) 0 := by
  intro d c
  show (bigSep Finset.univ fun i : Fin 16 => taskIn tb ix ob d (task (Fin.cast nCore_zero c) i)) ⊢ |={Set.univ}=> iprop(
      (bigSep Finset.univ fun i : Fin ((K (F := F)).nSub 0) => taskIn tb ix ob d (task (Fin.cast nCore_zero c) (Fin.cast nSub_zero i)))
      ∗ ((bigSep Finset.univ fun i : Fin ((K (F := F)).nSub 0) => taskOut tb ix d (task (Fin.cast nCore_zero c) (Fin.cast nSub_zero i)))
          -∗ bigSep Finset.univ fun i : Fin 16 => taskOut tb ix d (task (Fin.cast nCore_zero c) i)))
  rw [bigSep_subs (F := F) (fun i => taskIn tb ix ob d (task (Fin.cast nCore_zero c) i)),
    bigSep_subs (F := F) (fun i => taskOut tb ix d (task (Fin.cast nCore_zero c) i))]
  iintro H; imodintro
  isplitl [H]; · iexact H
  iintro H; iexact H

omit [FloatOps F] in
theorem bigSep_tasks (Φ : Fin 32 → sProp 𝕄) :
    (bigSep Finset.univ fun c : Fin 2 => bigSep Finset.univ fun i : Fin 16 => Φ (task c i)) = bigSep Finset.univ Φ := by
  rw [bigSep_univ_equiv taskEquiv Φ, bigSep_univ_prod]; rfl

/-- What the call takes: the list, the table and the result, whole; -/
theorem st_eq (d : Dev nD) : (bigSep Finset.univ fun c : Fin ((K (F := F)).nCore 0) => (P tb ix ob).st 0 d c)
    = iprop((iLoc d ↦{fullShare} ix d) ∗ (tLoc d ↦{fullShare} tb d) ∗ oLoc d ↦{fullShare} ob d) := by
  show (bigSep Finset.univ fun c : Fin ((K (F := F)).nCore 0) => bigSep Finset.univ fun i : Fin 16 => taskIn tb ix ob d (task (Fin.cast nCore_zero c) i)) = _
  rw [bigSep_cores (F := F) (fun c => bigSep Finset.univ fun i : Fin 16 => taskIn tb ix ob d (task c i)), bigSep_tasks (F := F) (fun w => taskIn tb ix ob d w),
    bigSep_sep', bigSep_sep', ← pointsTo_biUnion Finset.univ (ℓ := iLoc d) iSet iSet_disjoint, ← pointsTo_biUnion Finset.univ (ℓ := oLoc d) oSet oSet_disjoint,
    iSet_cover, oSet_cover, ← pointsTo_piecesOf]
/-- and what it leaves: the same, the result now the gathered rows. -/
theorem dn_eq (d : Dev nD) : (bigSep Finset.univ fun c : Fin ((K (F := F)).nCore 0) => (P tb ix ob).dn 0 d c)
    = iprop((iLoc d ↦{fullShare} ix d) ∗ (tLoc d ↦{fullShare} tb d) ∗ oLoc d ↦{fullShare} gathered (tb d) (ix d)) := by
  show (bigSep Finset.univ fun c : Fin ((K (F := F)).nCore 0) => bigSep Finset.univ fun i : Fin 16 => taskOut tb ix d (task (Fin.cast nCore_zero c) i)) = _
  rw [bigSep_cores (F := F) (fun c => bigSep Finset.univ fun i : Fin 16 => taskOut tb ix d (task c i)), bigSep_tasks (F := F) (fun w => taskOut tb ix d w),
    bigSep_sep', bigSep_sep', ← pointsTo_biUnion Finset.univ (ℓ := iLoc d) iSet iSet_disjoint, ← pointsTo_biUnion Finset.univ (ℓ := oLoc d) oSet oSet_disjoint,
    iSet_cover, oSet_cover, ← pointsTo_piecesOf]

end Cert.Proof.KernelIdeal

end
-- ==== Proof.KernelIdeal.Run.lean ====
/- The kernel's run: @main from the launch memory to the contents of every buffer, and the launch of the whole machine. -/
module

public import proofs.«01_k».proof.Proof.KernelIdeal.Tile
public import proofs.«01_k».proof.Proof.KernelIdeal.Host
public import Idealize.ShloMosaic.Lib.SparseCore.Quiescent

@[expose] public section

set_option maxRecDepth 8192

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers' contents between the calls -/

/-- Every buffer before the mask call. -/
def VA (d : Dev nD) : Valuation τ sig (Elt F) := StableHlo.after opsA (StableHlo.launchContents m d)
/-- Every buffer after the mask call. -/
def VM (d : Dev nD) : Valuation τ sig (Elt F) := Pipeline.afterRegion (cfg := cfgs 0) (dats 0 (VA m) d 0) (VA m d)
/-- Every buffer before the SparseCore call. -/
def VB (d : Dev nD) : Valuation τ sig (Elt F) := StableHlo.after opsB (VM m d)
/-- The gather's table, index list and result buffer when it is called. -/
def tb (d : Dev nD) : Buf (Elt F) (tLoc d) := VB m d (Proc.devRef .tc main_v26)
def ix (d : Dev nD) : Buf (Elt F) (iLoc d) := VB m d (Proc.devRef .tc main_v25)
def ob (d : Dev nD) : Buf (Elt F) (oLoc d) := VB m d (Proc.devRef .tc main_v27)
/-- Every buffer after the SparseCore call: its result holds the gathered rows. -/
def VG (d : Dev nD) : Valuation τ sig (Elt F) :=
  Function.update (VB m d) (Proc.devRef .tc main_v27) (gathered (tb m d) (ix m d))
/-- Every buffer before the decode call. -/
def VC (d : Dev nD) : Valuation τ sig (Elt F) := StableHlo.after opsC (VG m d)
/-- Every buffer after the decode call. -/
def VE (d : Dev nD) : Valuation τ sig (Elt F) := Pipeline.afterRegion (cfg := cfgs 1) (dats 1 (VC m) d 1) (VC m d)
/-- Every buffer at the end. -/
def VZ (d : Dev nD) : Valuation τ sig (Elt F) := StableHlo.after opsD (VE m d)

/-! ## The SparseCore call's three buffers out of all of them, and back -/

/-- The gather's three buffers. -/
def scRefs : Finset (DevRef τ sig) := {Proc.devRef .tc main_v25, Proc.devRef .tc main_v26, Proc.devRef .tc main_v27}

theorem scRefs_sub : scRefs ⊆ ucRefs τ sig := by
  intro b hb
  simp only [scRefs, Finset.mem_insert, Finset.mem_singleton] at hb
  rcases hb with rfl | rfl | rfl <;> exact Pipeline.devRef_mem_ucRefs (by decide)

theorem held_scRefs (d : Dev nD) (V : Valuation τ sig (Elt F)) : (StableHlo.held (T d) scRefs V : sProp 𝕄)
    = iprop((iLoc d ↦{fullShare} V (Proc.devRef .tc main_v25)) ∗ (tLoc d ↦{fullShare} V (Proc.devRef .tc main_v26)) ∗ oLoc d ↦{fullShare} V (Proc.devRef .tc main_v27)) := by
  unfold StableHlo.held scRefs
  rw [SparseCore.bigSep_insert' (by decide), SparseCore.bigSep_insert' (by decide), bigSep_singleton]

theorem held_open (d : Dev nD) : (StableHlo.held (T d) (ucRefs τ sig) (StableHlo.after opsB (VM m d)) : sProp 𝕄)
    = iprop(((iLoc d ↦{fullShare} ix m d) ∗ (tLoc d ↦{fullShare} tb m d) ∗ oLoc d ↦{fullShare} ob m d)
      ∗ StableHlo.held (T d) (ucRefs τ sig \ scRefs) (VB m d)) := by
  rw [StableHlo.held_sub_split (T d) scRefs_sub, held_scRefs]; rfl

theorem held_close (d : Dev nD) : (StableHlo.held (T d) (ucRefs τ sig) (VG m d) : sProp 𝕄)
    = iprop(((iLoc d ↦{fullShare} ix m d) ∗ (tLoc d ↦{fullShare} tb m d) ∗ oLoc d ↦{fullShare} gathered (tb m d) (ix m d))
      ∗ StableHlo.held (T d) (ucRefs τ sig \ scRefs) (VB m d)) := by
  rw [StableHlo.held_sub_split (T d) scRefs_sub, held_scRefs,
    StableHlo.held_congr (T d) (S := ucRefs τ sig \ scRefs) (V := VG m d) (V' := VB m d) (fun b hb => by
      refine Function.update_of_ne ?_ _ _
      rintro rfl
      exact (Finset.mem_sdiff.1 hb).2 (by simp [scRefs]))]
  rw [show VG m d (Proc.devRef .tc main_v25) = ix m d from Function.update_of_ne (by decide) _ _,
    show VG m d (Proc.devRef .tc main_v26) = tb m d from Function.update_of_ne (by decide) _ _,
    show VG m d (Proc.devRef .tc main_v27) = gathered (tb m d) (ix m d) from Function.update_self ..]

/-! ## The launch element -/

/-- The staging cells are distinct. -/
theorem hinj : Function.Injective (Pipeline.cellOf (nD := nD) (τ := τ) (Pipeline.pin (pcfgs (F := F)) adm)) := cellOf_inj

/-- What each core's pipelines start with. -/
def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

/-- The launch's ghost state: the handshakes', the pipelines'. -/
def u₀ : UU := (initOf (K (F := F)).hsCells (K (F := F)).hsToks,
  (initOf (Pipeline.cells (Pipeline.pin (pcfgs (F := F)) adm) hinj) (Pipeline.launchToks (Pipeline.pin (pcfgs (F := F)) adm) hinj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P (tb m) (ix m) (ob m)).x q thr) := by
  unfold u₀ G
  iintro Hu
  ihave H := (ownU_pair (initOf (K (F := F)).hsCells (K (F := F)).hsToks)
    ((initOf (Pipeline.cells (Pipeline.pin (pcfgs (F := F)) adm) hinj) (Pipeline.launchToks (Pipeline.pin (pcfgs (F := F)) adm) hinj), 1) : UR sig nD τ × Counters)) $$ Hu
  icases H with ⟨HH, HR⟩
  ihave HR := (own_pair_emb (embR : Emb (UR sig nD τ × Counters) 𝕄)
    (initOf (Pipeline.cells (Pipeline.pin (pcfgs (F := F)) adm) hinj) (Pipeline.launchToks (Pipeline.pin (pcfgs (F := F)) adm) hinj)) (1 : Counters)) $$ HR
  icases HR with ⟨HP, -⟩
  ihave HP := (show BI.own (((Emb.inl : Emb (UR sig nD τ) (UR sig nD τ × Counters)).trans embR : Emb (UR sig nD τ) 𝕄) (initOf (Pipeline.cells (Pipeline.pin (pcfgs (F := F)) adm) hinj) (Pipeline.launchToks (Pipeline.pin (pcfgs (F := F)) adm) hinj)))
    ⊢ BI.own ((EP : Emb (UR sig nD τ) 𝕄) (initOf (Pipeline.cells (Pipeline.pin (pcfgs (F := F)) adm) hinj) (Pipeline.launchToks (Pipeline.pin (pcfgs (F := F)) adm) hinj))) from .rfl) $$ HP
  imod (Pipeline.fund_ghost (Pipeline.pin (pcfgs (F := F)) adm) EP hinj) $$ HP with ⟨Hc, Ht⟩
  imodintro
  isplitl [HH]; · iexact HH
  isplitl [Hc Ht]
  · rw [bigSep_sep']
    isplitl [Hc] <;> iassumption
  rw [show (bigSep Finset.univ fun thr : Thread nD τ => bigSep Finset.univ fun q : Fin 1 => (P (F := F) (tb m) (ix m) (ob m)).x q thr) = bigSep Finset.univ fun _ => iprop(emp) from
    bigSep_congr fun _ _ => bigSep_univ_of_subsingleton (0 : Fin 1), bigSep_emp']
  iempintro

/-! ## @main on the TensorCore -/

set_option backward.isDefEq.respectTransparency.types false in
/-- One pipelined call, in the pipelines' own signature. -/
theorem wp_entry [∀ e, Nonempty (Elt F e)] {V : (c : Dev nD) → Valuation τ sig (Elt F)} {n : ℕ} {p : Fin 2}
    (R : Pipeline.RegionSeg (pcfgs (F := F)) adm (fun p c => dats n V c p) none defs₀ 𝒱₀ (K (F := F)).L (K (F := F)).lev p) (d : Dev nD)
    (Φ : PUnit.{1} → sProp 𝕄) :
    iprop((iprop(boundary (T d) ∗ R.post d) -∗ wp frame (wpE (D (F := F)) 𝒱 (T d) none) Set.univ (.ret ⟨⟩) Φ) ∗ boundary (T d) ∗ R.pre d
        ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE (D (F := F)) 𝒱 (T d) none) Set.univ (.op (.customCall (Pipeline.entry p) ()) fun _ => .ret ⟨⟩ : Prog (TpuEff nD τ sig (Elt F) (ΛP (F := F)) .tc) PUnit) Φ := by
  have h := Pipeline.RegionSeg.wp (pcfgs (F := F)) adm (fun p c => dats n V c p) none hinj EP defs₀ 𝒱₀ (K (F := F)).L (K (F := F)).lev R d
    none (fun _ h => (Option.not_mem_none _ h).elim) (fun _ => .ret PUnit.unit) Φ
  convert h using 3

/-- One pipelined call of @main, in the machine with the SparseCores: a region's step. -/
theorem wp_region [∀ e, Nonempty (Elt F e)] {V : (c : Dev nD) → Valuation τ sig (Elt F)} {n : ℕ} {p : Fin 2}
    (R : Pipeline.RegionSeg (pcfgs (F := F)) adm (fun p c => dats n V c p) none defs₀ 𝒱₀ (K (F := F)).L (K (F := F)).lev p) (d : Dev nD)
    {A B : sProp 𝕄} (hA : R.pre d = A) (hB : R.post d = B) (Φ : PUnit.{1} → sProp 𝕄) :
    iprop((iprop(boundary (T d) ∗ B) -∗ Φ ⟨⟩) ∗ boundary (T d) ∗ A ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ (Prog.lift (.customCall (SparseCore.inner (Pipeline.entry p)) ())) Φ := by
  subst hA hB
  have hl := (K (F := F)).wp_liftProg (D (F := F)) 𝒱 (N := 1) (Name := ℕ) (U := UU) (T d) Set.univ none
    (.op (.customCall (Pipeline.entry p) ()) fun _ => .ret ⟨⟩ : Prog (TpuEff nD τ sig (Elt F) (ΛP (F := F)) .tc) PUnit) Φ
  refine BIBase.Entails.trans ?_ hl
  refine BIBase.Entails.trans ?_ (wp_entry R d Φ)
  iintro ⟨Hk, Hb, Hp, Hl, Hc, Ht⟩
  isplitl [Hk]
  · iintro H; rw [wp_ret]; imodintro; iapply Hk; iexact H
  isplitl [Hb]; · iexact Hb
  isplitl [Hp]; · iexact Hp
  isplitl [Hl]; · iexact Hl
  isplitl [Hc] <;> iassumption

/-- What @main leaves for the claim: every unscoped buffer at its last contents. -/
abbrev FIN (d : Dev nD) : sProp 𝕄 := StableHlo.held (T d) (ucRefs τ sig) (VZ m d)

theorem bigSep_two (Φ : Fin 2 → sProp 𝕄) : bigSep Finset.univ Φ = iprop(Φ 0 ∗ Φ 1) := by
  rw [show (Finset.univ : Finset (Fin 2)) = {0, 1} from rfl, SparseCore.bigSep_insert' (by decide), bigSep_singleton]

theorem fitB : ∀ op ∈ (opsB : List (HloOp τ sig (Elt F))), op.bufs ⊆ StableHlo.tcRefs τ sig ∧ op.fresh = ∅ := by
  intro op h
  simp only [opsB, List.mem_append] at h
  rcases h with h | h | h | h
  exacts [subB1 op h, subB2 op h, subB3 op h, subB4 op h]

/-- A straight line of host operations over every unscoped buffer. -/
theorem wp_line (d : Dev nD) (ops : List (HloOp τ sig (Elt F))) (h : ∀ op ∈ ops, op.bufs ⊆ StableHlo.tcRefs τ sig ∧ op.fresh = ∅)
    (V : Valuation τ sig (Elt F)) (Φ : PUnit → sProp 𝕄) :
    iprop((boundary (T d) ∗ StableHlo.held (T d) (ucRefs τ sig) V) ∗ ((boundary (T d) ∗ StableHlo.held (T d) (ucRefs τ sig) (StableHlo.after ops V)) -∗ Φ ⟨⟩))
      ⊢ wp frame (wpE ((K (F := F)).defs (D (F := F))) 𝒱 (T d) none) Set.univ (StableHlo.seq ops) Φ := by
  have hw := StableHlo.wp_seq (defs := (K (F := F)).defs (D (F := F))) 𝒱 none (Set.univ : Set ℕ) d (ucRefs τ sig) (fun _ => .ret ⟨⟩) (K := Φ) ops
    (fun op ho => Pipeline.sub_ucRefs op (h op ho).1) (fun op ho => (h op ho).2) V
  rw [show (StableHlo.seq ops >>= fun _ => (.ret ⟨⟩ : Prog _ PUnit)) = StableHlo.seq ops from bind_pure _] at hw
  iintro ⟨H, Hk⟩
  iapply hw $$ H
  iintro H
  rw [wp_ret]; imodintro; iapply Hk; iexact H

/-- The two regions' ends: every unscoped buffer, and the handshakes' state. -/
theorem region0_pre (d : Dev nD) : (region0 0 (VA m)).pre d = (iprop(StableHlo.held (SparseCore.T d) (ucRefs τ sig) (VA m d) ∗ (K (F := F)).tcSt EH d 0) : sProp 𝕄) := rfl
theorem region0_post (d : Dev nD) : (region0 0 (VA m)).post d = (iprop(StableHlo.held (SparseCore.T d) (ucRefs τ sig) (VM m d) ∗ (K (F := F)).tcSt EH d 0) : sProp 𝕄) := rfl
theorem region2_pre (d : Dev nD) : (region2 1 (VC m)).pre d = (iprop(StableHlo.held (SparseCore.T d) (ucRefs τ sig) (VC m d) ∗ (K (F := F)).tcSt EH d 1) : sProp 𝕄) := rfl
theorem region2_post (d : Dev nD) : (region2 1 (VC m)).post d = (iprop(StableHlo.held (SparseCore.T d) (ucRefs τ sig) (VE m d) ∗ (K (F := F)).tcSt EH d 1) : sProp 𝕄) := rfl

/-- The launch's unscoped buffers, held at the launch memory. -/
theorem launch_held (d : Dev nD) : (unscopedBufs d (fun b => m ((SparseCore.T d).loc b)) : sProp 𝕄) = StableHlo.held (SparseCore.T d) (ucRefs τ sig) (StableHlo.launchContents m d) :=
  Pipeline.unscopedBufs_held (Ix := HIx 1) (Name := ℕ) (U := UU) (Lvl := ℕ) d (StableHlo.launchContents m d)

set_option backward.isDefEq.respectTransparency.types false in
/-- @main on device `d`'s TensorCore, from the launch memory to the last contents of every unscoped buffer. -/
theorem hmain [∀ e, Nonempty (Elt F e)] (κ : GSem nD τ sig → ℕ) (d : Dev nD) :
    iprop((K (F := F)).ctx EH (P (tb m) (ix m) (ob m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd G
  rw [launch_held]
  rw [main_eq]
  rw [bigSep_two, bigSep_two]
  simp only [wp_bind]
  iintro ⟨#Hctx, Hst, ⟨Hb, Hh, Hts, -⟩, ⟨Hc0, Hc1⟩, Ht0, Ht1⟩
  ihave #Hlev := (SparseCore.Cfg.ctx_levAts κ) $$ Hctx
  iapply (wp_line d opsA subA (StableHlo.launchContents m d))
  isplitl [Hb Hh]; · isplitl [Hb] <;> iassumption
  iintro ⟨Hb, Hh⟩
  iapply (wp_region (region0 0 (VA m)) d (region0_pre m d) (region0_post m d))
  isplitr [Hb Hh Hst Hc0 Ht0]
  swap
  · isplitl [Hb]; · iexact Hb
    isplitl [Hh Hst]
    · isplitl [Hh]; · iexact Hh
      iexact Hst
    isplitr; · iexact Hlev
    isplitl [Hc0] <;> iassumption
  iintro ⟨Hb, Hh, Hst⟩
  iapply (wp_line d opsB fitB (VM m d))
  isplitl [Hb Hh]; · isplitl [Hb] <;> iassumption
  iintro ⟨Hb, Hh⟩
  ihave Hh := (Entails.of_eq (held_open m d)) $$ Hh
  icases Hh with ⟨Hin, Hrest⟩
  iapply ((K (F := F)).wp_run (D (F := F)) 𝒱 (EH := EH) (P := P (tb m) (ix m) (ob m)) κ d 0)
  isplitr; · iexact Hctx
  isplitl [Hst]; · iexact Hst
  isplitl [Hin]; · rw [st_eq]; iexact Hin
  iintro ⟨Hst, Hdn⟩
  ihave Hdn := (Entails.of_eq (dn_eq (tb m) (ix m) (ob m) d)) $$ Hdn
  ihave Hh := (Entails.of_eq (held_close m d).symm) $$ [Hdn Hrest]
  · isplitl [Hdn] <;> iassumption
  iapply (wp_line d opsC subC (VG m d))
  isplitl [Hb Hh]; · isplitl [Hb] <;> iassumption
  iintro ⟨Hb, Hh⟩
  iapply (wp_region (region2 1 (VC m)) d (region2_pre m d) (region2_post m d))
  isplitr [Hb Hh Hst Hc1 Ht1]
  swap
  · isplitl [Hb]; · iexact Hb
    isplitl [Hh Hst]
    · isplitl [Hh]; · iexact Hh
      iexact Hst
    isplitr; · iexact Hlev
    isplitl [Hc1] <;> iassumption
  iintro ⟨Hb, Hh, Hst⟩
  iapply (wp_line d opsD subD (VE m d))
  isplitl [Hb Hh]; · isplitl [Hb] <;> iassumption
  iintro ⟨Hb, Hh⟩
  isplitl [Hst]; · iexact Hst
  isplitl [Hh]; · iexact Hh
  isplitl [Hb] <;> iassumption

/-! ## The machine's run -/

/-- Every unscoped buffer of device `d` at its last contents. -/
def fq (d : Dev nD) (s' : Phys nD τ sig (Elt F)) : Prop := ∀ b ∈ ucRefs τ sig, s'.mem.mem (d, b) = VZ m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave Hr := (pointsTo_read_all (ucRefs τ sig) (fun b => ((T d : Thread nD τ).1, b)) (VZ m d) s') $$ [Hh HSI]
  · isplitl [Hh] <;> iassumption
  icases Hr with ⟨%h, -⟩
  ipureintro; exact h

/-- The kernel's run from any memory whose gather indices name rows: every buffer that lives across @main ends at `VZ`, every semaphore at zero. -/
theorem run_main [∀ e, Nonempty (Elt F e)] (hr : InRange (ix m)) :
    θ_run (Cert.KernelIdeal.defs (F := F)) (Cert.KernelIdeal.threads (F := F)) ⟨m, fun _ => 0, ρ⟩
      fun r => (∀ (d : Dev nD), ∀ b ∈ ucRefs τ sig, r.2.mem (d, b) = VZ m d b) ∧ r.2.sem = fun _ => 0 :=
  SparseCore.Cfg.θ_run_sc_quiescent (K := K (F := F)) (D := D (F := F)) (𝒱 := 𝒱) (EH := EH) (P := P (tb m) (ix m) (ob m)) (A := ∅) facts v₀
    (fun q hq => match q with | 0 => nomatch hq)
    (fun q _ => match q with | 0 => tileObl (tb m) (ix m) (ob m) facts hr)
    (fun q _ => match q with | 0 => SparseCore.Cfg.VecSplit.of_plain (vecSplit (tb m) (ix m) (ob m)))
    m ρ main G (FIN m) (u₀ (F := F)) (sep_elim_left.trans (hu₀ m)) (hmain m ρ) (fq m) (hfin m) _ (fun _ h hz => ⟨h, hz⟩)

end Cert.Proof.KernelIdeal

end
-- ==== Proof.KernelIdeal.End.lean ====
/- What the run leaves in the buffers a claim names: the argument, and the three results as functions of it. -/
module

public import proofs.«01_k».proof.Proof.KernelIdeal.Index
public import proofs.«01_k».proof.Proof.KernelIdeal.Run

@[expose] public section

set_option maxRecDepth 8192

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Cert.Proof.Maths

variable {F : FTy → Type} [FloatOps F]
variable (m : (ℓ : Loc nD τ sig) → Buf (Elt F) ℓ) (d : Dev nD)

/-- The argument. -/
def arg : FVec F S4x512x512x32 .f32 := m (d, Proc.devRef .tc main_arg0)

theorem va_arg : VA m d main_arg0 = arg m d := by
  unfold VA; rw [a_arg]; rfl
theorem va_v4 : VA m d main_v4 = diff (arg m d) := by
  unfold VA; rw [a_v4]; rfl
theorem vm_arg : VM m d main_arg0 = arg m d := by
  unfold VM
  rw [Pipeline.afterRegion_of_not_arr _ _ (by decide)]; exact va_arg m d
/-- The masked heat map. -/
def masked : FVec F S4x512x512 .f32 := VM m d main_v5
theorem ix_eq : ix m d = quarter (overBatch (padIdx (peaks (masked m d)))) := by
  unfold ix VB; rw [b_v25]; rfl
theorem inRange : InRange (ix m) := by
  intro d j
  rw [ix_eq, eq_ix1 j]
  exact row_lt _ _
theorem vb_arg : VB m d main_arg0 = arg m d := by
  unfold VB; rw [b_arg, vm_arg]
theorem vg_arg : VG m d main_arg0 = arg m d := by
  unfold VG; rw [Function.update_of_ne (by decide)]; exact vb_arg m d
theorem vc_arg : VC m d main_arg0 = arg m d := by
  unfold VC; rw [c_arg, vg_arg]
theorem ve_arg : VE m d main_arg0 = arg m d := by
  unfold VE
  rw [Pipeline.afterRegion_of_not_arr _ _ (by decide)]; exact vc_arg m d
theorem vz_arg : VZ m d main_arg0 = arg m d := by
  unfold VZ; rw [d_arg, ve_arg]

theorem vz_values : VZ m d main_values_0 = (top2 (masked m d)).1 := by
  unfold VZ; rw [d_values]
  unfold VE
  rw [Pipeline.afterRegion_of_not_arr _ _ (by decide)]
  unfold VC; rw [c_values]
  unfold VG; rw [Function.update_of_ne (by decide)]
  unfold VB; rw [b_values]; rfl
theorem vz_v33 : VZ m d main_v33 = broadcastInDim S4x1000 ![] bcast_S_S4x1000 (constantI S_ 32 1#32) := by
  unfold VZ; rw [d_v33]

end Cert.Proof.KernelIdeal

end
-- ==== Proof.Ref.Host.lean ====
/- @main of the reference as straight lines of host operations. -/
module

public import proofs.«01_k».proof.Proof.Gen.ReferenceIdeal
public import Idealize.ShloMosaic.Lib.StableHlo.RunHlo
public import Idealize.ShloMosaic.Lib.Quiescent

@[expose] public section

set_option maxRecDepth 8192

noncomputable section
namespace Cert.Proof.Ref

open Cert.ReferenceIdeal Cert.ReferenceIdeal.Gen
open Idealize.ShloMosaic
open Idealize.ShloMosaic.TcCoe Idealize.ShloMosaic.Tactic
open Idealize.SL.Sem

variable {F : FTy → Type} [FloatOps F]

/-- The heat map: channel 1 of a softmax over channels 0 and 1. -/
def ops1 : List (HloOp τ sig (Elt F)) :=
  [ StableHlo.nullary main_cst (fun i => FloatOps.ofBits .f32 (lit0 (S3.rowMajor i))),
    StableHlo.unary main_arg0 main_v0 ((extractStridedSlice S4x512x512x2 ![0, 0, 0, 0] · slices_S4x512x512x32_S4x512x512x2_0_0_0_0) : (⟨S4x512x512x32, .f32⟩ : BufTy).Contents (Elt F) → (⟨S4x512x512x2, .f32⟩ : BufTy).Contents (Elt F)),
    StableHlo.nullary main_cst_0 (constant S_ .f32 0xFF800000#32),
    StableHlo.binary main_v0 main_cst_0 main_v1 ((fun x v => Host.reduce FloatOps.maximumf x v reducesTo_S4x512x512x2_S4x512x512_d3 h_S_) : (⟨S4x512x512x2, .f32⟩ : BufTy).Contents (Elt F) → (⟨S_, .f32⟩ : BufTy).Contents (Elt F) → (⟨S4x512x512, .f32⟩ : BufTy).Contents (Elt F)),
    StableHlo.nullary main_cst_1 (constant S_ .f32 0xFF800000#32),
    StableHlo.unary main_cst_1 main_v2 (broadcastInDim S4x512x512 ![] bcast_S_S4x512x512 : (⟨S_, .f32⟩ : BufTy).Contents (Elt F) → (⟨S4x512x512, .f32⟩ : BufTy).Contents (Elt F)),
    StableHlo.binary main_v2 main_v1 main_v3 (maximumf : (⟨S4x512x512, .f32⟩ : BufTy).Contents (Elt F) → (⟨S4x512x512, .f32⟩ : BufTy).Contents (Elt F) → (⟨S4x512x512, .f32⟩ : BufTy).Contents (Elt F)),
    StableHlo.unary main_v3 main_v4 (broadcastInDim S4x512x512x1 ![0, 1, 2] bcast_S4x512x512_S4x512x512x1_0_1_2 : (⟨S4x512x512, .f32⟩ : BufTy).Contents (Elt F) → (⟨S4x512x512x1, .f32⟩ : BufTy).Contents (Elt F)),
    StableHlo.unary main_v4 main_v5 (broadcastInDim S4x512x512x2 ![0, 1, 2, 3] bcast_S4x512x512x1_S4x512x512x2_0_1_2_3 : (⟨S4x512x512x1, .f32⟩ : BufTy).Contents (Elt F) → (⟨S4x512x512x2, .f32⟩ : BufTy).Contents (Elt F)),
    StableHlo.binary main_v0 main_v5 main_v6 (subf : (⟨S4x512x512x2, .f32⟩ : BufTy).Contents (Elt F) → (⟨S4x512x512x2, .f32⟩ : BufTy).Contents (Elt F) → (⟨S4x512x512x2, .f32⟩ : BufTy).Contents (Elt F)),
    StableHlo.unary main_v6 main_v7 (Host.exp : (⟨S4x512x512x2, .f32⟩ : BufTy).Contents (Elt F) → (⟨S4x512x512x2, .f32⟩ : BufTy).Contents (Elt F)),
    StableHlo.nullary main_cst_2 (constant S_ .f32 0x00000000#32),
    StableHlo.binary main_v7 main_cst_2 main_v8 ((fun x v => Host.reduceAdd x v reducesTo_S4x512x512x2_S4x512x512_d3 h_S_) : (⟨S4x512x512x2, .f32⟩ : BufTy).Contents (Elt F) → (⟨S_, .f32⟩ : BufTy).Contents (Elt F) → (⟨S4x512x512, .f32⟩ : BufTy).Contents (Elt F)),
    StableHlo.unary main_v8 main_v9 (broadcastInDim S4x512x512x1 ![0, 1, 2] bcast_S4x512x512_S4x512x512x1_0_1_2 : (⟨S4x512x512, .f32⟩ : BufTy).Contents (Elt F) → (⟨S4x512x512x1, .f32⟩ : BufTy).Contents (Elt F)),
    StableHlo.unary main_v9 main_v10 (broadcastInDim S4x512x512x2 ![0, 1, 2, 3] bcast_S4x512x512x1_S4x512x512x2_0_1_2_3 : (⟨S4x512x512x1, .f32⟩ : BufTy).Contents (Elt F) → (⟨S4x512x512x2, .f32⟩ : BufTy).Contents (Elt F)),
    StableHlo.binary main_v7 main_v10 main_v11 (Host.divf : (⟨S4x512x512x2, .f32⟩ : BufTy).Contents (Elt F) → (⟨S4x512x512x2, .f32⟩ : BufTy).Contents (Elt F) → (⟨S4x512x512x2, .f32⟩ : BufTy).Contents (Elt F)),
    StableHlo.unary main_v11 main_v12 ((extractStridedSlice S4x512x512x1 ![0, 0, 0, 1] · slices_S4x512x512x2_S4x512x512x1_0_0_0_1) : (⟨S4x512x512x2, .f32⟩ : BufTy).Contents (Elt F) → (⟨S4x512x512x1, .f32⟩ : BufTy).Contents (Elt F)) ]

/-- The peaks of the heat map: what exceeds 0.2 and equals the maximum of its 3 × 3 window. -/
def ops2 : List (HloOp τ sig (Elt F)) :=
  [ StableHlo.nullary main_cst_3 (constant S_ .f32 0xFF800000#32),
    StableHlo.unary main_cst_3 main_v13 (broadcastInDim S_ ![] bcast_S_S_ : (⟨S_, .f32⟩ : BufTy).Contents (Elt F) → (⟨S_, .f32⟩ : BufTy).Contents (Elt F)),
    StableHlo.binary main_v12 main_v13 main_v14 ((fun x v => Host.reduceWindow FloatOps.maximumf ![1, 3, 3, 1] ![1, 1, 1, 1] ![0, 1, 1, 0] ![0, 1, 1, 0] x v reduceWindows_S4x512x512x1_S4x512x512x1_w1s1p0_0_w3s1p1_1_w3s1p1_1_w1s1p0_0 h_S_) : (⟨S4x512x512x1, .f32⟩ : BufTy).Contents (Elt F) → (⟨S_, .f32⟩ : BufTy).Contents (Elt F) → (⟨S4x512x512x1, .f32⟩ : BufTy).Contents (Elt F)),
    StableHlo.nullary main_cst_4 (constant S_ .f32 0x3E4CCCCD#32),
    StableHlo.unary main_cst_4 main_v15 (broadcastInDim S4x512x512x1 ![] bcast_S_S4x512x512x1 : (⟨S_, .f32⟩ : BufTy).Contents (Elt F) → (⟨S4x512x512x1, .f32⟩ : BufTy).Contents (Elt F)),
    StableHlo.binary main_v12 main_v15 main_v16 (cmpf .ogt : (⟨S4x512x512x1, .f32⟩ : BufTy).Contents (Elt F) → (⟨S4x512x512x1, .f32⟩ : BufTy).Contents (Elt F) → (⟨S4x512x512x1, .i1⟩ : BufTy).Contents (Elt F)),
    StableHlo.binary main_v12 main_v14 main_v17 (cmpf .oeq : (⟨S4x512x512x1, .f32⟩ : BufTy).Contents (Elt F) → (⟨S4x512x512x1, .f32⟩ : BufTy).Contents (Elt F) → (⟨S4x512x512x1, .i1⟩ : BufTy).Contents (Elt F)),
    StableHlo.binary main_v16 main_v17 main_v18 (andi : (⟨S4x512x512x1, .i1⟩ : BufTy).Contents (Elt F) → (⟨S4x512x512x1, .i1⟩ : BufTy).Contents (Elt F) → (⟨S4x512x512x1, .i1⟩ : BufTy).Contents (Elt F)),
    StableHlo.nullary main_cst_5 (constant S_ .f32 0x00000000#32),
    StableHlo.unary main_cst_5 main_call0_v0 (id : (⟨S_, .f32⟩ : BufTy).Contents (Elt F) → (⟨S_, .f32⟩ : BufTy).Contents (Elt F)),
    StableHlo.unary main_call0_v0 main_call0_v1 (broadcastInDim S4x512x512x1 ![] bcast_S_S4x512x512x1 : (⟨S_, .f32⟩ : BufTy).Contents (Elt F) → (⟨S4x512x512x1, .f32⟩ : BufTy).Contents (Elt F)),
    StableHlo.ternary main_v18 main_v12 main_call0_v1 main_v19 (select : (⟨S4x512x512x1, .i1⟩ : BufTy).Contents (Elt F) → (⟨S4x512x512x1, .f32⟩ : BufTy).Contents (Elt F) → (⟨S4x512x512x1, .f32⟩ : BufTy).Contents (Elt F) → (⟨S4x512x512x1, .f32⟩ : BufTy).Contents (Elt F)),
    StableHlo.reshape main_v19 main_v20 (rfl : (.f32 : EltTy) = .f32) shapeCasts_S4x512x512x1_S4x512x512,
    StableHlo.reshape main_v20 main_v21 (rfl : (.f32 : EltTy) = .f32) shapeCasts_S4x512x512_S4x262144 ]

/-- The 1000 highest of each image. -/
def ops3 : List (HloOp τ sig (Elt F)) :=
  [ StableHlo.unary main_v21 main_values ((fun x => (Host.topK S4x1000 1 (FloatOps.cmpfTotal .gt) x sliceFits_S4x262144_S4x1000).1) : (⟨S4x262144, .f32⟩ : BufTy).Contents (Elt F) → (⟨S4x1000, .f32⟩ : BufTy).Contents (Elt F)),
    StableHlo.unary main_v21 main_indices ((fun x => (Host.topK S4x1000 1 (FloatOps.cmpfTotal .gt) x sliceFits_S4x262144_S4x1000).2) : (⟨S4x262144, .f32⟩ : BufTy).Contents (Elt F) → (⟨S4x1000, .i32⟩ : BufTy).Contents (Elt F)) ]

/-- Their 30 regression channels. -/
def ops4 : List (HloOp τ sig (Elt F)) :=
  [ StableHlo.unary main_arg0 main_v22 ((extractStridedSlice S4x512x512x30 ![0, 0, 0, 2] · slices_S4x512x512x32_S4x512x512x30_0_0_0_2) : (⟨S4x512x512x32, .f32⟩ : BufTy).Contents (Elt F) → (⟨S4x512x512x30, .f32⟩ : BufTy).Contents (Elt F)),
    StableHlo.reshape main_v22 main_v23 (rfl : (.f32 : EltTy) = .f32) shapeCasts_S4x512x512x30_S4x262144x30,
    StableHlo.unary main_indices main_v24 (broadcastInDim S4x1000x1 ![0, 1] bcast_S4x1000_S4x1000x1_0_1 : (⟨S4x1000, .i32⟩ : BufTy).Contents (Elt F) → (⟨S4x1000x1, .i32⟩ : BufTy).Contents (Elt F)),
    StableHlo.nullary main_call1_c (constantI S_ 32 0#32),
    StableHlo.unary main_call1_c main_call1_v0 (broadcastInDim S4x1000x1 ![] bcast_S_S4x1000x1 : (⟨S_, .i32⟩ : BufTy).Contents (Elt F) → (⟨S4x1000x1, .i32⟩ : BufTy).Contents (Elt F)),
    StableHlo.binary main_v24 main_call1_v0 main_call1_v1 (cmpi .slt : (⟨S4x1000x1, .i32⟩ : BufTy).Contents (Elt F) → (⟨S4x1000x1, .i32⟩ : BufTy).Contents (Elt F) → (⟨S4x1000x1, .i1⟩ : BufTy).Contents (Elt F)),
    StableHlo.nullary main_call1_c_0 (constantI S_ 32 262144#32),
    StableHlo.unary main_call1_c_0 main_call1_v2 (broadcastInDim S4x1000x1 ![] bcast_S_S4x1000x1 : (⟨S_, .i32⟩ : BufTy).Contents (Elt F) → (⟨S4x1000x1, .i32⟩ : BufTy).Contents (Elt F)),
    StableHlo.binary main_v24 main_call1_v2 main_call1_v3 (addi : (⟨S4x1000x1, .i32⟩ : BufTy).Contents (Elt F) → (⟨S4x1000x1, .i32⟩ : BufTy).Contents (Elt F) → (⟨S4x1000x1, .i32⟩ : BufTy).Contents (Elt F)),
    StableHlo.ternary main_call1_v1 main_call1_v3 main_v24 main_call1_v4 (select : (⟨S4x1000x1, .i1⟩ : BufTy).Contents (Elt F) → (⟨S4x1000x1, .i32⟩ : BufTy).Contents (Elt F) → (⟨S4x1000x1, .i32⟩ : BufTy).Contents (Elt F) → (⟨S4x1000x1, .i32⟩ : BufTy).Contents (Elt F)),
    StableHlo.nullary main_call1_c_1 (constantI S1 32 262143#32),
    StableHlo.nullary main_call1_c_2 (constantI S_ 32 0#32),
    StableHlo.unary main_call1_c_2 main_call1_v5 (broadcastInDim S4x1000x1 ![] bcast_S_S4x1000x1 : (⟨S_, .i32⟩ : BufTy).Contents (Elt F) → (⟨S4x1000x1, .i32⟩ : BufTy).Contents (Elt F)),
    StableHlo.binary main_call1_v4 main_call1_v5 main_call1_v6 (cmpi .sge : (⟨S4x1000x1, .i32⟩ : BufTy).Contents (Elt F) → (⟨S4x1000x1, .i32⟩ : BufTy).Contents (Elt F) → (⟨S4x1000x1, .i1⟩ : BufTy).Contents (Elt F)),
    StableHlo.unary main_call1_c_1 main_call1_v7 (broadcastInDim S1x1x1 ![2] bcast_S1_S1x1x1_2 : (⟨S1, .i32⟩ : BufTy).Contents (Elt F) → (⟨S1x1x1, .i32⟩ : BufTy).Contents (Elt F)),
    StableHlo.unary main_call1_v7 main_call1_v8 (broadcastInDim S4x1000x1 ![0, 1, 2] bcast_S1x1x1_S4x1000x1_0_1_2 : (⟨S1x1x1, .i32⟩ : BufTy).Contents (Elt F) → (⟨S4x1000x1, .i32⟩ : BufTy).Contents (Elt F)),
    StableHlo.binary main_call1_v4 main_call1_v8 main_call1_v9 (cmpi .sle : (⟨S4x1000x1, .i32⟩ : BufTy).Contents (Elt F) → (⟨S4x1000x1, .i32⟩ : BufTy).Contents (Elt F) → (⟨S4x1000x1, .i1⟩ : BufTy).Contents (Elt F)),
    StableHlo.binary main_call1_v6 main_call1_v9 main_call1_v10 (andi : (⟨S4x1000x1, .i1⟩ : BufTy).Contents (Elt F) → (⟨S4x1000x1, .i1⟩ : BufTy).Contents (Elt F) → (⟨S4x1000x1, .i1⟩ : BufTy).Contents (Elt F)),
    StableHlo.nullary main_call1_c_3 (constantI S_ 1 1#1),
    StableHlo.binary main_call1_v10 main_call1_c_3 main_call1_v11 ((fun x v => Host.reduce IntOp.andi x v reducesTo_S4x1000x1_S4x1000_d2 h_S_) : (⟨S4x1000x1, .i1⟩ : BufTy).Contents (Elt F) → (⟨S_, .i1⟩ : BufTy).Contents (Elt F) → (⟨S4x1000, .i1⟩ : BufTy).Contents (Elt F)),
    StableHlo.binary main_v23 main_call1_v4 main_call1_v12 ((fun x i => Host.gather gather_S4x262144x30_S4x1000x1_S4x1000x30_2_1_0_0_1_2_1130 x i) : (⟨S4x262144x30, .f32⟩ : BufTy).Contents (Elt F) → (⟨S4x1000x1, .i32⟩ : BufTy).Contents (Elt F) → (⟨S4x1000x30, .f32⟩ : BufTy).Contents (Elt F)),
    StableHlo.unary main_call1_v11 main_call1_v13 (broadcastInDim S4x1000x30 ![0, 1] bcast_S4x1000_S4x1000x30_0_1 : (⟨S4x1000, .i1⟩ : BufTy).Contents (Elt F) → (⟨S4x1000x30, .i1⟩ : BufTy).Contents (Elt F)),
    StableHlo.nullary main_call1_cst (constant S_ .f32 0x7FC00000#32),
    StableHlo.unary main_call1_cst main_call1_v14 (broadcastInDim S4x1000x30 ![] bcast_S_S4x1000x30 : (⟨S_, .f32⟩ : BufTy).Contents (Elt F) → (⟨S4x1000x30, .f32⟩ : BufTy).Contents (Elt F)),
    StableHlo.ternary main_call1_v13 main_call1_v12 main_call1_v14 main_v25 (select : (⟨S4x1000x30, .i1⟩ : BufTy).Contents (Elt F) → (⟨S4x1000x30, .f32⟩ : BufTy).Contents (Elt F) → (⟨S4x1000x30, .f32⟩ : BufTy).Contents (Elt F) → (⟨S4x1000x30, .f32⟩ : BufTy).Contents (Elt F)) ]

/-- Their scores, and their classes. -/
def ops5 : List (HloOp τ sig (Elt F)) :=
  [ StableHlo.nullary main_call2_c (constantI S_ 32 0#32),
    StableHlo.unary main_call2_c main_call2_v0 (broadcastInDim S4x1000 ![] bcast_S_S4x1000 : (⟨S_, .i32⟩ : BufTy).Contents (Elt F) → (⟨S4x1000, .i32⟩ : BufTy).Contents (Elt F)),
    StableHlo.binary main_indices main_call2_v0 main_call2_v1 (cmpi .slt : (⟨S4x1000, .i32⟩ : BufTy).Contents (Elt F) → (⟨S4x1000, .i32⟩ : BufTy).Contents (Elt F) → (⟨S4x1000, .i1⟩ : BufTy).Contents (Elt F)),
    StableHlo.nullary main_call2_c_0 (constantI S_ 32 262144#32),
    StableHlo.unary main_call2_c_0 main_call2_v2 (broadcastInDim S4x1000 ![] bcast_S_S4x1000 : (⟨S_, .i32⟩ : BufTy).Contents (Elt F) → (⟨S4x1000, .i32⟩ : BufTy).Contents (Elt F)),
    StableHlo.binary main_indices main_call2_v2 main_call2_v3 (addi : (⟨S4x1000, .i32⟩ : BufTy).Contents (Elt F) → (⟨S4x1000, .i32⟩ : BufTy).Contents (Elt F) → (⟨S4x1000, .i32⟩ : BufTy).Contents (Elt F)),
    StableHlo.ternary main_call2_v1 main_call2_v3 main_indices main_call2_v4 (select : (⟨S4x1000, .i1⟩ : BufTy).Contents (Elt F) → (⟨S4x1000, .i32⟩ : BufTy).Contents (Elt F) → (⟨S4x1000, .i32⟩ : BufTy).Contents (Elt F) → (⟨S4x1000, .i32⟩ : BufTy).Contents (Elt F)),
    StableHlo.reshape main_call2_v4 main_call2_v5 (rfl : (.i32 : EltTy) = .i32) shapeCasts_S4x1000_S4x1000x1,
    StableHlo.nullary main_call2_c_1 (constantI S1 32 262143#32),
    StableHlo.nullary main_call2_c_2 (constantI S_ 32 0#32),
    StableHlo.unary main_call2_c_2 main_call2_v6 (broadcastInDim S4x1000x1 ![] bcast_S_S4x1000x1 : (⟨S_, .i32⟩ : BufTy).Contents (Elt F) → (⟨S4x1000x1, .i32⟩ : BufTy).Contents (Elt F)),
    StableHlo.binary main_call2_v5 main_call2_v6 main_call2_v7 (cmpi .sge : (⟨S4x1000x1, .i32⟩ : BufTy).Contents (Elt F) → (⟨S4x1000x1, .i32⟩ : BufTy).Contents (Elt F) → (⟨S4x1000x1, .i1⟩ : BufTy).Contents (Elt F)),
    StableHlo.unary main_call2_c_1 main_call2_v8 (broadcastInDim S1x1x1 ![2] bcast_S1_S1x1x1_2 : (⟨S1, .i32⟩ : BufTy).Contents (Elt F) → (⟨S1x1x1, .i32⟩ : BufTy).Contents (Elt F)),
    StableHlo.unary main_call2_v8 main_call2_v9 (broadcastInDim S4x1000x1 ![0, 1, 2] bcast_S1x1x1_S4x1000x1_0_1_2 : (⟨S1x1x1, .i32⟩ : BufTy).Contents (Elt F) → (⟨S4x1000x1, .i32⟩ : BufTy).Contents (Elt F)),
    StableHlo.binary main_call2_v5 main_call2_v9 main_call2_v10 (cmpi .sle : (⟨S4x1000x1, .i32⟩ : BufTy).Contents (Elt F) → (⟨S4x1000x1, .i32⟩ : BufTy).Contents (Elt F) → (⟨S4x1000x1, .i1⟩ : BufTy).Contents (Elt F)),
    StableHlo.binary main_call2_v7 main_call2_v10 main_call2_v11 (andi : (⟨S4x1000x1, .i1⟩ : BufTy).Contents (Elt F) → (⟨S4x1000x1, .i1⟩ : BufTy).Contents (Elt F) → (⟨S4x1000x1, .i1⟩ : BufTy).Contents (Elt F)),
    StableHlo.nullary main_call2_c_3 (constantI S_ 1 1#1),
    StableHlo.binary main_call2_v11 main_call2_c_3 main_call2_v12 ((fun x v => Host.reduce IntOp.andi x v reducesTo_S4x1000x1_S4x1000_d2 h_S_) : (⟨S4x1000x1, .i1⟩ : BufTy).Contents (Elt F) → (⟨S_, .i1⟩ : BufTy).Contents (Elt F) → (⟨S4x1000, .i1⟩ : BufTy).Contents (Elt F)),
    StableHlo.binary main_v21 main_call2_v5 main_call2_v13 ((fun x i => Host.gather gather_S4x262144_S4x1000x1_S4x1000_n_1_0_0_1_2_11 x i) : (⟨S4x262144, .f32⟩ : BufTy).Contents (Elt F) → (⟨S4x1000x1, .i32⟩ : BufTy).Contents (Elt F) → (⟨S4x1000, .f32⟩ : BufTy).Contents (Elt F)),
    StableHlo.nullary main_call2_cst (constant S_ .f32 0x7FC00000#32),
    StableHlo.unary main_call2_cst main_call2_v14 (broadcastInDim S4x1000 ![] bcast_S_S4x1000 : (⟨S_, .f32⟩ : BufTy).Contents (Elt F) → (⟨S4x1000, .f32⟩ : BufTy).Contents (Elt F)),
    StableHlo.ternary main_call2_v12 main_call2_v13 main_call2_v14 main_v26 (select : (⟨S4x1000, .i1⟩ : BufTy).Contents (Elt F) → (⟨S4x1000, .f32⟩ : BufTy).Contents (Elt F) → (⟨S4x1000, .f32⟩ : BufTy).Contents (Elt F) → (⟨S4x1000, .f32⟩ : BufTy).Contents (Elt F)),
    StableHlo.nullary main_c (constantI S_ 32 1#32),
    StableHlo.unary main_c main_v27 (broadcastInDim S4x1000 ![] bcast_S_S4x1000 : (⟨S_, .i32⟩ : BufTy).Contents (Elt F) → (⟨S4x1000, .i32⟩ : BufTy).Contents (Elt F)),
    StableHlo.nullary main_c_6 (constantI S_ 32 1#32),
    StableHlo.unary main_c_6 main_v28 (broadcastInDim S4x1000 ![] bcast_S_S4x1000 : (⟨S_, .i32⟩ : BufTy).Contents (Elt F) → (⟨S4x1000, .i32⟩ : BufTy).Contents (Elt F)),
    StableHlo.binary main_v27 main_v28 main_v29 (muli : (⟨S4x1000, .i32⟩ : BufTy).Contents (Elt F) → (⟨S4x1000, .i32⟩ : BufTy).Contents (Elt F) → (⟨S4x1000, .i32⟩ : BufTy).Contents (Elt F)) ]

/-- The columns: the offsets, the heading bin, the residual of that bin. -/
def ops6 : List (HloOp τ sig (Elt F)) :=
  [ StableHlo.reshape main_v25 main_v30 (rfl : (.f32 : EltTy) = .f32) shapeCasts_S4x1000x30_S4000x30,
    StableHlo.unary main_v30 main_v31 ((extractStridedSlice S4000x1 ![0, 0] · slices_S4000x30_S4000x1_0_0) : (⟨S4000x30, .f32⟩ : BufTy).Contents (Elt F) → (⟨S4000x1, .f32⟩ : BufTy).Contents (Elt F)),
    StableHlo.reshape main_v31 main_v32 (rfl : (.f32 : EltTy) = .f32) shapeCasts_S4000x1_S4000,
    StableHlo.unary main_v30 main_v33 ((extractStridedSlice S4000x1 ![0, 1] · slices_S4000x30_S4000x1_0_1) : (⟨S4000x30, .f32⟩ : BufTy).Contents (Elt F) → (⟨S4000x1, .f32⟩ : BufTy).Contents (Elt F)),
    StableHlo.reshape main_v33 main_v34 (rfl : (.f32 : EltTy) = .f32) shapeCasts_S4000x1_S4000,
    StableHlo.unary main_v30 main_v35 ((extractStridedSlice S4000x1 ![0, 2] · slices_S4000x30_S4000x1_0_2) : (⟨S4000x30, .f32⟩ : BufTy).Contents (Elt F) → (⟨S4000x1, .f32⟩ : BufTy).Contents (Elt F)),
    StableHlo.reshape main_v35 main_v36 (rfl : (.f32 : EltTy) = .f32) shapeCasts_S4000x1_S4000,
    StableHlo.unary main_v30 main_v37 ((extractStridedSlice S4000x27 ![0, 3] · slices_S4000x30_S4000x27_0_3) : (⟨S4000x30, .f32⟩ : BufTy).Contents (Elt F) → (⟨S4000x27, .f32⟩ : BufTy).Contents (Elt F)),
    StableHlo.unary main_v37 main_v38 ((extractStridedSlice S4000x12 ![0, 0] · slices_S4000x27_S4000x12_0_0) : (⟨S4000x27, .f32⟩ : BufTy).Contents (Elt F) → (⟨S4000x12, .f32⟩ : BufTy).Contents (Elt F)),
    StableHlo.nullary main_call3_v0 (iotaInDim S4000x12 32 1),
    StableHlo.nullary main_call3_cst (constant S_ .f32 0xFF800000#32),
    StableHlo.nullary main_call3_c (constantI S_ 32 0#32),
    StableHlo.quaternary main_v38 main_call3_v0 main_call3_cst main_call3_c main_call3_v1_0 ((fun x y u v j => (Host.argReduce reducer_argmax_f32_i32 x y u v reducesTo_S4000x12_S4000_d1 h_S_ j).1) : (⟨S4000x12, .f32⟩ : BufTy).Contents (Elt F) → (⟨S4000x12, .i32⟩ : BufTy).Contents (Elt F) → (⟨S_, .f32⟩ : BufTy).Contents (Elt F) → (⟨S_, .i32⟩ : BufTy).Contents (Elt F) → (⟨S4000, .f32⟩ : BufTy).Contents (Elt F)),
    StableHlo.quaternary main_v38 main_call3_v0 main_call3_cst main_call3_c main_v39 ((fun x y u v j => (Host.argReduce reducer_argmax_f32_i32 x y u v reducesTo_S4000x12_S4000_d1 h_S_ j).2) : (⟨S4000x12, .f32⟩ : BufTy).Contents (Elt F) → (⟨S4000x12, .i32⟩ : BufTy).Contents (Elt F) → (⟨S_, .f32⟩ : BufTy).Contents (Elt F) → (⟨S_, .i32⟩ : BufTy).Contents (Elt F) → (⟨S4000, .i32⟩ : BufTy).Contents (Elt F)),
    StableHlo.unary main_v39 main_v40 (sitofp .f32 : (⟨S4000, .i32⟩ : BufTy).Contents (Elt F) → (⟨S4000, .f32⟩ : BufTy).Contents (Elt F)),
    StableHlo.unary main_v37 main_v41 ((extractStridedSlice S4000x12 ![0, 12] · slices_S4000x27_S4000x12_0_12) : (⟨S4000x27, .f32⟩ : BufTy).Contents (Elt F) → (⟨S4000x12, .f32⟩ : BufTy).Contents (Elt F)),
    StableHlo.unary main_v39 main_v42 (broadcastInDim S4000x1 ![0] bcast_S4000_S4000x1_0 : (⟨S4000, .i32⟩ : BufTy).Contents (Elt F) → (⟨S4000x1, .i32⟩ : BufTy).Contents (Elt F)),
    StableHlo.nullary main_call4_c (constantI S_ 32 0#32),
    StableHlo.unary main_call4_c main_call4_v0 (broadcastInDim S4000x1 ![] bcast_S_S4000x1 : (⟨S_, .i32⟩ : BufTy).Contents (Elt F) → (⟨S4000x1, .i32⟩ : BufTy).Contents (Elt F)),
    StableHlo.binary main_v42 main_call4_v0 main_call4_v1 (cmpi .slt : (⟨S4000x1, .i32⟩ : BufTy).Contents (Elt F) → (⟨S4000x1, .i32⟩ : BufTy).Contents (Elt F) → (⟨S4000x1, .i1⟩ : BufTy).Contents (Elt F)),
    StableHlo.nullary main_call4_c_0 (constantI S_ 32 12#32),
    StableHlo.unary main_call4_c_0 main_call4_v2 (broadcastInDim S4000x1 ![] bcast_S_S4000x1 : (⟨S_, .i32⟩ : BufTy).Contents (Elt F) → (⟨S4000x1, .i32⟩ : BufTy).Contents (Elt F)),
    StableHlo.binary main_v42 main_call4_v2 main_call4_v3 (addi : (⟨S4000x1, .i32⟩ : BufTy).Contents (Elt F) → (⟨S4000x1, .i32⟩ : BufTy).Contents (Elt F) → (⟨S4000x1, .i32⟩ : BufTy).Contents (Elt F)),
    StableHlo.ternary main_call4_v1 main_call4_v3 main_v42 main_call4_v4 (select : (⟨S4000x1, .i1⟩ : BufTy).Contents (Elt F) → (⟨S4000x1, .i32⟩ : BufTy).Contents (Elt F) → (⟨S4000x1, .i32⟩ : BufTy).Contents (Elt F) → (⟨S4000x1, .i32⟩ : BufTy).Contents (Elt F)),
    StableHlo.reshape main_call4_v4 main_call4_v5 (rfl : (.i32 : EltTy) = .i32) shapeCasts_S4000x1_S4000x1x1,
    StableHlo.nullary main_call4_c_1 (constantI S1 32 11#32),
    StableHlo.nullary main_call4_c_2 (constantI S_ 32 0#32),
    StableHlo.unary main_call4_c_2 main_call4_v6 (broadcastInDim S4000x1x1 ![] bcast_S_S4000x1x1 : (⟨S_, .i32⟩ : BufTy).Contents (Elt F) → (⟨S4000x1x1, .i32⟩ : BufTy).Contents (Elt F)),
    StableHlo.binary main_call4_v5 main_call4_v6 main_call4_v7 (cmpi .sge : (⟨S4000x1x1, .i32⟩ : BufTy).Contents (Elt F) → (⟨S4000x1x1, .i32⟩ : BufTy).Contents (Elt F) → (⟨S4000x1x1, .i1⟩ : BufTy).Contents (Elt F)),
    StableHlo.unary main_call4_c_1 main_call4_v8 (broadcastInDim S1x1x1 ![2] bcast_S1_S1x1x1_2 : (⟨S1, .i32⟩ : BufTy).Contents (Elt F) → (⟨S1x1x1, .i32⟩ : BufTy).Contents (Elt F)),
    StableHlo.unary main_call4_v8 main_call4_v9 (broadcastInDim S4000x1x1 ![0, 1, 2] bcast_S1x1x1_S4000x1x1_0_1_2 : (⟨S1x1x1, .i32⟩ : BufTy).Contents (Elt F) → (⟨S4000x1x1, .i32⟩ : BufTy).Contents (Elt F)),
    StableHlo.binary main_call4_v5 main_call4_v9 main_call4_v10 (cmpi .sle : (⟨S4000x1x1, .i32⟩ : BufTy).Contents (Elt F) → (⟨S4000x1x1, .i32⟩ : BufTy).Contents (Elt F) → (⟨S4000x1x1, .i1⟩ : BufTy).Contents (Elt F)),
    StableHlo.binary main_call4_v7 main_call4_v10 main_call4_v11 (andi : (⟨S4000x1x1, .i1⟩ : BufTy).Contents (Elt F) → (⟨S4000x1x1, .i1⟩ : BufTy).Contents (Elt F) → (⟨S4000x1x1, .i1⟩ : BufTy).Contents (Elt F)),
    StableHlo.nullary main_call4_c_3 (constantI S_ 1 1#1),
    StableHlo.binary main_call4_v11 main_call4_c_3 main_call4_v12 ((fun x v => Host.reduce IntOp.andi x v reducesTo_S4000x1x1_S4000x1_d2 h_S_) : (⟨S4000x1x1, .i1⟩ : BufTy).Contents (Elt F) → (⟨S_, .i1⟩ : BufTy).Contents (Elt F) → (⟨S4000x1, .i1⟩ : BufTy).Contents (Elt F)),
    StableHlo.binary main_v41 main_call4_v5 main_call4_v13 ((fun x i => Host.gather gather_S4000x12_S4000x1x1_S4000x1_n_1_0_0_1_2_11 x i) : (⟨S4000x12, .f32⟩ : BufTy).Contents (Elt F) → (⟨S4000x1x1, .i32⟩ : BufTy).Contents (Elt F) → (⟨S4000x1, .f32⟩ : BufTy).Contents (Elt F)),
    StableHlo.nullary main_call4_cst (constant S_ .f32 0x7FC00000#32),
    StableHlo.unary main_call4_cst main_call4_v14 (broadcastInDim S4000x1 ![] bcast_S_S4000x1 : (⟨S_, .f32⟩ : BufTy).Contents (Elt F) → (⟨S4000x1, .f32⟩ : BufTy).Contents (Elt F)),
    StableHlo.ternary main_call4_v12 main_call4_v13 main_call4_v14 main_v43 (select : (⟨S4000x1, .i1⟩ : BufTy).Contents (Elt F) → (⟨S4000x1, .f32⟩ : BufTy).Contents (Elt F) → (⟨S4000x1, .f32⟩ : BufTy).Contents (Elt F) → (⟨S4000x1, .f32⟩ : BufTy).Contents (Elt F)),
    StableHlo.reshape main_v43 main_v44 (rfl : (.f32 : EltTy) = .f32) shapeCasts_S4000x1_S4000 ]

/-- The heading. -/
def ops7 : List (HloOp τ sig (Elt F)) :=
  [ StableHlo.nullary main_cst_7 (constant S_ .f32 0x3E860A92#32),
    StableHlo.unary main_cst_7 main_v45 (broadcastInDim S4000 ![] bcast_S_S4000 : (⟨S_, .f32⟩ : BufTy).Contents (Elt F) → (⟨S4000, .f32⟩ : BufTy).Contents (Elt F)),
    StableHlo.binary main_v44 main_v45 main_v46 (mulf : (⟨S4000, .f32⟩ : BufTy).Contents (Elt F) → (⟨S4000, .f32⟩ : BufTy).Contents (Elt F) → (⟨S4000, .f32⟩ : BufTy).Contents (Elt F)),
    StableHlo.nullary main_cst_8 (constant S_ .f32 0x3F060A92#32),
    StableHlo.unary main_cst_8 main_v47 (broadcastInDim S4000 ![] bcast_S_S4000 : (⟨S_, .f32⟩ : BufTy).Contents (Elt F) → (⟨S4000, .f32⟩ : BufTy).Contents (Elt F)),
    StableHlo.binary main_v40 main_v47 main_v48 (mulf : (⟨S4000, .f32⟩ : BufTy).Contents (Elt F) → (⟨S4000, .f32⟩ : BufTy).Contents (Elt F) → (⟨S4000, .f32⟩ : BufTy).Contents (Elt F)),
    StableHlo.binary main_v48 main_v46 main_v49 (addf : (⟨S4000, .f32⟩ : BufTy).Contents (Elt F) → (⟨S4000, .f32⟩ : BufTy).Contents (Elt F) → (⟨S4000, .f32⟩ : BufTy).Contents (Elt F)),
    StableHlo.nullary main_cst_9 (constant S_ .f32 0x40C90FDB#32),
    StableHlo.unary main_cst_9 main_call5_v0 (id : (⟨S_, .f32⟩ : BufTy).Contents (Elt F) → (⟨S_, .f32⟩ : BufTy).Contents (Elt F)),
    StableHlo.unary main_call5_v0 main_call5_v1 (broadcastInDim S4000 ![] bcast_S_S4000 : (⟨S_, .f32⟩ : BufTy).Contents (Elt F) → (⟨S4000, .f32⟩ : BufTy).Contents (Elt F)),
    StableHlo.binary main_v49 main_call5_v1 main_call5_v2 (Host.remf : (⟨S4000, .f32⟩ : BufTy).Contents (Elt F) → (⟨S4000, .f32⟩ : BufTy).Contents (Elt F) → (⟨S4000, .f32⟩ : BufTy).Contents (Elt F)),
    StableHlo.nullary main_call5_cst (constant S_ .f32 0x00000000#32),
    StableHlo.unary main_call5_cst main_call5_v3 (broadcastInDim S4000 ![] bcast_S_S4000 : (⟨S_, .f32⟩ : BufTy).Contents (Elt F) → (⟨S4000, .f32⟩ : BufTy).Contents (Elt F)),
    StableHlo.binary main_call5_v2 main_call5_v3 main_call5_v4 (cmpf .une : (⟨S4000, .f32⟩ : BufTy).Contents (Elt F) → (⟨S4000, .f32⟩ : BufTy).Contents (Elt F) → (⟨S4000, .i1⟩ : BufTy).Contents (Elt F)),
    StableHlo.nullary main_call5_cst_0 (constant S_ .f32 0x00000000#32),
    StableHlo.unary main_call5_cst_0 main_call5_v5 (broadcastInDim S4000 ![] bcast_S_S4000 : (⟨S_, .f32⟩ : BufTy).Contents (Elt F) → (⟨S4000, .f32⟩ : BufTy).Contents (Elt F)),
    StableHlo.binary main_call5_v2 main_call5_v5 main_call5_v6 (cmpf .olt : (⟨S4000, .f32⟩ : BufTy).Contents (Elt F) → (⟨S4000, .f32⟩ : BufTy).Contents (Elt F) → (⟨S4000, .i1⟩ : BufTy).Contents (Elt F)),
    StableHlo.nullary main_call5_cst_1 (constant S_ .f32 0x00000000#32),
    StableHlo.binary main_call5_v0 main_call5_cst_1 main_call5_v7 (cmpf .olt : (⟨S_, .f32⟩ : BufTy).Contents (Elt F) → (⟨S_, .f32⟩ : BufTy).Contents (Elt F) → (⟨S_, .i1⟩ : BufTy).Contents (Elt F)),
    StableHlo.unary main_call5_v7 main_call5_v8 (broadcastInDim S4000 ![] bcast_S_S4000 : (⟨S_, .i1⟩ : BufTy).Contents (Elt F) → (⟨S4000, .i1⟩ : BufTy).Contents (Elt F)),
    StableHlo.binary main_call5_v6 main_call5_v8 main_call5_v9 (cmpi .ne : (⟨S4000, .i1⟩ : BufTy).Contents (Elt F) → (⟨S4000, .i1⟩ : BufTy).Contents (Elt F) → (⟨S4000, .i1⟩ : BufTy).Contents (Elt F)),
    StableHlo.binary main_call5_v9 main_call5_v4 main_call5_v10 (andi : (⟨S4000, .i1⟩ : BufTy).Contents (Elt F) → (⟨S4000, .i1⟩ : BufTy).Contents (Elt F) → (⟨S4000, .i1⟩ : BufTy).Contents (Elt F)),
    StableHlo.unary main_call5_v0 main_call5_v11 (broadcastInDim S4000 ![] bcast_S_S4000 : (⟨S_, .f32⟩ : BufTy).Contents (Elt F) → (⟨S4000, .f32⟩ : BufTy).Contents (Elt F)),
    StableHlo.binary main_call5_v2 main_call5_v11 main_call5_v12 (addf : (⟨S4000, .f32⟩ : BufTy).Contents (Elt F) → (⟨S4000, .f32⟩ : BufTy).Contents (Elt F) → (⟨S4000, .f32⟩ : BufTy).Contents (Elt F)),
    StableHlo.ternary main_call5_v10 main_call5_v12 main_call5_v2 main_v50 (select : (⟨S4000, .i1⟩ : BufTy).Contents (Elt F) → (⟨S4000, .f32⟩ : BufTy).Contents (Elt F) → (⟨S4000, .f32⟩ : BufTy).Contents (Elt F) → (⟨S4000, .f32⟩ : BufTy).Contents (Elt F)),
    StableHlo.nullary main_cst_10 (constant S_ .f32 0x40490FDB#32),
    StableHlo.unary main_cst_10 main_v51 (broadcastInDim S4000 ![] bcast_S_S4000 : (⟨S_, .f32⟩ : BufTy).Contents (Elt F) → (⟨S4000, .f32⟩ : BufTy).Contents (Elt F)),
    StableHlo.binary main_v50 main_v51 main_v52 (cmpf .ogt : (⟨S4000, .f32⟩ : BufTy).Contents (Elt F) → (⟨S4000, .f32⟩ : BufTy).Contents (Elt F) → (⟨S4000, .i1⟩ : BufTy).Contents (Elt F)),
    StableHlo.nullary main_cst_11 (constant S_ .f32 0x40C90FDB#32),
    StableHlo.unary main_cst_11 main_v53 (broadcastInDim S4000 ![] bcast_S_S4000 : (⟨S_, .f32⟩ : BufTy).Contents (Elt F) → (⟨S4000, .f32⟩ : BufTy).Contents (Elt F)),
    StableHlo.binary main_v50 main_v53 main_v54 (subf : (⟨S4000, .f32⟩ : BufTy).Contents (Elt F) → (⟨S4000, .f32⟩ : BufTy).Contents (Elt F) → (⟨S4000, .f32⟩ : BufTy).Contents (Elt F)),
    StableHlo.ternary main_v52 main_v54 main_v50 main_v55 (select : (⟨S4000, .i1⟩ : BufTy).Contents (Elt F) → (⟨S4000, .f32⟩ : BufTy).Contents (Elt F) → (⟨S4000, .f32⟩ : BufTy).Contents (Elt F) → (⟨S4000, .f32⟩ : BufTy).Contents (Elt F)) ]

/-- The sizes, and the seven columns of the boxes. -/
def ops8 : List (HloOp τ sig (Elt F)) :=
  [ StableHlo.unary main_v30 main_v56 ((extractStridedSlice S4000x3 ![0, 27] · slices_S4000x30_S4000x3_0_27) : (⟨S4000x30, .f32⟩ : BufTy).Contents (Elt F) → (⟨S4000x3, .f32⟩ : BufTy).Contents (Elt F)),
    StableHlo.unary main_cst main_v57 (broadcastInDim S1x3 ![1] bcast_S3_S1x3_1 : (⟨S3, .f32⟩ : BufTy).Contents (Elt F) → (⟨S1x3, .f32⟩ : BufTy).Contents (Elt F)),
    StableHlo.unary main_v57 main_v58 (broadcastInDim S4000x3 ![0, 1] bcast_S1x3_S4000x3_0_1 : (⟨S1x3, .f32⟩ : BufTy).Contents (Elt F) → (⟨S4000x3, .f32⟩ : BufTy).Contents (Elt F)),
    StableHlo.binary main_v56 main_v58 main_v59 (mulf : (⟨S4000x3, .f32⟩ : BufTy).Contents (Elt F) → (⟨S4000x3, .f32⟩ : BufTy).Contents (Elt F) → (⟨S4000x3, .f32⟩ : BufTy).Contents (Elt F)),
    StableHlo.unary main_cst main_v60 (broadcastInDim S1x3 ![1] bcast_S3_S1x3_1 : (⟨S3, .f32⟩ : BufTy).Contents (Elt F) → (⟨S1x3, .f32⟩ : BufTy).Contents (Elt F)),
    StableHlo.unary main_v60 main_v61 (broadcastInDim S4000x3 ![0, 1] bcast_S1x3_S4000x3_0_1 : (⟨S1x3, .f32⟩ : BufTy).Contents (Elt F) → (⟨S4000x3, .f32⟩ : BufTy).Contents (Elt F)),
    StableHlo.binary main_v59 main_v61 main_v62 (addf : (⟨S4000x3, .f32⟩ : BufTy).Contents (Elt F) → (⟨S4000x3, .f32⟩ : BufTy).Contents (Elt F) → (⟨S4000x3, .f32⟩ : BufTy).Contents (Elt F)),
    StableHlo.unary main_v32 main_v63 (broadcastInDim S4000x1 ![0] bcast_S4000_S4000x1_0 : (⟨S4000, .f32⟩ : BufTy).Contents (Elt F) → (⟨S4000x1, .f32⟩ : BufTy).Contents (Elt F)),
    StableHlo.unary main_v34 main_v64 (broadcastInDim S4000x1 ![0] bcast_S4000_S4000x1_0 : (⟨S4000, .f32⟩ : BufTy).Contents (Elt F) → (⟨S4000x1, .f32⟩ : BufTy).Contents (Elt F)),
    StableHlo.unary main_v36 main_v65 (broadcastInDim S4000x1 ![0] bcast_S4000_S4000x1_0 : (⟨S4000, .f32⟩ : BufTy).Contents (Elt F) → (⟨S4000x1, .f32⟩ : BufTy).Contents (Elt F)),
    StableHlo.nary ![main_v63, main_v64, main_v65] main_v66 (fun u => (concatenate S4000x3 1 [⟨S4000x1, (u 0 : (⟨S4000x1, .f32⟩ : BufTy).Contents (Elt F))⟩, ⟨S4000x1, (u 1 : (⟨S4000x1, .f32⟩ : BufTy).Contents (Elt F))⟩, ⟨S4000x1, (u 2 : (⟨S4000x1, .f32⟩ : BufTy).Contents (Elt F))⟩] concatenates_S4000x1_S4000x1_S4000x1_S4000x3_d1 : (⟨S4000x3, .f32⟩ : BufTy).Contents (Elt F))),
    StableHlo.unary main_v55 main_v67 (broadcastInDim S4000x1 ![0] bcast_S4000_S4000x1_0 : (⟨S4000, .f32⟩ : BufTy).Contents (Elt F) → (⟨S4000x1, .f32⟩ : BufTy).Contents (Elt F)),
    StableHlo.nary ![main_v66, main_v62, main_v67] main_v68 (fun u => (concatenate S4000x7 1 [⟨S4000x3, (u 0 : (⟨S4000x3, .f32⟩ : BufTy).Contents (Elt F))⟩, ⟨S4000x3, (u 1 : (⟨S4000x3, .f32⟩ : BufTy).Contents (Elt F))⟩, ⟨S4000x1, (u 2 : (⟨S4000x1, .f32⟩ : BufTy).Contents (Elt F))⟩] concatenates_S4000x3_S4000x3_S4000x1_S4000x7_d1 : (⟨S4000x7, .f32⟩ : BufTy).Contents (Elt F))),
    StableHlo.reshape main_v68 main_v69 (rfl : (.f32 : EltTy) = .f32) shapeCasts_S4000x7_S4x1000x7 ]

/-- The grid of anchor centres. -/
def ops9 : List (HloOp τ sig (Elt F)) :=
  [ StableHlo.nullary main_cst_12 (constant S_ .f32 0x00000000#32),
    StableHlo.unary main_cst_12 main_v70 (broadcastInDim S4x3 ![] bcast_S_S4x3 : (⟨S_, .f32⟩ : BufTy).Contents (Elt F) → (⟨S4x3, .f32⟩ : BufTy).Contents (Elt F)),
    StableHlo.nullary main_v71 (sitofp .f32 (iotaInDim S512 32 0)),
    StableHlo.nullary main_cst_13 (constant S_ .f32 0x3F000000#32),
    StableHlo.unary main_cst_13 main_v72 (broadcastInDim S512 ![] bcast_S_S512 : (⟨S_, .f32⟩ : BufTy).Contents (Elt F) → (⟨S512, .f32⟩ : BufTy).Contents (Elt F)),
    StableHlo.binary main_v71 main_v72 main_v73 (addf : (⟨S512, .f32⟩ : BufTy).Contents (Elt F) → (⟨S512, .f32⟩ : BufTy).Contents (Elt F) → (⟨S512, .f32⟩ : BufTy).Contents (Elt F)),
    StableHlo.nullary main_cst_14 (constant S_ .f32 0x3EA3D70A#32),
    StableHlo.unary main_cst_14 main_v74 (broadcastInDim S512 ![] bcast_S_S512 : (⟨S_, .f32⟩ : BufTy).Contents (Elt F) → (⟨S512, .f32⟩ : BufTy).Contents (Elt F)),
    StableHlo.binary main_v73 main_v74 main_v75 (mulf : (⟨S512, .f32⟩ : BufTy).Contents (Elt F) → (⟨S512, .f32⟩ : BufTy).Contents (Elt F) → (⟨S512, .f32⟩ : BufTy).Contents (Elt F)),
    StableHlo.nullary main_cst_15 (constant S_ .f32 0xC2A3D70A#32),
    StableHlo.unary main_cst_15 main_v76 (broadcastInDim S512 ![] bcast_S_S512 : (⟨S_, .f32⟩ : BufTy).Contents (Elt F) → (⟨S512, .f32⟩ : BufTy).Contents (Elt F)),
    StableHlo.binary main_v76 main_v75 main_v77 (addf : (⟨S512, .f32⟩ : BufTy).Contents (Elt F) → (⟨S512, .f32⟩ : BufTy).Contents (Elt F) → (⟨S512, .f32⟩ : BufTy).Contents (Elt F)),
    StableHlo.nullary main_v78 (sitofp .f32 (iotaInDim S512 32 0)),
    StableHlo.nullary main_cst_16 (constant S_ .f32 0x3F000000#32),
    StableHlo.unary main_cst_16 main_v79 (broadcastInDim S512 ![] bcast_S_S512 : (⟨S_, .f32⟩ : BufTy).Contents (Elt F) → (⟨S512, .f32⟩ : BufTy).Contents (Elt F)),
    StableHlo.binary main_v78 main_v79 main_v80 (addf : (⟨S512, .f32⟩ : BufTy).Contents (Elt F) → (⟨S512, .f32⟩ : BufTy).Contents (Elt F) → (⟨S512, .f32⟩ : BufTy).Contents (Elt F)),
    StableHlo.nullary main_cst_17 (constant S_ .f32 0x3EA3D70A#32),
    StableHlo.unary main_cst_17 main_v81 (broadcastInDim S512 ![] bcast_S_S512 : (⟨S_, .f32⟩ : BufTy).Contents (Elt F) → (⟨S512, .f32⟩ : BufTy).Contents (Elt F)),
    StableHlo.binary main_v80 main_v81 main_v82 (mulf : (⟨S512, .f32⟩ : BufTy).Contents (Elt F) → (⟨S512, .f32⟩ : BufTy).Contents (Elt F) → (⟨S512, .f32⟩ : BufTy).Contents (Elt F)),
    StableHlo.nullary main_cst_18 (constant S_ .f32 0xC2A3D70A#32),
    StableHlo.unary main_cst_18 main_v83 (broadcastInDim S512 ![] bcast_S_S512 : (⟨S_, .f32⟩ : BufTy).Contents (Elt F) → (⟨S512, .f32⟩ : BufTy).Contents (Elt F)),
    StableHlo.binary main_v83 main_v82 main_v84 (addf : (⟨S512, .f32⟩ : BufTy).Contents (Elt F) → (⟨S512, .f32⟩ : BufTy).Contents (Elt F) → (⟨S512, .f32⟩ : BufTy).Contents (Elt F)),
    StableHlo.unary main_v77 main_v85 (broadcastInDim S512x512 ![0] bcast_S512_S512x512_0 : (⟨S512, .f32⟩ : BufTy).Contents (Elt F) → (⟨S512x512, .f32⟩ : BufTy).Contents (Elt F)),
    StableHlo.unary main_v84 main_v86 (broadcastInDim S512x512 ![1] bcast_S512_S512x512_1 : (⟨S512, .f32⟩ : BufTy).Contents (Elt F) → (⟨S512x512, .f32⟩ : BufTy).Contents (Elt F)),
    StableHlo.nullary main_cst_19 (constant S_ .f32 0x00000000#32),
    StableHlo.unary main_cst_19 main_v87 (broadcastInDim S512x512 ![] bcast_S_S512x512 : (⟨S_, .f32⟩ : BufTy).Contents (Elt F) → (⟨S512x512, .f32⟩ : BufTy).Contents (Elt F)),
    StableHlo.unary main_v85 main_v88 (broadcastInDim S512x512x1 ![0, 1] bcast_S512x512_S512x512x1_0_1 : (⟨S512x512, .f32⟩ : BufTy).Contents (Elt F) → (⟨S512x512x1, .f32⟩ : BufTy).Contents (Elt F)),
    StableHlo.unary main_v86 main_v89 (broadcastInDim S512x512x1 ![0, 1] bcast_S512x512_S512x512x1_0_1 : (⟨S512x512, .f32⟩ : BufTy).Contents (Elt F) → (⟨S512x512x1, .f32⟩ : BufTy).Contents (Elt F)),
    StableHlo.unary main_v87 main_v90 (broadcastInDim S512x512x1 ![0, 1] bcast_S512x512_S512x512x1_0_1 : (⟨S512x512, .f32⟩ : BufTy).Contents (Elt F) → (⟨S512x512x1, .f32⟩ : BufTy).Contents (Elt F)),
    StableHlo.nary ![main_v88, main_v89, main_v90] main_v91 (fun u => (concatenate S512x512x3 2 [⟨S512x512x1, (u 0 : (⟨S512x512x1, .f32⟩ : BufTy).Contents (Elt F))⟩, ⟨S512x512x1, (u 1 : (⟨S512x512x1, .f32⟩ : BufTy).Contents (Elt F))⟩, ⟨S512x512x1, (u 2 : (⟨S512x512x1, .f32⟩ : BufTy).Contents (Elt F))⟩] concatenates_S512x512x1_S512x512x1_S512x512x1_S512x512x3_d2 : (⟨S512x512x3, .f32⟩ : BufTy).Contents (Elt F))),
    StableHlo.unary main_v91 main_v92 (broadcastInDim S1x512x512x3 ![1, 2, 3] bcast_S512x512x3_S1x512x512x3_1_2_3 : (⟨S512x512x3, .f32⟩ : BufTy).Contents (Elt F) → (⟨S1x512x512x3, .f32⟩ : BufTy).Contents (Elt F)),
    StableHlo.unary main_v92 main_v93 (broadcastInDim S4x512x512x3 ![0, 1, 2, 3] bcast_S1x512x512x3_S4x512x512x3_0_1_2_3 : (⟨S1x512x512x3, .f32⟩ : BufTy).Contents (Elt F) → (⟨S4x512x512x3, .f32⟩ : BufTy).Contents (Elt F)),
    StableHlo.unary main_v70 main_v94 (broadcastInDim S4x1x1x3 ![0, 3] bcast_S4x3_S4x1x1x3_0_3 : (⟨S4x3, .f32⟩ : BufTy).Contents (Elt F) → (⟨S4x1x1x3, .f32⟩ : BufTy).Contents (Elt F)),
    StableHlo.unary main_v94 main_v95 (broadcastInDim S4x512x512x3 ![0, 1, 2, 3] bcast_S4x1x1x3_S4x512x512x3_0_1_2_3 : (⟨S4x1x1x3, .f32⟩ : BufTy).Contents (Elt F) → (⟨S4x512x512x3, .f32⟩ : BufTy).Contents (Elt F)),
    StableHlo.binary main_v93 main_v95 main_v96 (addf : (⟨S4x512x512x3, .f32⟩ : BufTy).Contents (Elt F) → (⟨S4x512x512x3, .f32⟩ : BufTy).Contents (Elt F) → (⟨S4x512x512x3, .f32⟩ : BufTy).Contents (Elt F)),
    StableHlo.unary main_v96 main_v97 (broadcastInDim S4x512x512x1x3 ![0, 1, 2, 4] bcast_S4x512x512x3_S4x512x512x1x3_0_1_2_4 : (⟨S4x512x512x3, .f32⟩ : BufTy).Contents (Elt F) → (⟨S4x512x512x1x3, .f32⟩ : BufTy).Contents (Elt F)),
    StableHlo.reshape main_v97 main_v98 (rfl : (.f32 : EltTy) = .f32) shapeCasts_S4x512x512x1x3_S4x512x512x3,
    StableHlo.reshape main_v98 main_v99 (rfl : (.f32 : EltTy) = .f32) shapeCasts_S4x512x512x3_S4x262144x3 ]

/-- The anchor centres of the peaks added to the offsets. -/
def ops10 : List (HloOp τ sig (Elt F)) :=
  [ StableHlo.unary main_indices main_v100 (broadcastInDim S4x1000x1 ![0, 1] bcast_S4x1000_S4x1000x1_0_1 : (⟨S4x1000, .i32⟩ : BufTy).Contents (Elt F) → (⟨S4x1000x1, .i32⟩ : BufTy).Contents (Elt F)),
    StableHlo.nullary main_call7_c (constantI S_ 32 0#32),
    StableHlo.unary main_call7_c main_call7_v0 (broadcastInDim S4x1000x1 ![] bcast_S_S4x1000x1 : (⟨S_, .i32⟩ : BufTy).Contents (Elt F) → (⟨S4x1000x1, .i32⟩ : BufTy).Contents (Elt F)),
    StableHlo.binary main_v100 main_call7_v0 main_call7_v1 (cmpi .slt : (⟨S4x1000x1, .i32⟩ : BufTy).Contents (Elt F) → (⟨S4x1000x1, .i32⟩ : BufTy).Contents (Elt F) → (⟨S4x1000x1, .i1⟩ : BufTy).Contents (Elt F)),
    StableHlo.nullary main_call7_c_0 (constantI S_ 32 262144#32),
    StableHlo.unary main_call7_c_0 main_call7_v2 (broadcastInDim S4x1000x1 ![] bcast_S_S4x1000x1 : (⟨S_, .i32⟩ : BufTy).Contents (Elt F) → (⟨S4x1000x1, .i32⟩ : BufTy).Contents (Elt F)),
    StableHlo.binary main_v100 main_call7_v2 main_call7_v3 (addi : (⟨S4x1000x1, .i32⟩ : BufTy).Contents (Elt F) → (⟨S4x1000x1, .i32⟩ : BufTy).Contents (Elt F) → (⟨S4x1000x1, .i32⟩ : BufTy).Contents (Elt F)),
    StableHlo.ternary main_call7_v1 main_call7_v3 main_v100 main_call7_v4 (select : (⟨S4x1000x1, .i1⟩ : BufTy).Contents (Elt F) → (⟨S4x1000x1, .i32⟩ : BufTy).Contents (Elt F) → (⟨S4x1000x1, .i32⟩ : BufTy).Contents (Elt F) → (⟨S4x1000x1, .i32⟩ : BufTy).Contents (Elt F)),
    StableHlo.nullary main_call7_c_1 (constantI S1 32 262143#32),
    StableHlo.nullary main_call7_c_2 (constantI S_ 32 0#32),
    StableHlo.unary main_call7_c_2 main_call7_v5 (broadcastInDim S4x1000x1 ![] bcast_S_S4x1000x1 : (⟨S_, .i32⟩ : BufTy).Contents (Elt F) → (⟨S4x1000x1, .i32⟩ : BufTy).Contents (Elt F)),
    StableHlo.binary main_call7_v4 main_call7_v5 main_call7_v6 (cmpi .sge : (⟨S4x1000x1, .i32⟩ : BufTy).Contents (Elt F) → (⟨S4x1000x1, .i32⟩ : BufTy).Contents (Elt F) → (⟨S4x1000x1, .i1⟩ : BufTy).Contents (Elt F)),
    StableHlo.unary main_call7_c_1 main_call7_v7 (broadcastInDim S1x1x1 ![2] bcast_S1_S1x1x1_2 : (⟨S1, .i32⟩ : BufTy).Contents (Elt F) → (⟨S1x1x1, .i32⟩ : BufTy).Contents (Elt F)),
    StableHlo.unary main_call7_v7 main_call7_v8 (broadcastInDim S4x1000x1 ![0, 1, 2] bcast_S1x1x1_S4x1000x1_0_1_2 : (⟨S1x1x1, .i32⟩ : BufTy).Contents (Elt F) → (⟨S4x1000x1, .i32⟩ : BufTy).Contents (Elt F)),
    StableHlo.binary main_call7_v4 main_call7_v8 main_call7_v9 (cmpi .sle : (⟨S4x1000x1, .i32⟩ : BufTy).Contents (Elt F) → (⟨S4x1000x1, .i32⟩ : BufTy).Contents (Elt F) → (⟨S4x1000x1, .i1⟩ : BufTy).Contents (Elt F)),
    StableHlo.binary main_call7_v6 main_call7_v9 main_call7_v10 (andi : (⟨S4x1000x1, .i1⟩ : BufTy).Contents (Elt F) → (⟨S4x1000x1, .i1⟩ : BufTy).Contents (Elt F) → (⟨S4x1000x1, .i1⟩ : BufTy).Contents (Elt F)),
    StableHlo.nullary main_call7_c_3 (constantI S_ 1 1#1),
    StableHlo.binary main_call7_v10 main_call7_c_3 main_call7_v11 ((fun x v => Host.reduce IntOp.andi x v reducesTo_S4x1000x1_S4x1000_d2 h_S_) : (⟨S4x1000x1, .i1⟩ : BufTy).Contents (Elt F) → (⟨S_, .i1⟩ : BufTy).Contents (Elt F) → (⟨S4x1000, .i1⟩ : BufTy).Contents (Elt F)),
    StableHlo.binary main_v99 main_call7_v4 main_call7_v12 ((fun x i => Host.gather gather_S4x262144x3_S4x1000x1_S4x1000x3_2_1_0_0_1_2_113 x i) : (⟨S4x262144x3, .f32⟩ : BufTy).Contents (Elt F) → (⟨S4x1000x1, .i32⟩ : BufTy).Contents (Elt F) → (⟨S4x1000x3, .f32⟩ : BufTy).Contents (Elt F)),
    StableHlo.unary main_call7_v11 main_call7_v13 (broadcastInDim S4x1000x3 ![0, 1] bcast_S4x1000_S4x1000x3_0_1 : (⟨S4x1000, .i1⟩ : BufTy).Contents (Elt F) → (⟨S4x1000x3, .i1⟩ : BufTy).Contents (Elt F)),
    StableHlo.nullary main_call7_cst (constant S_ .f32 0x7FC00000#32),
    StableHlo.unary main_call7_cst main_call7_v14 (broadcastInDim S4x1000x3 ![] bcast_S_S4x1000x3 : (⟨S_, .f32⟩ : BufTy).Contents (Elt F) → (⟨S4x1000x3, .f32⟩ : BufTy).Contents (Elt F)),
    StableHlo.ternary main_call7_v13 main_call7_v12 main_call7_v14 main_v101 (select : (⟨S4x1000x3, .i1⟩ : BufTy).Contents (Elt F) → (⟨S4x1000x3, .f32⟩ : BufTy).Contents (Elt F) → (⟨S4x1000x3, .f32⟩ : BufTy).Contents (Elt F) → (⟨S4x1000x3, .f32⟩ : BufTy).Contents (Elt F)),
    StableHlo.unary main_v69 main_v102 ((extractStridedSlice S4x1000x3 ![0, 0, 0] · slices_S4x1000x7_S4x1000x3_0_0_0) : (⟨S4x1000x7, .f32⟩ : BufTy).Contents (Elt F) → (⟨S4x1000x3, .f32⟩ : BufTy).Contents (Elt F)),
    StableHlo.binary main_v101 main_v102 main_v103 (addf : (⟨S4x1000x3, .f32⟩ : BufTy).Contents (Elt F) → (⟨S4x1000x3, .f32⟩ : BufTy).Contents (Elt F) → (⟨S4x1000x3, .f32⟩ : BufTy).Contents (Elt F)),
    StableHlo.unary main_v69 main_v104 ((extractStridedSlice S4x1000x4 ![0, 0, 3] · slices_S4x1000x7_S4x1000x4_0_0_3) : (⟨S4x1000x7, .f32⟩ : BufTy).Contents (Elt F) → (⟨S4x1000x4, .f32⟩ : BufTy).Contents (Elt F)),
    StableHlo.binary main_v103 main_v104 main_v105 ((fun a b => concatenate S4x1000x7 2 [⟨S4x1000x3, a⟩, ⟨S4x1000x4, b⟩] concatenates_S4x1000x3_S4x1000x4_S4x1000x7_d2) : (⟨S4x1000x3, .f32⟩ : BufTy).Contents (Elt F) → (⟨S4x1000x4, .f32⟩ : BufTy).Contents (Elt F) → (⟨S4x1000x7, .f32⟩ : BufTy).Contents (Elt F)) ]

/-- All the operations of @main. -/
def ops : List (HloOp τ sig (Elt F)) := ops1 ++ (ops2 ++ (ops3 ++ (ops4 ++ (ops5 ++ (ops6 ++ (ops7 ++ (ops8 ++ (ops9 ++ (ops10)))))))))

set_option maxHeartbeats 4000000 in
/-- @main runs those operations, one after another. -/
theorem main_eq (d : Dev nD) : main (F := F) d = StableHlo.seq ops := by
  simp only [main, main_part0, main_part1, main_part2, ops, ops1, ops2, ops3, ops4, ops5, ops6, ops7, ops8, ops9, ops10, List.cons_append, List.nil_append, StableHlo.seq, bind_assoc, pure_bind,
    fn_where.body, fn_take_along_axis.body, fn_take_along_axis_0.body, fn_argmax.body, fn_take_along_axis_1.body, fn_remainder.body, fn_where_2.body, fn_take_along_axis_3.body]
  rfl

theorem sub1 : ∀ op ∈ (ops1 : List (HloOp τ sig (Elt F))), op.bufs ⊆ StableHlo.tcRefs τ sig ∧ op.fresh = ∅ := by
  unfold ops1
  simp only [List.forall_mem_cons, StableHlo.nullary_bufs_sub, StableHlo.unary_bufs_sub, StableHlo.binary_bufs_sub, StableHlo.ternary_bufs_sub, StableHlo.quaternary_bufs_sub, StableHlo.nary_bufs_sub, StableHlo.reshape_bufs_sub, true_and, List.not_mem_nil, false_imp_iff, implies_true, and_true]
  repeat' constructor

theorem sub2 : ∀ op ∈ (ops2 : List (HloOp τ sig (Elt F))), op.bufs ⊆ StableHlo.tcRefs τ sig ∧ op.fresh = ∅ := by
  unfold ops2
  simp only [List.forall_mem_cons, StableHlo.nullary_bufs_sub, StableHlo.unary_bufs_sub, StableHlo.binary_bufs_sub, StableHlo.ternary_bufs_sub, StableHlo.quaternary_bufs_sub, StableHlo.nary_bufs_sub, StableHlo.reshape_bufs_sub, true_and, List.not_mem_nil, false_imp_iff, implies_true, and_true]
  repeat' constructor

theorem sub3 : ∀ op ∈ (ops3 : List (HloOp τ sig (Elt F))), op.bufs ⊆ StableHlo.tcRefs τ sig ∧ op.fresh = ∅ := by
  unfold ops3
  simp only [List.forall_mem_cons, StableHlo.nullary_bufs_sub, StableHlo.unary_bufs_sub, StableHlo.binary_bufs_sub, StableHlo.ternary_bufs_sub, StableHlo.quaternary_bufs_sub, StableHlo.nary_bufs_sub, StableHlo.reshape_bufs_sub, true_and, List.not_mem_nil, false_imp_iff, implies_true, and_true]
  repeat' constructor

theorem sub4 : ∀ op ∈ (ops4 : List (HloOp τ sig (Elt F))), op.bufs ⊆ StableHlo.tcRefs τ sig ∧ op.fresh = ∅ := by
  unfold ops4
  simp only [List.forall_mem_cons, StableHlo.nullary_bufs_sub, StableHlo.unary_bufs_sub, StableHlo.binary_bufs_sub, StableHlo.ternary_bufs_sub, StableHlo.quaternary_bufs_sub, StableHlo.nary_bufs_sub, StableHlo.reshape_bufs_sub, true_and, List.not_mem_nil, false_imp_iff, implies_true, and_true]
  repeat' constructor

theorem sub5 : ∀ op ∈ (ops5 : List (HloOp τ sig (Elt F))), op.bufs ⊆ StableHlo.tcRefs τ sig ∧ op.fresh = ∅ := by
  unfold ops5
  simp only [List.forall_mem_cons, StableHlo.nullary_bufs_sub, StableHlo.unary_bufs_sub, StableHlo.binary_bufs_sub, StableHlo.ternary_bufs_sub, StableHlo.quaternary_bufs_sub, StableHlo.nary_bufs_sub, StableHlo.reshape_bufs_sub, true_and, List.not_mem_nil, false_imp_iff, implies_true, and_true]
  repeat' constructor

theorem sub6 : ∀ op ∈ (ops6 : List (HloOp τ sig (Elt F))), op.bufs ⊆ StableHlo.tcRefs τ sig ∧ op.fresh = ∅ := by
  unfold ops6
  simp only [List.forall_mem_cons, StableHlo.nullary_bufs_sub, StableHlo.unary_bufs_sub, StableHlo.binary_bufs_sub, StableHlo.ternary_bufs_sub, StableHlo.quaternary_bufs_sub, StableHlo.nary_bufs_sub, StableHlo.reshape_bufs_sub, true_and, List.not_mem_nil, false_imp_iff, implies_true, and_true]
  repeat' constructor

theorem sub7 : ∀ op ∈ (ops7 : List (HloOp τ sig (Elt F))), op.bufs ⊆ StableHlo.tcRefs τ sig ∧ op.fresh = ∅ := by
  unfold ops7
  simp only [List.forall_mem_cons, StableHlo.nullary_bufs_sub, StableHlo.unary_bufs_sub, StableHlo.binary_bufs_sub, StableHlo.ternary_bufs_sub, StableHlo.quaternary_bufs_sub, StableHlo.nary_bufs_sub, StableHlo.reshape_bufs_sub, true_and, List.not_mem_nil, false_imp_iff, implies_true, and_true]
  repeat' constructor

theorem sub8 : ∀ op ∈ (ops8 : List (HloOp τ sig (Elt F))), op.bufs ⊆ StableHlo.tcRefs τ sig ∧ op.fresh = ∅ := by
  unfold ops8
  simp only [List.forall_mem_cons, StableHlo.nullary_bufs_sub, StableHlo.unary_bufs_sub, StableHlo.binary_bufs_sub, StableHlo.ternary_bufs_sub, StableHlo.quaternary_bufs_sub, StableHlo.nary_bufs_sub, StableHlo.reshape_bufs_sub, true_and, List.not_mem_nil, false_imp_iff, implies_true, and_true]
  repeat' constructor

theorem sub9 : ∀ op ∈ (ops9 : List (HloOp τ sig (Elt F))), op.bufs ⊆ StableHlo.tcRefs τ sig ∧ op.fresh = ∅ := by
  unfold ops9
  simp only [List.forall_mem_cons, StableHlo.nullary_bufs_sub, StableHlo.unary_bufs_sub, StableHlo.binary_bufs_sub, StableHlo.ternary_bufs_sub, StableHlo.quaternary_bufs_sub, StableHlo.nary_bufs_sub, StableHlo.reshape_bufs_sub, true_and, List.not_mem_nil, false_imp_iff, implies_true, and_true]
  repeat' constructor

theorem sub10 : ∀ op ∈ (ops10 : List (HloOp τ sig (Elt F))), op.bufs ⊆ StableHlo.tcRefs τ sig ∧ op.fresh = ∅ := by
  unfold ops10
  simp only [List.forall_mem_cons, StableHlo.nullary_bufs_sub, StableHlo.unary_bufs_sub, StableHlo.binary_bufs_sub, StableHlo.ternary_bufs_sub, StableHlo.quaternary_bufs_sub, StableHlo.nary_bufs_sub, StableHlo.reshape_bufs_sub, true_and, List.not_mem_nil, false_imp_iff, implies_true, and_true]
  repeat' constructor

/-- Every operation touches the TensorCore's buffers only and writes nothing undetermined. -/
theorem sub_all : ∀ op ∈ (ops : List (HloOp τ sig (Elt F))), op.bufs ⊆ StableHlo.tcRefs τ sig ∧ op.fresh = ∅ := by
  intro op h
  simp only [ops, List.mem_append] at h
  rcases h with h | h | h | h | h | h | h | h | h | h
  · exact sub1 op h
  · exact sub2 op h
  · exact sub3 op h
  · exact sub4 op h
  · exact sub5 op h
  · exact sub6 op h
  · exact sub7 op h
  · exact sub8 op h
  · exact sub9 op h
  · exact sub10 op h

/-- The reference run: every TensorCore buffer ends at the operations' results over its launch contents. -/
theorem run_main (m : (ℓ : Loc nD τ sig) → Buf (Elt F) ℓ) (ρ : Dev nD → PrngReg) :
    θ_run (defs (F := F)) (onTc (τ := τ) main) ⟨m, fun _ => 0, ρ⟩ fun r =>
      (∀ (d : Dev nD) (b : Ref sig .tc), r.2.mem ((d.tc : Thread nD τ).loc b) = StableHlo.after ops (StableHlo.launchContents m d) (Proc.devRef .tc b))
        ∧ r.2.sem = fun _ => 0 :=
  θ_run_mono (StableHlo.run_seq (by decide) (by decide) defs main (fun _ => ops) main_eq
    (fun _ => List.forall_iff_forall_mem.2 fun op h => (sub_all op h).1) m ρ (fun _ op h => (sub_all op h).2))
    fun r h => ⟨h, sem_eq_zero_of_no_sems (by decide) r.2⟩

end Cert.Proof.Ref
end
-- ==== Proof.Ref.Chain.lean ====
/- The reference as functions of arrays, and what each stretch of its @main leaves. -/
module

public import proofs.«01_k».proof.Proof.Ref.Host
public import Idealize.ShloMosaic.Lib.Pipeline.Frame

@[expose] public section

set_option maxRecDepth 8192

noncomputable section

namespace Cert.Proof.Ref

open Cert.ReferenceIdeal Cert.ReferenceIdeal.Gen
open Idealize.ShloMosaic
open Idealize.ShloMosaic.TcCoe Idealize.ShloMosaic.Tactic

variable {F : FTy → Type} [FloatOps F]

/-- A softmax over the last axis of two channels. -/
def soft (z : FVec F S4x512x512x2 .f32) : FVec F S4x512x512x2 .f32 :=
  let mx := maximumf (broadcastInDim S4x512x512 ![] bcast_S_S4x512x512 (constant S_ .f32 0xFF800000#32))
    (Host.reduce FloatOps.maximumf z (constant S_ .f32 0xFF800000#32) reducesTo_S4x512x512x2_S4x512x512_d3 h_S_)
  let e := Host.exp (subf z (broadcastInDim S4x512x512x2 ![0, 1, 2, 3] bcast_S4x512x512x1_S4x512x512x2_0_1_2_3
    (broadcastInDim S4x512x512x1 ![0, 1, 2] bcast_S4x512x512_S4x512x512x1_0_1_2 mx)))
  Host.divf e (broadcastInDim S4x512x512x2 ![0, 1, 2, 3] bcast_S4x512x512x1_S4x512x512x2_0_1_2_3
    (broadcastInDim S4x512x512x1 ![0, 1, 2] bcast_S4x512x512_S4x512x512x1_0_1_2
      (Host.reduceAdd e (constant S_ .f32 0x00000000#32) reducesTo_S4x512x512x2_S4x512x512_d3 h_S_)))

/-- The heat map: channel 1 of a softmax over channels 0 and 1. -/
def heat (x : FVec F S4x512x512x32 .f32) : FVec F S4x512x512x1 .f32 :=
  extractStridedSlice S4x512x512x1 ![0, 0, 0, 1]
    (soft (extractStridedSlice S4x512x512x2 ![0, 0, 0, 0] x slices_S4x512x512x32_S4x512x512x2_0_0_0_0)) slices_S4x512x512x2_S4x512x512x1_0_0_0_1

/-- The heat map where it exceeds 0.2 and equals the maximum of its window, else 0. -/
def maskedOf (h : FVec F S4x512x512x1 .f32) : FVec F S4x512x512x1 .f32 :=
  select (andi (cmpf .ogt h (broadcastInDim S4x512x512x1 ![] bcast_S_S4x512x512x1 (constant S_ .f32 0x3E4CCCCD#32)))
      (cmpf .oeq h (Host.reduceWindow FloatOps.maximumf ![1, 3, 3, 1] ![1, 1, 1, 1] ![0, 1, 1, 0] ![0, 1, 1, 0] h
        (broadcastInDim S_ ![] bcast_S_S_ (constant S_ .f32 0xFF800000#32)) reduceWindows_S4x512x512x1_S4x512x512x1_w1s1p0_0_w3s1p1_1_w3s1p1_1_w1s1p0_0 h_S_)))
    h (broadcastInDim S4x512x512x1 ![] bcast_S_S4x512x512x1 (constant S_ .f32 0x00000000#32))

/-- The masked heat map, an image a row. -/
def flatMap (h : FVec F S4x512x512x1 .f32) : FVec F S4x262144 .f32 :=
  shapeCast S4x262144 (shapeCast S4x512x512 (maskedOf h) shapeCasts_S4x512x512x1_S4x512x512) shapeCasts_S4x512x512_S4x262144

/-- The 1000 greatest of each image, and where they lie. -/
def top (s : FVec F S4x262144 .f32) : FVec F S4x1000 .f32 × IVec S4x1000 32 :=
  Host.topK S4x1000 1 (FloatOps.cmpfTotal .gt) s sliceFits_S4x262144_S4x1000

/-- The indices as a column, negative ones wrapped. -/
def wrap3 (i : IVec S4x1000x1 32) : IVec S4x1000x1 32 :=
  select (cmpi .slt i (broadcastInDim S4x1000x1 ![] bcast_S_S4x1000x1 (constantI S_ 32 0#32)))
    (addi i (broadcastInDim S4x1000x1 ![] bcast_S_S4x1000x1 (constantI S_ 32 262144#32))) i
/-- Whether an index lies inside an image. -/
def ok3 (i : IVec S4x1000x1 32) : IVec S4x1000 1 :=
  Host.reduce IntOp.andi (andi (cmpi .sge i (broadcastInDim S4x1000x1 ![] bcast_S_S4x1000x1 (constantI S_ 32 0#32)))
    (cmpi .sle i (broadcastInDim S4x1000x1 ![0, 1, 2] bcast_S1x1x1_S4x1000x1_0_1_2 (broadcastInDim S1x1x1 ![2] bcast_S1_S1x1x1_2 (constantI S1 32 262143#32)))))
    (constantI S_ 1 1#1) reducesTo_S4x1000x1_S4x1000_d2 h_S_

/-- The column of indices. -/
def column (i : IVec S4x1000 32) : IVec S4x1000x1 32 := broadcastInDim S4x1000x1 ![0, 1] bcast_S4x1000_S4x1000x1_0_1 i

/-- The regression channels, an image's pixels in a row. -/
def channels (x : FVec F S4x512x512x32 .f32) : FVec F S4x262144x30 .f32 :=
  shapeCast S4x262144x30 (extractStridedSlice S4x512x512x30 ![0, 0, 0, 2] x slices_S4x512x512x32_S4x512x512x30_0_0_0_2) shapeCasts_S4x512x512x30_S4x262144x30

/-- The rows an image's indices name: the 30 regression channels. -/
def take30 (a : FVec F S4x262144x30 .f32) (i : IVec S4x1000x1 32) : FVec F S4x1000x30 .f32 :=
  select (broadcastInDim S4x1000x30 ![0, 1] bcast_S4x1000_S4x1000x30_0_1 (ok3 (wrap3 i)))
    (Host.gather gather_S4x262144x30_S4x1000x1_S4x1000x30_2_1_0_0_1_2_1130 a (wrap3 i))
    (broadcastInDim S4x1000x30 ![] bcast_S_S4x1000x30 (constant S_ .f32 0x7FC00000#32))

/-- The rows an image's indices name: the anchor centres. -/
def take3 (a : FVec F S4x262144x3 .f32) (i : IVec S4x1000x1 32) : FVec F S4x1000x3 .f32 :=
  select (broadcastInDim S4x1000x3 ![0, 1] bcast_S4x1000_S4x1000x3_0_1 (ok3 (wrap3 i)))
    (Host.gather gather_S4x262144x3_S4x1000x1_S4x1000x3_2_1_0_0_1_2_113 a (wrap3 i))
    (broadcastInDim S4x1000x3 ![] bcast_S_S4x1000x3 (constant S_ .f32 0x7FC00000#32))

/-- Negative indices wrapped, as a column. -/
def wrap1 (i : IVec S4x1000 32) : IVec S4x1000x1 32 :=
  shapeCast S4x1000x1 (select (cmpi .slt i (broadcastInDim S4x1000 ![] bcast_S_S4x1000 (constantI S_ 32 0#32)))
    (addi i (broadcastInDim S4x1000 ![] bcast_S_S4x1000 (constantI S_ 32 262144#32))) i) shapeCasts_S4x1000_S4x1000x1

/-- What an image's indices name: the scores. -/
def take1 (s : FVec F S4x262144 .f32) (i : IVec S4x1000 32) : FVec F S4x1000 .f32 :=
  select (ok3 (wrap1 i)) (Host.gather gather_S4x262144_S4x1000x1_S4x1000_n_1_0_0_1_2_11 s (wrap1 i))
    (broadcastInDim S4x1000 ![] bcast_S_S4x1000 (constant S_ .f32 0x7FC00000#32))

/-- The class of every box: 1 · 1. -/
def classes : IVec S4x1000 32 :=
  muli (broadcastInDim S4x1000 ![] bcast_S_S4x1000 (constantI S_ 32 1#32)) (broadcastInDim S4x1000 ![] bcast_S_S4x1000 (constantI S_ 32 1#32))

/-- A box a row. -/
def rowsOf (t : FVec F S4x1000x30 .f32) : FVec F S4000x30 .f32 := shapeCast S4000x30 t shapeCasts_S4x1000x30_S4000x30
def colX (r : FVec F S4000x30 .f32) : FVec F S4000 .f32 :=
  shapeCast S4000 (extractStridedSlice S4000x1 ![0, 0] r slices_S4000x30_S4000x1_0_0) shapeCasts_S4000x1_S4000
def colY (r : FVec F S4000x30 .f32) : FVec F S4000 .f32 :=
  shapeCast S4000 (extractStridedSlice S4000x1 ![0, 1] r slices_S4000x30_S4000x1_0_1) shapeCasts_S4000x1_S4000
def colZ (r : FVec F S4000x30 .f32) : FVec F S4000 .f32 :=
  shapeCast S4000 (extractStridedSlice S4000x1 ![0, 2] r slices_S4000x30_S4000x1_0_2) shapeCasts_S4000x1_S4000
/-- The scores of the twelve heading bins, and their residuals. -/
def bins (r : FVec F S4000x30 .f32) : FVec F S4000x12 .f32 :=
  extractStridedSlice S4000x12 ![0, 0] (extractStridedSlice S4000x27 ![0, 3] r slices_S4000x30_S4000x27_0_3) slices_S4000x27_S4000x12_0_0
def residuals (r : FVec F S4000x30 .f32) : FVec F S4000x12 .f32 :=
  extractStridedSlice S4000x12 ![0, 12] (extractStridedSlice S4000x27 ![0, 3] r slices_S4000x30_S4000x27_0_3) slices_S4000x27_S4000x12_0_12
/-- The first bin of the highest score. -/
def best (b : FVec F S4000x12 .f32) : IVec S4000 32 := fun j =>
  (Host.argReduce reducer_argmax_f32_i32 b (iotaInDim S4000x12 32 1) (constant S_ .f32 0xFF800000#32) (constantI S_ 32 0#32) reducesTo_S4000x12_S4000_d1 h_S_ j).2

/-- A bin's index wrapped, as a column. -/
def wrap12 (i : IVec S4000x1 32) : IVec S4000x1x1 32 :=
  shapeCast S4000x1x1 (select (cmpi .slt i (broadcastInDim S4000x1 ![] bcast_S_S4000x1 (constantI S_ 32 0#32)))
    (addi i (broadcastInDim S4000x1 ![] bcast_S_S4000x1 (constantI S_ 32 12#32))) i) shapeCasts_S4000x1_S4000x1x1
/-- Whether a bin's index lies in 0 … 11. -/
def ok12 (i : IVec S4000x1x1 32) : IVec S4000x1 1 :=
  Host.reduce IntOp.andi (andi (cmpi .sge i (broadcastInDim S4000x1x1 ![] bcast_S_S4000x1x1 (constantI S_ 32 0#32)))
    (cmpi .sle i (broadcastInDim S4000x1x1 ![0, 1, 2] bcast_S1x1x1_S4000x1x1_0_1_2 (broadcastInDim S1x1x1 ![2] bcast_S1_S1x1x1_2 (constantI S1 32 11#32)))))
    (constantI S_ 1 1#1) reducesTo_S4000x1x1_S4000x1_d2 h_S_
/-- The entry of each row its index names. -/
def take12 (a : FVec F S4000x12 .f32) (i : IVec S4000x1 32) : FVec F S4000x1 .f32 :=
  select (ok12 (wrap12 i)) (Host.gather gather_S4000x12_S4000x1x1_S4000x1_n_1_0_0_1_2_11 a (wrap12 i))
    (broadcastInDim S4000x1 ![] bcast_S_S4000x1 (constant S_ .f32 0x7FC00000#32))
/-- The residual of the best bin. -/
def residual (r : FVec F S4000x30 .f32) : FVec F S4000 .f32 :=
  shapeCast S4000 (take12 (residuals r) (broadcastInDim S4000x1 ![0] bcast_S4000_S4000x1_0 (best (bins r)))) shapeCasts_S4000x1_S4000

/-- The remainder of division, with the divisor's sign. -/
def modulo (a : FVec F S4000 .f32) (p : FVec F S_ .f32) : FVec F S4000 .f32 :=
  let r := Host.remf a (broadcastInDim S4000 ![] bcast_S_S4000 p)
  select (andi (cmpi .ne (cmpf .olt r (broadcastInDim S4000 ![] bcast_S_S4000 (constant S_ .f32 0x00000000#32)))
      (broadcastInDim S4000 ![] bcast_S_S4000 (cmpf .olt p (constant S_ .f32 0x00000000#32))))
      (cmpf .une r (broadcastInDim S4000 ![] bcast_S_S4000 (constant S_ .f32 0x00000000#32))))
    (addf r (broadcastInDim S4000 ![] bcast_S_S4000 p)) r

/-- The heading of a bin and a residual, brought into (−π, π]. -/
def headingOf (b : FVec F S4000 .f32) (e : FVec F S4000 .f32) : FVec F S4000 .f32 :=
  let q := modulo (addf (mulf b (broadcastInDim S4000 ![] bcast_S_S4000 (constant S_ .f32 0x3F060A92#32)))
    (mulf e (broadcastInDim S4000 ![] bcast_S_S4000 (constant S_ .f32 0x3E860A92#32)))) (constant S_ .f32 0x40C90FDB#32)
  select (cmpf .ogt q (broadcastInDim S4000 ![] bcast_S_S4000 (constant S_ .f32 0x40490FDB#32)))
    (subf q (broadcastInDim S4000 ![] bcast_S_S4000 (constant S_ .f32 0x40C90FDB#32))) q

/-- The sizes of the mean box. -/
def means : FVec F S3 .f32 := fun i => FloatOps.ofBits .f32 (lit0 (S3.rowMajor i))
/-- The sizes. -/
def sizesOf (mn : FVec F S3 .f32) (r : FVec F S4000x30 .f32) : FVec F S4000x3 .f32 :=
  addf (mulf (extractStridedSlice S4000x3 ![0, 27] r slices_S4000x30_S4000x3_0_27)
    (broadcastInDim S4000x3 ![0, 1] bcast_S1x3_S4000x3_0_1 (broadcastInDim S1x3 ![1] bcast_S3_S1x3_1 mn)))
    (broadcastInDim S4000x3 ![0, 1] bcast_S1x3_S4000x3_0_1 (broadcastInDim S1x3 ![1] bcast_S3_S1x3_1 mn))
/-- An array as a column. -/
def asCol (a : FVec F S4000 .f32) : FVec F S4000x1 .f32 := broadcastInDim S4000x1 ![0] bcast_S4000_S4000x1_0 a
/-- The seven columns of the boxes before the anchor centres are added. -/
def boxesOf (x y z : FVec F S4000 .f32) (sz : FVec F S4000x3 .f32) (hd : FVec F S4000 .f32) : FVec F S4x1000x7 .f32 :=
  shapeCast S4x1000x7 (concatenate S4000x7 1
    [⟨S4000x3, concatenate S4000x3 1 [⟨S4000x1, asCol x⟩, ⟨S4000x1, asCol y⟩, ⟨S4000x1, asCol z⟩] concatenates_S4000x1_S4000x1_S4000x1_S4000x3_d1⟩,
      ⟨S4000x3, sz⟩, ⟨S4000x1, asCol hd⟩] concatenates_S4000x3_S4000x3_S4000x1_S4000x7_d1) shapeCasts_S4000x7_S4x1000x7

/-- The centres of the cells along one axis. -/
def centres : FVec F S512 .f32 :=
  addf (broadcastInDim S512 ![] bcast_S_S512 (constant S_ .f32 0xC2A3D70A#32))
    (mulf (addf (sitofp .f32 (iotaInDim S512 32 0)) (broadcastInDim S512 ![] bcast_S_S512 (constant S_ .f32 0x3F000000#32)))
      (broadcastInDim S512 ![] bcast_S_S512 (constant S_ .f32 0x3EA3D70A#32)))
/-- The anchor centres of one image. -/
def grid : FVec F S512x512x3 .f32 :=
  concatenate S512x512x3 2
    [⟨S512x512x1, broadcastInDim S512x512x1 ![0, 1] bcast_S512x512_S512x512x1_0_1 (broadcastInDim S512x512 ![0] bcast_S512_S512x512_0 centres)⟩,
      ⟨S512x512x1, broadcastInDim S512x512x1 ![0, 1] bcast_S512x512_S512x512x1_0_1 (broadcastInDim S512x512 ![1] bcast_S512_S512x512_1 centres)⟩,
      ⟨S512x512x1, broadcastInDim S512x512x1 ![0, 1] bcast_S512x512_S512x512x1_0_1 (broadcastInDim S512x512 ![] bcast_S_S512x512 (constant S_ .f32 0x00000000#32))⟩]
    concatenates_S512x512x1_S512x512x1_S512x512x1_S512x512x3_d2
/-- The anchor centres of all images, an image's cells in a row. -/
def anchors : FVec F S4x262144x3 .f32 :=
  shapeCast S4x262144x3 (shapeCast S4x512x512x3 (broadcastInDim S4x512x512x1x3 ![0, 1, 2, 4] bcast_S4x512x512x3_S4x512x512x1x3_0_1_2_4
    (addf (broadcastInDim S4x512x512x3 ![0, 1, 2, 3] bcast_S1x512x512x3_S4x512x512x3_0_1_2_3 (broadcastInDim S1x512x512x3 ![1, 2, 3] bcast_S512x512x3_S1x512x512x3_1_2_3 grid))
      (broadcastInDim S4x512x512x3 ![0, 1, 2, 3] bcast_S4x1x1x3_S4x512x512x3_0_1_2_3 (broadcastInDim S4x1x1x3 ![0, 3] bcast_S4x3_S4x1x1x3_0_3
        (broadcastInDim S4x3 ![] bcast_S_S4x3 (constant S_ .f32 0x00000000#32))))))
    shapeCasts_S4x512x512x1x3_S4x512x512x3) shapeCasts_S4x512x512x3_S4x262144x3

/-- The anchor centres added to the offsets, and the last four columns kept. -/
def placed (a : FVec F S4x1000x3 .f32) (b : FVec F S4x1000x7 .f32) : FVec F S4x1000x7 .f32 :=
  concatenate S4x1000x7 2
    [⟨S4x1000x3, addf a (extractStridedSlice S4x1000x3 ![0, 0, 0] b slices_S4x1000x7_S4x1000x3_0_0_0)⟩,
      ⟨S4x1000x4, extractStridedSlice S4x1000x4 ![0, 0, 3] b slices_S4x1000x7_S4x1000x4_0_0_3⟩] concatenates_S4x1000x3_S4x1000x4_S4x1000x7_d2

variable (V : Valuation τ sig (Elt F))

theorem r1_v12 : StableHlo.after (ops1 (F := F)) V main_v12 = heat (F := F) (V main_arg0) := by
  unfold ops1; after_results_simp; rfl
theorem r1_cst : StableHlo.after (ops1 (F := F)) V main_cst = (means : FVec F S3 .f32) := by
  unfold ops1; after_results_simp; rfl
theorem r2_v21 : StableHlo.after (ops2 (F := F)) V main_v21 = flatMap (F := F) (V main_v12) := by
  unfold ops2; after_results_simp; rfl
theorem r3_values : StableHlo.after (ops3 (F := F)) V main_values = (top (F := F) (V main_v21)).1 := by
  unfold ops3; after_results_simp; rfl
theorem r3_indices : StableHlo.after (ops3 (F := F)) V main_indices = (top (F := F) (V main_v21)).2 := by
  unfold ops3; after_results_simp; rfl
theorem r4_v25 : StableHlo.after (ops4 (F := F)) V main_v25 = take30 (F := F) (channels (F := F) (V main_arg0)) (column (V main_indices)) := by
  unfold ops4; after_results_simp; rfl
theorem r5_v26 : StableHlo.after (ops5 (F := F)) V main_v26 = take1 (F := F) (V main_v21) (V main_indices) := by
  unfold ops5; after_results_simp; rfl
theorem r5_v29 : StableHlo.after (ops5 (F := F)) V main_v29 = classes := by
  unfold ops5; after_results_simp; rfl
theorem r6_v30 : StableHlo.after (ops6 (F := F)) V main_v30 = rowsOf (F := F) (V main_v25) := by
  unfold ops6; after_results_simp; rfl
theorem r6_v32 : StableHlo.after (ops6 (F := F)) V main_v32 = colX (F := F) (rowsOf (F := F) (V main_v25)) := by
  unfold ops6; after_results_simp; rfl
theorem r6_v34 : StableHlo.after (ops6 (F := F)) V main_v34 = colY (F := F) (rowsOf (F := F) (V main_v25)) := by
  unfold ops6; after_results_simp; rfl
theorem r6_v36 : StableHlo.after (ops6 (F := F)) V main_v36 = colZ (F := F) (rowsOf (F := F) (V main_v25)) := by
  unfold ops6; after_results_simp; rfl
theorem r6_v40 : StableHlo.after (ops6 (F := F)) V main_v40 = sitofp (F := F) .f32 (best (F := F) (bins (F := F) (rowsOf (F := F) (V main_v25)))) := by
  unfold ops6; after_results_simp; rfl
theorem r6_v44 : StableHlo.after (ops6 (F := F)) V main_v44 = residual (F := F) (rowsOf (F := F) (V main_v25)) := by
  unfold ops6; after_results_simp; rfl
theorem r7_v55 : StableHlo.after (ops7 (F := F)) V main_v55 = headingOf (F := F) (V main_v40) (V main_v44) := by
  unfold ops7; after_results_simp; rfl
theorem r8_v69 : StableHlo.after (ops8 (F := F)) V main_v69
    = boxesOf (F := F) (V main_v32) (V main_v34) (V main_v36) (sizesOf (F := F) (V main_cst) (V main_v30)) (V main_v55) := by
  unfold ops8; after_results_simp; rfl
theorem r9_v99 : StableHlo.after (ops9 (F := F)) V main_v99 = anchors (F := F) := by
  unfold ops9; after_results_simp; rfl
theorem r10_v105 : StableHlo.after (ops10 (F := F)) V main_v105 = placed (F := F) (take3 (F := F) (V main_v99) (column (V main_indices))) (V main_v69) := by
  unfold ops10; after_results_simp; rfl
theorem r1_keep_arg0 : StableHlo.after (ops1 (F := F)) V main_arg0 = V main_arg0 := by
  unfold ops1; after_results_simp
theorem r2_keep_arg0 : StableHlo.after (ops2 (F := F)) V main_arg0 = V main_arg0 := by
  unfold ops2; after_results_simp
theorem r2_keep_cst : StableHlo.after (ops2 (F := F)) V main_cst = V main_cst := by
  unfold ops2; after_results_simp
theorem r3_keep_arg0 : StableHlo.after (ops3 (F := F)) V main_arg0 = V main_arg0 := by
  unfold ops3; after_results_simp
theorem r3_keep_cst : StableHlo.after (ops3 (F := F)) V main_cst = V main_cst := by
  unfold ops3; after_results_simp
theorem r3_keep_v21 : StableHlo.after (ops3 (F := F)) V main_v21 = V main_v21 := by
  unfold ops3; after_results_simp
theorem r4_keep_arg0 : StableHlo.after (ops4 (F := F)) V main_arg0 = V main_arg0 := by
  unfold ops4; after_results_simp
theorem r4_keep_cst : StableHlo.after (ops4 (F := F)) V main_cst = V main_cst := by
  unfold ops4; after_results_simp
theorem r4_keep_v21 : StableHlo.after (ops4 (F := F)) V main_v21 = V main_v21 := by
  unfold ops4; after_results_simp
theorem r4_keep_indices : StableHlo.after (ops4 (F := F)) V main_indices = V main_indices := by
  unfold ops4; after_results_simp
theorem r5_keep_arg0 : StableHlo.after (ops5 (F := F)) V main_arg0 = V main_arg0 := by
  unfold ops5; after_results_simp
theorem r5_keep_cst : StableHlo.after (ops5 (F := F)) V main_cst = V main_cst := by
  unfold ops5; after_results_simp
theorem r5_keep_indices : StableHlo.after (ops5 (F := F)) V main_indices = V main_indices := by
  unfold ops5; after_results_simp
theorem r5_keep_v25 : StableHlo.after (ops5 (F := F)) V main_v25 = V main_v25 := by
  unfold ops5; after_results_simp
theorem r6_keep_arg0 : StableHlo.after (ops6 (F := F)) V main_arg0 = V main_arg0 := by
  unfold ops6; after_results_simp
theorem r6_keep_cst : StableHlo.after (ops6 (F := F)) V main_cst = V main_cst := by
  unfold ops6; after_results_simp
theorem r6_keep_indices : StableHlo.after (ops6 (F := F)) V main_indices = V main_indices := by
  unfold ops6; after_results_simp
theorem r6_keep_v26 : StableHlo.after (ops6 (F := F)) V main_v26 = V main_v26 := by
  unfold ops6; after_results_simp
theorem r6_keep_v29 : StableHlo.after (ops6 (F := F)) V main_v29 = V main_v29 := by
  unfold ops6; after_results_simp
theorem r7_keep_arg0 : StableHlo.after (ops7 (F := F)) V main_arg0 = V main_arg0 := by
  unfold ops7; after_results_simp
theorem r7_keep_cst : StableHlo.after (ops7 (F := F)) V main_cst = V main_cst := by
  unfold ops7; after_results_simp
theorem r7_keep_indices : StableHlo.after (ops7 (F := F)) V main_indices = V main_indices := by
  unfold ops7; after_results_simp
theorem r7_keep_v26 : StableHlo.after (ops7 (F := F)) V main_v26 = V main_v26 := by
  unfold ops7; after_results_simp
theorem r7_keep_v29 : StableHlo.after (ops7 (F := F)) V main_v29 = V main_v29 := by
  unfold ops7; after_results_simp
theorem r7_keep_v30 : StableHlo.after (ops7 (F := F)) V main_v30 = V main_v30 := by
  unfold ops7; after_results_simp
theorem r7_keep_v32 : StableHlo.after (ops7 (F := F)) V main_v32 = V main_v32 := by
  unfold ops7; after_results_simp
theorem r7_keep_v34 : StableHlo.after (ops7 (F := F)) V main_v34 = V main_v34 := by
  unfold ops7; after_results_simp
theorem r7_keep_v36 : StableHlo.after (ops7 (F := F)) V main_v36 = V main_v36 := by
  unfold ops7; after_results_simp
theorem r8_keep_arg0 : StableHlo.after (ops8 (F := F)) V main_arg0 = V main_arg0 := by
  unfold ops8; after_results_simp
theorem r8_keep_indices : StableHlo.after (ops8 (F := F)) V main_indices = V main_indices := by
  unfold ops8; after_results_simp
theorem r8_keep_v26 : StableHlo.after (ops8 (F := F)) V main_v26 = V main_v26 := by
  unfold ops8; after_results_simp
theorem r8_keep_v29 : StableHlo.after (ops8 (F := F)) V main_v29 = V main_v29 := by
  unfold ops8; after_results_simp
theorem r9_keep_arg0 : StableHlo.after (ops9 (F := F)) V main_arg0 = V main_arg0 := by
  unfold ops9; after_results_simp
theorem r9_keep_indices : StableHlo.after (ops9 (F := F)) V main_indices = V main_indices := by
  unfold ops9; after_results_simp
theorem r9_keep_v26 : StableHlo.after (ops9 (F := F)) V main_v26 = V main_v26 := by
  unfold ops9; after_results_simp
theorem r9_keep_v29 : StableHlo.after (ops9 (F := F)) V main_v29 = V main_v29 := by
  unfold ops9; after_results_simp
theorem r9_keep_v69 : StableHlo.after (ops9 (F := F)) V main_v69 = V main_v69 := by
  unfold ops9; after_results_simp
theorem r10_keep_arg0 : StableHlo.after (ops10 (F := F)) V main_arg0 = V main_arg0 := by
  unfold ops10; after_results_simp
theorem r10_keep_v26 : StableHlo.after (ops10 (F := F)) V main_v26 = V main_v26 := by
  unfold ops10; after_results_simp
theorem r10_keep_v29 : StableHlo.after (ops10 (F := F)) V main_v29 = V main_v29 := by
  unfold ops10; after_results_simp

/-- @main's operations, stretch after stretch. -/
theorem after_ops : StableHlo.after (ops (F := F)) V = StableHlo.after (ops10 (F := F)) (StableHlo.after (ops9 (F := F)) (StableHlo.after (ops8 (F := F)) (StableHlo.after ops7
    (StableHlo.after (ops6 (F := F)) (StableHlo.after (ops5 (F := F)) (StableHlo.after (ops4 (F := F)) (StableHlo.after (ops3 (F := F)) (StableHlo.after (ops2 (F := F)) (StableHlo.after (ops1 (F := F)) V))))))))) := by
  simp only [ops, StableHlo.after_append]

theorem end_arg : StableHlo.after (ops (F := F)) V main_arg0 = V main_arg0 := by
  rw [after_ops, r10_keep_arg0, r9_keep_arg0, r8_keep_arg0, r7_keep_arg0, r6_keep_arg0, r5_keep_arg0, r4_keep_arg0, r3_keep_arg0, r2_keep_arg0, r1_keep_arg0]

/-- The masked heat map of the reference, an image a row. -/
def map (x : FVec F S4x512x512x32 .f32) : FVec F S4x262144 .f32 := flatMap (heat x)
/-- Where the 1000 highest of each image lie. -/
def places (x : FVec F S4x512x512x32 .f32) : IVec S4x1000 32 := (top (map x)).2
/-- The regression channels of the highest, a box a row. -/
def rows (x : FVec F S4x512x512x32 .f32) : FVec F S4000x30 .f32 := rowsOf (take30 (channels x) (column (places x)))
/-- The boxes before the anchor centres are added. -/
def raw (r : FVec F S4000x30 .f32) : FVec F S4x1000x7 .f32 :=
  boxesOf (colX r) (colY r) (colZ r) (sizesOf means r) (headingOf (sitofp .f32 (best (bins r))) (residual r))
/-- The boxes. -/
def boxes (x : FVec F S4x512x512x32 .f32) : FVec F S4x1000x7 .f32 :=
  placed (take3 anchors (column (places x))) (raw (rows x))

theorem end_v29 : StableHlo.after (ops (F := F)) V main_v29 = classes := by
  rw [after_ops, r10_keep_v29, r9_keep_v29, r8_keep_v29, r7_keep_v29, r6_keep_v29, r5_v29]

theorem end_v26 : StableHlo.after (ops (F := F)) V main_v26 = take1 (F := F) (map (F := F) (V main_arg0)) (places (F := F) (V main_arg0)) := by
  rw [after_ops, r10_keep_v26, r9_keep_v26, r8_keep_v26, r7_keep_v26, r6_keep_v26, r5_v26, r4_keep_v21, r3_keep_v21, r4_keep_indices, r3_indices, r2_v21, r1_v12]
  rfl

theorem end_v105 : StableHlo.after (ops (F := F)) V main_v105 = boxes (F := F) (V main_arg0) := by
  rw [after_ops, r10_v105, r9_v99, r9_keep_v69, r8_v69, r9_keep_indices, r8_keep_indices, r7_keep_indices, r6_keep_indices, r5_keep_indices, r4_keep_indices, r3_indices,
    r7_v55, r7_keep_v30, r7_keep_v32, r7_keep_v34, r7_keep_v36, r7_keep_cst, r6_v30, r6_v32, r6_v34, r6_v36, r6_v40, r6_v44, r6_keep_cst, r5_keep_v25, r4_v25, r5_keep_cst,
    r4_keep_cst, r3_keep_cst, r2_keep_cst, r1_cst, r3_keep_arg0, r2_keep_arg0, r1_keep_arg0, r3_indices, r2_v21, r1_v12]
  rfl

end Cert.Proof.Ref
end
-- ==== Proof.Maths.Heat.lean ====
/- A heat map kept where it passes a threshold and is the largest of its 3×3 neighbourhood, and the two-channel softmax as a sigmoid of a difference. -/
module

public import proofs.«01_k».proof.Proof.Maths.TopPos
public import Idealize.ShloMosaic.Lib.IdealHost

@[expose] public section

set_option maxRecDepth 8192

noncomputable section

namespace Cert.Proof.Maths

open Idealize.ShloMosaic Idealize.ShloMosaic.ValueIdx

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

/-- Entry `(u - 1, v - 1)` of a 512×512 map, −∞ outside it. -/
def nbr (f : Fin 512 → Fin 512 → EReal) (u v : ℕ) : EReal :=
  if h : (1 ≤ u ∧ u < 513) ∧ 1 ≤ v ∧ v < 513 then f ⟨u - 1, by omega⟩ ⟨v - 1, by omega⟩ else ⊥

/-- The largest of the 3×3 neighbourhood of `(i, j)`. -/
def pool9 (f : Fin 512 → Fin 512 → EReal) (i j : ℕ) : EReal :=
  max (max (max (max (max (max (max (max (max ⊥ (nbr f (0 + i) (0 + j))) (nbr f (0 + i) (1 + j))) (nbr f (0 + i) (2 + j)))
    (nbr f (1 + i) (0 + j))) (nbr f (1 + i) (1 + j))) (nbr f (1 + i) (2 + j))) (nbr f (2 + i) (0 + j))) (nbr f (2 + i) (1 + j))) (nbr f (2 + i) (2 + j))

/-- The entry where it passes the threshold and is its neighbourhood's largest, else zero. -/
def keep (f : Fin 512 → Fin 512 → EReal) (i j : Fin 512) : EReal :=
  Scalar.select (IntOp.andi (Ideal.cmp .ogt (f i j) (Ideal.ofBits .f32 0x3E4CCCCD#32)) (Ideal.cmp .oeq (f i j) (pool9 f i.val j.val))) (f i j) 0

/-- The sigmoid, by cases on the sign. -/
def sigm (d : EReal) : EReal :=
  Scalar.select (Ideal.cmp .oge d 0) (Ideal.div 1 (Ideal.exp (0 - max d (-d)) + 1))
    (Ideal.div (Ideal.exp (0 - max d (-d))) (1 + Ideal.exp (0 - max d (-d))))

/-- The second entry of a softmax of two. -/
def softmax2 (a b : EReal) : EReal := Ideal.div (Ideal.exp (b - max a b)) (Ideal.exp (a - max a b) + Ideal.exp (b - max a b))

theorem softmax_eq_sigm (a b : ℝ) : softmax2 (a : EReal) (b : EReal) = sigm ((b : EReal) - (a : EReal)) := by
  have e0 : ((b : EReal) - (a : EReal)) = ((b - a : ℝ) : EReal) := (EReal.coe_sub b a).symm
  have exp0 : Ideal.exp ((0 : ℝ) : EReal) = 1 := by show ((Real.exp 0 : ℝ) : EReal) = 1; simp
  unfold softmax2 sigm
  rw [e0]
  rcases le_total a b with h | h
  · have hm : max (a : EReal) (b : EReal) = (b : EReal) := max_eq_right (EReal.coe_le_coe_iff.2 h)
    have hc : Ideal.cmp .oge ((b - a : ℝ) : EReal) 0 = 1#1 := by
      have : (0 : EReal) ≤ ((b - a : ℝ) : EReal) := by exact_mod_cast sub_nonneg.2 h
      show BitVec.ofBool (decide _) = _
      rw [decide_eq_true this]; rfl
    have hn : max ((b - a : ℝ) : EReal) (-((b - a : ℝ) : EReal)) = ((b - a : ℝ) : EReal) := by
      refine max_eq_left ?_
      rw [← EReal.coe_neg]; exact EReal.coe_le_coe_iff.2 (by linarith)
    rw [hm, hc, select_one, hn, ← EReal.coe_sub, ← EReal.coe_sub, sub_self, exp0,
      show (0 : EReal) - ((b - a : ℝ) : EReal) = ((a - b : ℝ) : EReal) from by
        rw [show (0 : EReal) = ((0 : ℝ) : EReal) from rfl, ← EReal.coe_sub]; congr 1; ring]
  · have hm : max (a : EReal) (b : EReal) = (a : EReal) := max_eq_left (EReal.coe_le_coe_iff.2 h)
    have hn : max ((b - a : ℝ) : EReal) (-((b - a : ℝ) : EReal)) = ((a - b : ℝ) : EReal) := by
      rw [← EReal.coe_neg, neg_sub]
      exact max_eq_right (EReal.coe_le_coe_iff.2 (by linarith))
    have h0 : (0 : EReal) - ((a - b : ℝ) : EReal) = ((b - a : ℝ) : EReal) := by
      rw [show (0 : EReal) = ((0 : ℝ) : EReal) from rfl, ← EReal.coe_sub]; congr 1; ring
    rw [hm, hn, h0, ← EReal.coe_sub, ← EReal.coe_sub, sub_self, exp0]
    by_cases hc : b - a < 0
    · have hc : Ideal.cmp .oge ((b - a : ℝ) : EReal) 0 = 0#1 := by
        have : ¬ (0 : EReal) ≤ ((b - a : ℝ) : EReal) := by
          rw [not_le]; exact_mod_cast hc
        show BitVec.ofBool (decide _) = _
        rw [decide_eq_false this]; rfl
      rw [hc, select_zero]
    · have hz : b - a = 0 := le_antisymm (by linarith) (not_lt.1 hc)
      rw [hz, exp0, add_comm]
      unfold Scalar.select
      split <;> rfl

end Cert.Proof.Maths
end
-- ==== Proof.KernelIdeal.MaskAt.lean ====
/- The masked heat map the mask call leaves, at an index. -/
module

public import proofs.«01_k».proof.Proof.KernelIdeal.End
public import proofs.«01_k».proof.Proof.Maths.Heat
public import Idealize.ShloMosaic.Lib.Pointwise
public import Idealize.ShloMosaic.Lib.Pipeline.ValueKit

@[expose] public section

set_option maxRecDepth 8192

noncomputable section

namespace Cert.Proof.KernelIdeal

open Cert.KernelIdeal Cert.KernelIdeal.Gen
open Idealize.ShloMosaic hiding ix1 ix2 ix3 ix4 ix5 ix6
open Idealize.ShloMosaic.ValueIdx
open Idealize.ShloMosaic.TcCoe Idealize.ShloMosaic.Tactic
open Cert.Proof.Maths

theorem cast_self {s : Shape} {α : Type} (x : s.Idx → α) (h) (j : s.Idx) : shapeCast s x h j = x j := cast_at _ _ _ _ rfl

theorem sigm_at (x : FVec Ideal S1x512x512 .f32) (i j : Fin 512) : k0_pay2 (F := Ideal) x (ix2 i j) = sigm (x (ix3 0 i j)) := by
  have h : shapeCast S512x512 x shapeCasts_S1x512x512_S512x512 (ix2 i j) = x (ix3 0 i j) :=
    cast_at _ _ _ _ (by rw [Shape.rowMajor_val_two, Shape.rowMajor_val_three]; simp)
  rw [← h]
  unfold sigm
  rw [← Ideal.ofBits_zero_f32, ← Ideal.ofBits_one_f32]
  rfl

/-- A window of the bordered image. -/
theorem tap_at (x : FVec Ideal S1x512x512 .f32) (a b : ℕ) (h) (i j : Fin 512) :
    tap (F := Ideal) x (7 + a) (127 + b) h (ix2 i j) = nbr (fun i j => sigm (x (ix3 0 i j))) (a + i.val) (b + j.val) := by
  unfold tap VecWindow.window padded VecWindow.put nbr
  by_cases hb : (1 ≤ a + i.val ∧ a + i.val < 513) ∧ 1 ≤ b + j.val ∧ b + j.val < 513
  · rw [dif_pos hb, dif_pos (by
      intro q
      match q with
      | ⟨0, _⟩ => show 8 ≤ 7 + a + 1 * i.val ∧ 7 + a + 1 * i.val < 8 + 512; omega
      | ⟨1, _⟩ => show 128 ≤ 127 + b + 1 * j.val ∧ 127 + b + 1 * j.val < 128 + 512; omega)]
    unfold k0_pay4
    refine (cast_self _ _ _).trans ?_
    refine Eq.trans (congrArg (k0_pay2 (F := Ideal) x) ?_) (sigm_at x ⟨a + i.val - 1, by omega⟩ ⟨b + j.val - 1, by omega⟩)
    funext q
    refine Fin.ext ?_
    match q with
    | ⟨0, _⟩ => show 7 + a + 1 * i.val - 8 = a + i.val - 1; omega
    | ⟨1, _⟩ => show 127 + b + 1 * j.val - 128 = b + j.val - 1; omega
  · rw [dif_neg hb, dif_neg (by
      intro hq
      have h0 : 8 ≤ 7 + a + 1 * i.val ∧ 7 + a + 1 * i.val < 8 + 512 := hq (0 : Fin 2)
      have h1 : 128 ≤ 127 + b + 1 * j.val ∧ 127 + b + 1 * j.val < 128 + 512 := hq (1 : Fin 2)
      omega)]
    unfold k0_pay3
    refine (cast_self _ _ _).trans ?_
    exact ofBits_bot

theorem maskBlock_at (x : FVec Ideal S1x512x512 .f32) (i j : Fin 512) :
    maskBlock (F := Ideal) x (ix3 0 i j) = keep (fun i j => sigm (x (ix3 0 i j))) i j := by
  unfold maskBlock k0_pay1
  refine (cast_at _ _ _ (ix2 i j : S512x512.Idx) (by rw [Shape.rowMajor_val_two, Shape.rowMajor_val_three]; simp)).trans ?_
  unfold keep pool9
  rw [← tap_at x 0 0 inb_S528x768_S512x512_7_127, ← tap_at x 0 1 inb_S528x768_S512x512_7_128, ← tap_at x 0 2 inb_S528x768_S512x512_7_129,
    ← tap_at x 1 0 inb_S528x768_S512x512_8_127, ← tap_at x 1 1 inb_S528x768_S512x512_8_128, ← tap_at x 1 2 inb_S528x768_S512x512_8_129,
    ← tap_at x 2 0 inb_S528x768_S512x512_9_127, ← tap_at x 2 1 inb_S528x768_S512x512_9_128, ← tap_at x 2 2 inb_S528x768_S512x512_9_129,
    ← ofBits_bot, ← Ideal.ofBits_zero_f32]
  dsimp only
  rw [← sigm_at]
  unfold k0_pay5
  simp only [show ∀ v h, shapeCast S512x512 (v : FVec Ideal S512x512 .f32) h = v from fun v h => funext fun j => cast_self v h j]
  rfl

theorem diff_at (x : FVec Ideal S4x512x512x32 .f32) (b : Fin 4) (i j : Fin 512) :
    diff (F := Ideal) x (ix3 b i j) = x (ix4 b i j 1) - x (ix4 b i j 0) := by
  unfold diff
  have h (v : FVec Ideal S4x512x512x1 .f32) (e) : shapeCast S4x512x512 v e (ix3 b i j) = v (ix4 b i j 0) :=
    cast_at _ _ _ _ (by rw [Shape.rowMajor_val_three, Shape.rowMajor_val_four]; simp)
  show shapeCast S4x512x512 _ _ (ix3 b i j) - shapeCast S4x512x512 _ _ (ix3 b i j) = _
  rw [h, h]
  congr 1
  · unfold extractStridedSlice
    congr 1
    funext q; refine Fin.ext ?_
    match q with
    | ⟨0, _⟩ => show 0 + b.val = b.val; omega
    | ⟨1, _⟩ => show 0 + i.val = i.val; omega
    | ⟨2, _⟩ => show 0 + j.val = j.val; omega
    | ⟨3, _⟩ => rfl
  · unfold extractStridedSlice
    congr 1
    funext q; refine Fin.ext ?_
    match q with
    | ⟨0, _⟩ => show 0 + b.val = b.val; omega
    | ⟨1, _⟩ => show 0 + i.val = i.val; omega
    | ⟨2, _⟩ => show 0 + j.val = j.val; omega
    | ⟨3, _⟩ => rfl

/-- Where the mask call's blocks lie: image after image. -/
theorem idx0 : ∀ t : Fin cfg0.N, win0_0.index t = ![t.val, 0, 0] ∧ win0_1.index t = ![t.val, 0, 0] ∧ t.val < 4 := (by decide +kernel : ∀ t : Fin grid0.N, _)

/-- The mask call's output array, over any entry contents. -/
theorem arr0 (n : ℕ) (V : (c : Dev nD) → Valuation τ sig (Elt Ideal)) (c : Dev nD) :
    (dat0 (F := Ideal) n V c).arrAt 1 cfg0.N
      = fun y : S4x512x512.Idx => keep (fun i j => sigm ((V c main_v4 : FVec Ideal S4x512x512 .f32) (ix3 (y 0) i j))) (y 1) (y 2) := by
  refine (dat0 (F := Ideal) n V c).arrAt_eq_of_covers 1 _ (by decide +kernel) fun t hf y => ?_
  blk_simp
  have h0 : (y 0).val < 1 := (y 0).isLt
  have ht := (idx0 t).2.2
  have e0 : (((cfg0.win 1).blk t).view.emb y : S4x512x512.Idx) 0 = (⟨t.val, ht⟩ : Fin 4) := by
    refine Fin.ext ?_
    blk_simp [idx0 t]
  have e1 : (((cfg0.win 1).blk t).view.emb y : S4x512x512.Idx) 1 = (y 1 : Fin 512) := by
    refine Fin.ext ?_
    blk_simp [idx0 t]
  have e2 : (((cfg0.win 1).blk t).view.emb y : S4x512x512.Idx) 2 = (y 2 : Fin 512) := by
    refine Fin.ext ?_
    blk_simp [idx0 t]
  rw [e0, e1, e2]
  have hy : y = (ix3 0 (y 1 : Fin 512) (y 2 : Fin 512) : S1x512x512.Idx) := by
    funext q; refine Fin.ext ?_
    match q with
    | ⟨0, _⟩ => show (y 0).val = 0; omega
    | ⟨1, _⟩ => rfl
    | ⟨2, _⟩ => rfl
  show maskBlock (((cfg0.win 0).blk t).view.read (Elt Ideal) (V c main_v4)) y = _
  rw [hy]
  refine (maskBlock_at _ _ _).trans ?_
  congr 1
  funext i j
  congr 1
  refine congrArg (V c main_v4) ?_
  funext q; refine Fin.ext ?_
  match q with
  | ⟨0, _⟩ => blk_simp [idx0 t]
  | ⟨1, _⟩ => blk_simp [idx0 t]
  | ⟨2, _⟩ => blk_simp [idx0 t]

variable (m : (ℓ : Loc nD τ sig) → Buf (Elt Ideal) ℓ) (d : Dev nD)

/-- The masked heat map of the kernel. -/
theorem masked_eq (b : Fin 4) (i j : Fin 512) : masked m d (ix3 b i j) = keep (fun i j => sigm (diff (arg m d) (ix3 b i j))) i j := by
  unfold masked VM
  have h : Pipeline.afterRegion (cfg := cfgs 0) (dats 0 (VA m) d 0) (VA m d) main_v5 = (dat0 (F := Ideal) 0 (VA m) d).arrAt 1 cfg0.N :=
    Pipeline.afterRegion_arr (cfg := cfgs 0) (dats 0 (VA m) d 0) (VA m d) launch0.win.arr_inj 1
  rw [h, arr0, va_v4]

end Cert.Proof.KernelIdeal
end
-- ==== Proof.Maths.TwoStage.lean ====
/- The greatest of a row, found by taking the greatest of each piece of it and then the greatest of those, are the greatest of
   the row itself: the same positions, ties going to the earlier position each time. -/
module

public import proofs.«01_k».proof.Proof.Maths.TopPos
public import Idealize.ShloMosaic.Lib.SortFacts

@[expose] public section

noncomputable section

namespace Cert.Proof.Maths

open Idealize.ShloMosaic

variable {α : Type} [LinearOrder α]

/-- Position `a` stands before position `b` in the descending order of a row: a greater entry, or an equal one earlier. -/
def before {n : ℕ} (x : Fin n → α) (a b : Fin n) : Bool := decide (x b < x a) || (decide (x a = x b) && decide (a < b))

theorem before_iff {n : ℕ} (x : Fin n → α) (a b : Fin n) : before x a b = true ↔ x b < x a ∨ (x a = x b ∧ a < b) := by
  simp [before]

theorem before_strict {n : ℕ} (x : Fin n → α) : StrictTotalBefore (before x) :=
  StrictTotalBefore.of_key_then_position (fun a b => decide (b < a)) x (fun a => by simp)
    (fun a b c h h' => by simp only [decide_eq_true_eq] at *; exact lt_trans h' h)
    (fun a b => by simp only [decide_eq_true_eq]; rcases lt_trichotomy a b with h | h | h <;> simp [h])

/-- On an increasing list of positions, a stable sort by the entries alone is the sort by entry and position. -/
theorem stableSort_entry {n : ℕ} (x : Fin n → α) (l : List (Fin n)) (hl : l.Pairwise (· < ·)) :
    stableSort (fun a b => decide (x b < x a)) l = stableSort (before x) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    have : ¬ b < a := not_lt.mpr hab.le
    simp [before, this]

theorem tkPos_eq {n : ℕ} (gt : α → α → BitVec 1) (hgt : ∀ a b, gt a b = 1#1 ↔ b < a) (x : Fin n → α) (k : Fin n) :
    tkPos gt x k = sortedFrom (before x) k := by
  have e : (fun a b : Fin n => gt (x a) (x b) == 1#1) = fun a b => decide (x b < x a) := by
    funext a b
    rw [Bool.eq_iff_iff]
    simp [hgt]
  have hs : sortPositions n (fun a b : Fin n => gt (x a) (x b) == 1#1) = sortPositions n (before x) := by
    rw [e]; exact stableSort_entry x _ (List.pairwise_lt_finRange n)
  unfold tkPos sortedFrom
  rw [List.get_of_eq hs]; rfl

theorem sorted_lt {n : ℕ} (x : Fin n → α) {i j : Fin n} (h : i < j) :
    before x (sortedFrom (before x) i) (sortedFrom (before x) j) = true := by
  have hB := before_strict x
  rcases hB.total (sortedFrom (before x) i) (sortedFrom (before x) j) (fun e => h.ne (sortedFrom_injective _ e)) with h' | h'
  · exact h'
  · have := sortedFrom_noInversion (before x) (before x) (fun a b => hB.asymm a b) (fun _ _ h => h) hB.negTrans i j h
    rw [this] at h'; cases h'

/-- What is not among the first `k` comes after each of them. -/
theorem sorted_out {n k : ℕ} (x : Fin n → α) (hk : k ≤ n) (i : Fin k) (p : Fin n)
    (hp : ∀ j : Fin k, sortedFrom (before x) (j.castLE hk) ≠ p) : before x (sortedFrom (before x) (i.castLE hk)) p = true := by
  obtain ⟨j, rfl⟩ := sortedFrom_surjective (before x) p
  refine sorted_lt x ?_
  by_contra hij
  have hj : j.val < k := lt_of_le_of_lt (Fin.not_lt.mp hij) i.isLt
  exact hp ⟨j.val, hj⟩ rfl

/-- The greatest `k` of a row `x`, by way of a shorter row `y` of some of its entries, in an order that agrees with `x`'s,
    such that whatever is left out comes after `k` of the entries kept. -/
theorem two_stage {n m k : ℕ} (x : Fin n → α) (y : Fin m → α) (flat : Fin m → Fin n) (hkn : k ≤ n) (hkm : k ≤ m)
    (hemb : ∀ p q, before y p q = true → before x (flat p) (flat q) = true)
    (hout : ∀ j, (∀ p, flat p ≠ j) → ∃ g : Fin k → Fin m, Function.Injective g ∧ ∀ r, before x (flat (g r)) j = true) (i : Fin k) :
    sortedFrom (before x) (i.castLE hkn) = flat (sortedFrom (before y) (i.castLE hkm)) := by
  have hB := before_strict x
  have hinj : Function.Injective flat := by
    intro p q h
    by_contra hne
    rcases (before_strict y).total p q hne with h' | h' <;>
      · have := hemb _ _ h'; rw [h, hB.irrefl] at this; cases this
  refine hB.sortedFrom_eq_of_prefix hkn (fun i => flat (sortedFrom (before y) (i.castLE hkm))) ?_ ?_ ?_ i
  · intro a b h
    have := sortedFrom_injective _ (hinj h)
    exact Fin.castLE_injective hkm this
  · intro a b h
    exact hB.asymm _ _ (hemb _ _ (sorted_lt y (i := a.castLE hkm) (j := b.castLE hkm) h))
  · intro a p hp
    refine hB.asymm _ _ ?_
    by_cases hf : ∃ c, flat c = p
    · obtain ⟨c, rfl⟩ := hf
      exact hemb _ _ (sorted_out y hkm a c fun j h => hp j (by rw [h]))
    · obtain ⟨g, hg, hgj⟩ := hout p fun c h => hf ⟨c, h⟩
      by_cases hall : ∀ r, ∃ j : Fin k, sortedFrom (before y) (j.castLE hkm) = g r
      · choose f hfj using hall
        have fi : Function.Injective f := fun r s h => hg (by rw [← hfj r, ← hfj s, h])
        obtain ⟨r, hr⟩ := Finite.surjective_of_injective fi a
        have := hgj r
        rw [← hfj r, hr] at this
        exact this
      · simp only [not_forall, not_exists] at hall
        obtain ⟨r, hr⟩ := hall
        exact hB.trans _ _ _ (hemb _ _ (sorted_out y hkm a (g r) hr)) (hgj r)

end Cert.Proof.Maths

end
-- ==== Proof.KernelIdeal.Peaks.lean ====
/- Over the extended reals: the peaks found in two rounds of top-k are the 1000 greatest entries of each image. -/
module

public import proofs.«01_k».proof.Proof.KernelIdeal.Index
public import proofs.«01_k».proof.Proof.Maths.TwoStage

@[expose] public section

set_option maxRecDepth 8192

noncomputable section

namespace Cert.Proof.KernelIdeal

open Cert.KernelIdeal Cert.KernelIdeal.Gen
open Idealize.ShloMosaic Idealize.ShloMosaic.ValueIdx
open Cert.Proof.Maths

/-- The entries of an image, its pixels in a row. -/
def imageAt (s : FVec Ideal S4x512x512 .f32) (b : Fin 4) : Fin 262144 → EReal :=
  fun n => s (ix3 b ⟨n.val / 512, by omega⟩ ⟨n.val % 512, by omega⟩)

theorem gt_iff (a b : EReal) : gtF (F := Ideal) a b = 1#1 ↔ b < a := by
  show Ideal.cmpTotal .gt a b = 1#1 ↔ _
  by_cases h : b < a <;> simp [Ideal.cmpTotal, Ideal.cmp, CmpDirection.ordered, h]

variable (s : FVec Ideal S4x512x512 .f32) (b : Fin 4)

/-- Entry `l` of strip `q` of image `b`. -/
theorem strip_at (q : Fin 16) (l : Fin 16384) :
    rowAt (strips s) ⟨16 * b.val + q.val, by omega⟩ l = imageAt s b ⟨q.val * 16384 + l.val, by omega⟩ := by
  unfold rowAt strips imageAt
  refine cast_at _ _ _ _ ?_
  rw [Shape.rowMajor_val_two, Shape.rowMajor_val_three]
  show (b.val * 512 + (q.val * 16384 + l.val) / 512) * 512 + (q.val * 16384 + l.val) % 512 = (16 * b.val + q.val) * 16384 + l.val
  omega

/-- An image's lists hold the entries at their positions. -/
theorem list_at (c : Fin 16000) : rowAt (lists (top1 s).1) b c = imageAt s b (flatOf s b c) := by
  unfold rowAt lists
  rw [cast_at _ _ _ (ix2 ⟨16 * b.val + c.val / 1000, by omega⟩ ⟨c.val % 1000, by omega⟩ : S64x1000.Idx) (by
    rw [Shape.rowMajor_val_two, Shape.rowMajor_val_two]
    show (16 * b.val + c.val / 1000) * 1000 + c.val % 1000 = b.val * 16000 + c.val
    omega)]
  unfold top1
  rw [topK_val _ _ _ (by omega)]
  exact strip_at s b ⟨c.val / 1000, by omega⟩ _

theorem pos1_eq (r : Fin 64) (i : Fin 1000) :
    pos1 s r i = sortedFrom (before (α := EReal) (rowAt (strips s) r)) (i.castLE (by norm_num)) := tkPos_eq _ gt_iff _ _

theorem flatOf_val (p : Fin 16000) : (flatOf s b p).val
    = p.val / 1000 * 16384 + (pos1 s ⟨16 * b.val + p.val / 1000, by omega⟩ ⟨p.val % 1000, by omega⟩).val := rfl

/-- The lists' order is the image's. -/
theorem list_order (p q : Fin 16000) (h : before (α := EReal) (rowAt (lists (top1 s).1) b) p q = true) :
    before (imageAt s b) (flatOf s b p) (flatOf s b q) = true := by
  rw [before_iff, list_at, list_at] at h
  rw [before_iff]
  rcases h with h | ⟨e, hpq⟩
  · exact Or.inl h
  refine Or.inr ⟨e, ?_⟩
  have hpq : p.val < q.val := Fin.lt_def.mp hpq
  rw [Fin.lt_def, flatOf_val, flatOf_val]
  by_cases hs : p.val / 1000 = q.val / 1000
  · have hr : (⟨16 * b.val + p.val / 1000, by omega⟩ : Fin 64) = ⟨16 * b.val + q.val / 1000, by omega⟩ := Fin.ext (by show 16 * b.val + p.val / 1000 = 16 * b.val + q.val / 1000; omega)
    have hlt : (⟨p.val % 1000, by omega⟩ : Fin 1000) < ⟨q.val % 1000, by omega⟩ := by show p.val % 1000 < q.val % 1000; omega
    have hb : before (α := EReal) (rowAt (strips s) ⟨16 * b.val + q.val / 1000, by omega⟩)
        (pos1 s ⟨16 * b.val + q.val / 1000, by omega⟩ ⟨p.val % 1000, by omega⟩)
        (pos1 s ⟨16 * b.val + q.val / 1000, by omega⟩ ⟨q.val % 1000, by omega⟩) = true := by
      rw [pos1_eq, pos1_eq]; exact sorted_lt _ hlt
    rw [before_iff, strip_at s b ⟨q.val / 1000, by omega⟩, strip_at s b ⟨q.val / 1000, by omega⟩] at hb
    rw [hr, hs]
    have e' : imageAt s b ⟨q.val / 1000 * 16384 + (pos1 s ⟨16 * b.val + q.val / 1000, by omega⟩ ⟨p.val % 1000, by omega⟩).val, by omega⟩
        = imageAt s b ⟨q.val / 1000 * 16384 + (pos1 s ⟨16 * b.val + q.val / 1000, by omega⟩ ⟨q.val % 1000, by omega⟩).val, by omega⟩ := by
      have h1 : flatOf s b p = ⟨q.val / 1000 * 16384 + (pos1 s ⟨16 * b.val + q.val / 1000, by omega⟩ ⟨p.val % 1000, by omega⟩).val, by omega⟩ := by
        refine Fin.ext ?_
        rw [flatOf_val, hr, hs]
      rw [← h1]; exact e
    rcases hb with hb | hb
    · exact absurd hb (by rw [e']; exact lt_irrefl _)
    · have : (pos1 s ⟨16 * b.val + q.val / 1000, by omega⟩ ⟨p.val % 1000, by omega⟩).val < (pos1 s ⟨16 * b.val + q.val / 1000, by omega⟩ ⟨q.val % 1000, by omega⟩).val := Fin.lt_def.mp hb.2
      omega
  · have h1 := (pos1 s ⟨16 * b.val + p.val / 1000, by omega⟩ ⟨p.val % 1000, by omega⟩).isLt
    have : p.val / 1000 < q.val / 1000 := by omega
    omega

/-- An entry in no list comes after the thousand of its strip's. -/
theorem list_out (j : Fin 262144) (hj : ∀ p, flatOf s b p ≠ j) :
    ∃ g : Fin 1000 → Fin 16000, Function.Injective g ∧ ∀ r, before (imageAt s b) (flatOf s b (g r)) j = true := by
  have hq : j.val / 16384 < 16 := by omega
  refine ⟨fun r => ⟨j.val / 16384 * 1000 + r.val, by omega⟩, fun r r' h => ?_, fun r => ?_⟩
  · have : j.val / 16384 * 1000 + r.val = j.val / 16384 * 1000 + r'.val := congrArg Fin.val h
    exact Fin.ext (by omega)
  · have hflat : ∀ r : Fin 1000, flatOf s b ⟨j.val / 16384 * 1000 + r.val, by omega⟩
        = ⟨j.val / 16384 * 16384 + (pos1 s ⟨16 * b.val + j.val / 16384, by omega⟩ r).val, by omega⟩ := by
      intro r
      refine Fin.ext ?_
      have h1 : (j.val / 16384 * 1000 + r.val) / 1000 = j.val / 16384 := by omega
      have h2 : (⟨(j.val / 16384 * 1000 + r.val) % 1000, by omega⟩ : Fin 1000) = r := Fin.ext (by show (j.val / 16384 * 1000 + r.val) % 1000 = r.val; omega)
      have h3 : (⟨16 * b.val + (j.val / 16384 * 1000 + r.val) / 1000, by omega⟩ : Fin 64) = ⟨16 * b.val + j.val / 16384, by omega⟩ := Fin.ext (by show 16 * b.val + _ = 16 * b.val + _; omega)
      rw [flatOf_val, h2, h3, h1]
    have hb : before (α := EReal) (rowAt (strips s) ⟨16 * b.val + j.val / 16384, by omega⟩)
        (pos1 s ⟨16 * b.val + j.val / 16384, by omega⟩ r) ⟨j.val % 16384, by omega⟩ = true := by
      rw [pos1_eq]
      refine sorted_out _ (by omega) r _ fun i hi => ?_
      refine hj ⟨j.val / 16384 * 1000 + i.val, by omega⟩ ?_
      rw [hflat, Fin.ext_iff]
      have hv := congrArg Fin.val hi
      rw [← pos1_eq] at hv
      dsimp only at hv ⊢
      omega
    have hjj : (⟨j.val / 16384 * 16384 + j.val % 16384, by omega⟩ : Fin 262144) = j := Fin.ext (by show j.val / 16384 * 16384 + j.val % 16384 = j.val; omega)
    rw [before_iff, strip_at s b ⟨j.val / 16384, hq⟩, strip_at s b ⟨j.val / 16384, hq⟩] at hb
    rw [before_iff]
    simp only [hflat]
    simp only [hjj] at hb
    rcases hb with hb | ⟨e, hb⟩
    · exact Or.inl hb
    · refine Or.inr ⟨e, ?_⟩
      have hb : (pos1 s ⟨16 * b.val + j.val / 16384, by omega⟩ r).val < j.val % 16384 := Fin.lt_def.mp hb
      rw [Fin.lt_def]
      dsimp only
      omega

/-- The peaks are the image's greatest entries. -/
theorem peak_eq (k : Fin 1000) : peak s b k = sortedFrom (before (imageAt s b)) (k.castLE (by omega)) := by
  unfold peak pos2
  rw [tkPos_eq _ gt_iff]
  exact (two_stage (imageAt s b) _ (flatOf s b) (by omega) (by omega) (list_order s b) (list_out s b) k).symm

/-- Their values. -/
theorem top2_val (k : Fin 1000) : (top2 s).1 (ix2 b k) = imageAt s b (peak s b k) := by
  unfold top2
  rw [topK_val _ _ _ (by omega), list_at]; first | rfl | done

end Cert.Proof.KernelIdeal
end
-- ==== Proof.Maths.Box.lean ====
/- One decoded box, from its pixel's channels, its place in the image and its best heading bin. -/
module

public import proofs.«01_k».proof.Proof.Maths.Heat

@[expose] public section

set_option maxRecDepth 8192

noncomputable section

namespace Cert.Proof.Maths

open Idealize.ShloMosaic Idealize.ShloMosaic.ValueIdx

/-- The centre of the cell at index `i` along one axis of the map. -/
def centre (i : ℕ) : EReal :=
  Ideal.ofBits .f32 0xC2A3D70A#32 + (((i : ℝ) : EReal) + Ideal.ofBits .f32 0x3F000000#32) * Ideal.ofBits .f32 0x3EA3D70A#32

/-- The remainder modulo `p`, with the sign of `p`. -/
def moduloAt (a p : EReal) : EReal :=
  Scalar.select (IntOp.andi (IntOp.xori (Ideal.cmp .olt (Ideal.remf a p) 0) (Ideal.cmp .olt p 0)) (Ideal.cmp .one (Ideal.remf a p) 0))
    (Ideal.remf a p + p) (Ideal.remf a p)

/-- A full turn off an angle above a half turn. -/
def foldAt (w : EReal) : EReal :=
  Scalar.select (Ideal.cmp .ogt w (Ideal.ofBits .f32 0x40490FDB#32)) (w - Ideal.ofBits .f32 0x40C90FDB#32) w

/-- The heading of bin `q` and residual `e`. -/
def headingAt (q : ℕ) (e : EReal) : EReal :=
  foldAt (moduloAt (((q : ℝ) : EReal) * Ideal.ofBits .f32 0x3F060A92#32 + e * Ideal.ofBits .f32 0x3E860A92#32) (Ideal.ofBits .f32 0x40C90FDB#32))

/-- Column `c` of the box decoded from the channels `r` of pixel `p`, whose best heading bin is `q`. -/
def boxAt (r : Fin 32 → EReal) (p : ℕ) (q : Fin 12) : Fin 7 → EReal
  | 0 => centre (p / 512) + r 2
  | 1 => centre (p % 512) + r 3
  | 2 => r 4
  | 3 => r 29 * Ideal.ofBits .f32 0x40966666#32 + Ideal.ofBits .f32 0x40966666#32
  | 4 => r 30 * Ideal.ofBits .f32 0x40066666#32 + Ideal.ofBits .f32 0x40066666#32
  | 5 => r 31 * Ideal.ofBits .f32 0x3FD9999A#32 + Ideal.ofBits .f32 0x3FD9999A#32
  | 6 => headingAt q.val (r ⟨17 + q.val, by omega⟩)

/-- `q` is the first place of the largest entry of `f`. -/
def IsFirst {n : ℕ} (f : Fin n → EReal) (q : Fin n) : Prop := ∀ k, f k ≤ f q ∧ (k < q → f k < f q)

theorem exists_first {n : ℕ} (f : Fin (n + 1) → EReal) : ∃ q, IsFirst f q := by
  obtain ⟨j, -, hj⟩ := Finset.exists_max_image Finset.univ f ⟨0, Finset.mem_univ _⟩
  have hne : (Finset.univ.filter fun i => f i = f j).Nonempty := ⟨j, by simp⟩
  refine ⟨(Finset.univ.filter fun i => f i = f j).min' hne, fun k => ?_⟩
  have hq : f ((Finset.univ.filter fun i => f i = f j).min' hne) = f j := (Finset.mem_filter.1 (Finset.min'_mem _ hne)).2
  refine ⟨(hj k (Finset.mem_univ _)).trans (le_of_eq hq.symm), fun hk => ?_⟩
  rw [hq]
  refine lt_of_le_of_ne (hj k (Finset.mem_univ _)) fun e => ?_
  exact absurd (Finset.min'_le (Finset.univ.filter fun i => f i = f j) k (by simp [e])) (not_le.2 hk)

end Cert.Proof.Maths
end
-- ==== Proof.KernelIdeal.DecodeSum.lean ====
/- The sums, maxima and minima along a row that the decode call takes. -/
module

public import proofs.«01_k».proof.Proof.KernelIdeal.MaskAt
public import proofs.«01_k».proof.Proof.Maths.Box

@[expose] public section

set_option maxRecDepth 8192

noncomputable section

namespace Cert.Proof.KernelIdeal

open Cert.KernelIdeal Cert.KernelIdeal.Gen
open Idealize.ShloMosaic hiding ix1 ix2 ix3 ix4 ix5 ix6
open Idealize.ShloMosaic.ValueIdx
open Cert.Proof.Maths

theorem lift_row (n : Fin 4096) (k : Fin 32) : reduces_S4096x32_S4096.lift (ix1 n : S4096.Idx) k = (ix2 n k : S4096x32.Idx) := by
  funext q; refine Fin.ext ?_
  match q with
  | ⟨0, _⟩ => rfl
  | ⟨1, _⟩ => rfl

theorem asColumn_at (v : FVec Ideal S4096 .f32) (n : Fin 4096) : shapeCast S4096x1 v shapeCasts_S4096_S4096x1 (ix2 n 0) = v (ix1 n) :=
  cast_at _ _ _ _ (by rw [Shape.rowMajor_val_two, Shape.rowMajor_val_one]; simp)

theorem rowSum_at (v : FVec Ideal S4096x32 .f32) (n : Fin 4096) (hφ) (hacc) :
    shapeCast S4096x1 (multiReduction .add [1] S4096 v 0x00000000#32 reduces_S4096x32_S4096 hφ hacc) shapeCasts_S4096_S4096x1 (ix2 n 0)
      = ∑ k : Fin 32, v (ix2 n k) := by
  refine (asColumn_at _ n).trans ((Ideal.multiReduction_add_single v _ reduces_S4096x32_S4096 hφ hacc (ix1 n)).trans ?_)
  exact Finset.sum_congr rfl fun k _ => congrArg v (lift_row n k)

theorem rowMax_at (v : FVec Ideal S4096x32 .f32) (n : Fin 4096) (hφ) (hacc) :
    shapeCast S4096x1 (multiReduction .maximumf [1] S4096 v 0xFF800000#32 reduces_S4096x32_S4096 hφ hacc) shapeCasts_S4096_S4096x1 (ix2 n 0)
      = Finset.univ.fold max ⊥ fun k : Fin 32 => v (ix2 n k) := by
  refine (asColumn_at _ n).trans ((Ideal.multiReduction_maximumf_single v _ reduces_S4096x32_S4096 hφ hacc (ix1 n)).trans ?_)
  rw [Ideal.ofBits_def, ofBits_bot]
  exact congrArg (fun g => Finset.univ.fold max ⊥ g) (funext fun k => congrArg v (lift_row n k))

theorem rowMin_at (v : FVec Ideal S4096x32 .f32) (n : Fin 4096) (hφ) (hacc) :
    shapeCast S4096x1 (multiReduction .minimumf [1] S4096 v 0x7F800000#32 reduces_S4096x32_S4096 hφ hacc) shapeCasts_S4096_S4096x1 (ix2 n 0)
      = Finset.univ.fold min ⊤ fun k : Fin 32 => v (ix2 n k) := by
  refine (asColumn_at _ n).trans ((multiReduction_minimumf_eq_fold v _ reduces_S4096x32_S4096 hφ hacc (ix1 n)).trans ?_)
  rw [Ideal.ofBits_def, ofBits_top]
  refine (reduces_S4096x32_S4096.fold_filter_drop_single _ _ v (ix1 n)).trans ?_
  exact congrArg (fun g => Finset.univ.fold min ⊤ g) (funext fun k => congrArg v (lift_row n k))

/-- The column numbers. -/
def cols : IVec S4096x32 32 := iota .tc S4096x32 32 [1] iota_S4096x32_d1_w32

theorem cols_at (n : Fin 4096) (k : Fin 32) : cols (ix2 n k) = BitVec.ofNat 32 k.val := by
  show BitVec.ofNat 32 (0 * 32 + k.val) = _
  rw [Nat.zero_mul, Nat.zero_add]

theorem eq_word (k c : Fin 32) : IntOp.cmpi .eq (BitVec.ofNat 32 k.val) (BitVec.ofNat 32 c.val) = if k = c then 1#1 else 0#1 := by
  revert k c; decide +kernel

/-- A row's sum with all columns but one put to zero is that column's entry. -/
theorem pick_at (v : FVec Ideal S4096x32 .f32) (n : Fin 4096) (c : Fin 32) (w : BitVec 32) (hw : w = BitVec.ofNat 32 c.val) (hφ) (hacc) :
    shapeCast S4096x1 (multiReduction .add [1] S4096 (select (cmpi .eq cols (broadcast S4096x32 w)) v
      (broadcast S4096x32 (Scalar.ofBits (F := Ideal) .f32 0x00000000#32))) 0x00000000#32 reduces_S4096x32_S4096 hφ hacc) shapeCasts_S4096_S4096x1 (ix2 n 0)
      = v (ix2 n c) := by
  subst hw
  rw [rowSum_at]
  have h (k : Fin 32) : select (cmpi .eq cols (broadcast S4096x32 (BitVec.ofNat 32 c.val))) v
      (broadcast S4096x32 (Scalar.ofBits (F := Ideal) .f32 0x00000000#32)) (ix2 n k) = if k = c then v (ix2 n k) else 0 := by
    show Scalar.select (IntOp.cmpi .eq (cols (ix2 n k)) (BitVec.ofNat 32 c.val)) (v (ix2 n k)) (Ideal.ofBits .f32 0x00000000#32) = _
    rw [cols_at, eq_word, Ideal.ofBits_zero_f32]
    by_cases hk : k = c
    · rw [if_pos hk, if_pos hk]; rfl
    · rw [if_neg hk, if_neg hk]; rfl
  rw [Finset.sum_congr rfl fun k _ => h k, Finset.sum_ite_eq' Finset.univ c, if_pos (Finset.mem_univ c)]

end Cert.Proof.KernelIdeal
end
-- ==== Proof.Maths.Words.lean ====
/- The small numbers the kernel and the reference write as float words, and whole parts of quotients. -/
module

public import proofs.«01_k».proof.Proof.Maths.Box

@[expose] public section

noncomputable section

namespace Cert.Proof.Maths

open Idealize.ShloMosaic Idealize.ShloMosaic.ValueIdx

theorem ofBits_quarter : Ideal.ofBits .f32 0x3E800000#32 = ((1 / 4 : ℝ) : EReal) := by simp [Ideal.ofBits, Ideal.ieee, -EReal.coe_mul]; norm_num
theorem ofBits_2 : Ideal.ofBits .f32 0x40000000#32 = ((2 : ℝ) : EReal) := by simp [Ideal.ofBits, Ideal.ieee, -EReal.coe_mul]; norm_num
theorem ofBits_3 : Ideal.ofBits .f32 0x40400000#32 = ((3 : ℝ) : EReal) := by simp [Ideal.ofBits, Ideal.ieee, -EReal.coe_mul]; norm_num
theorem ofBits_4 : Ideal.ofBits .f32 0x40800000#32 = ((4 : ℝ) : EReal) := by simp [Ideal.ofBits, Ideal.ieee, -EReal.coe_mul]; norm_num
theorem ofBits_5 : Ideal.ofBits .f32 0x40A00000#32 = ((5 : ℝ) : EReal) := by simp [Ideal.ofBits, Ideal.ieee, -EReal.coe_mul]; norm_num
theorem ofBits_17 : Ideal.ofBits .f32 0x41880000#32 = ((17 : ℝ) : EReal) := by simp [Ideal.ofBits, Ideal.ieee, -EReal.coe_mul]; norm_num
theorem ofBits_512 : Ideal.ofBits .f32 0x44000000#32 = ((512 : ℝ) : EReal) := by simp [Ideal.ofBits, Ideal.ieee, -EReal.coe_mul]; norm_num
theorem ofBits_far : Ideal.ofBits .f32 0x4E6E6B28#32 = ((1000000000 : ℝ) : EReal) := by simp [Ideal.ofBits, Ideal.ieee, -EReal.coe_mul]; norm_num

/-- The whole part of a quotient of naturals. -/
theorem floor_quot (p k : ℕ) (hk : 0 < k) : Int.floor ((p : ℝ) * (k : ℝ)⁻¹) = ((p / k : ℕ) : ℤ) := by
  have hk' : (0 : ℝ) < k := by exact_mod_cast hk
  rw [← div_eq_mul_inv, Int.floor_eq_iff]
  have h := Nat.div_add_mod p k
  have hm := Nat.mod_lt p hk
  constructor
  · rw [le_div_iff₀ hk']
    have : (p / k) * k ≤ p := Nat.div_mul_le_self p k
    exact_mod_cast this
  · rw [div_lt_iff₀ hk']
    have : p < (p / k + 1) * k := by rw [Nat.add_mul, Nat.one_mul, Nat.mul_comm]; omega
    exact_mod_cast this

theorem floor_quot_real (p k : ℕ) (hk : 0 < k) : ((Int.floor ((p : ℝ) * (k : ℝ)⁻¹) : ℤ) : ℝ) = ((p / k : ℕ) : ℝ) := by
  rw [floor_quot p k hk]; exact Int.cast_natCast _

/-- Four times the whole part of a quarter, taken off: the remainder. -/
theorem rem_quarter (p : ℕ) :
    ((p : ℝ) : EReal) - Ideal.liftRound Int.floor (((p : ℝ) : EReal) * Ideal.ofBits .f32 0x3E800000#32) * Ideal.ofBits .f32 0x40800000#32
      = (((p % 4 : ℕ) : ℝ) : EReal) := by
  rw [ofBits_quarter, ofBits_4, ← EReal.coe_mul, Ideal.liftRound_coe, show ((1 : ℝ) / 4) = ((4 : ℕ) : ℝ)⁻¹ by norm_num, floor_quot_real p 4 (by norm_num),
    ← EReal.coe_mul, ← EReal.coe_sub]
  congr 1
  have h : ((4 * (p / 4) + p % 4 : ℕ) : ℝ) = p := by rw [Nat.div_add_mod]
  push_cast at h ⊢
  linarith

theorem div_512 (p : ℕ) : Ideal.liftRound Int.floor (Ideal.div ((p : ℝ) : EReal) (Ideal.ofBits .f32 0x44000000#32)) = (((p / 512 : ℕ) : ℝ) : EReal) := by
  have hd : Ideal.div ((p : ℝ) : EReal) ((512 : ℝ) : EReal) = (((p : ℝ) * ((512 : ℕ) : ℝ)⁻¹ : ℝ) : EReal) := by
    unfold Ideal.div
    rw [if_neg (by simp), ← EReal.coe_inv, ← EReal.coe_mul]
    norm_num
  rw [ofBits_512, hd, Ideal.liftRound_coe, floor_quot_real p 512 (by norm_num)]

theorem rem_512 (p : ℕ) : ((p : ℝ) : EReal) - (((p / 512 : ℕ) : ℝ) : EReal) * Ideal.ofBits .f32 0x44000000#32 = (((p % 512 : ℕ) : ℝ) : EReal) := by
  rw [ofBits_512, ← EReal.coe_mul, ← EReal.coe_sub]
  congr 1
  have h : ((512 * (p / 512) + p % 512 : ℕ) : ℝ) = p := by rw [Nat.div_add_mod]
  push_cast at h ⊢
  linarith

/-- A small natural's word as a float. -/
theorem ofInt_word (p : ℕ) (hp : p < 2 ^ 31) : FloatOps.sitofp (F := Ideal) .f32 (BitVec.ofNat 32 p) = ((p : ℝ) : EReal) := by
  show ((((BitVec.ofNat 32 p).toInt : ℤ) : ℝ) : EReal) = _
  rw [BitVec.toInt_eq_toNat_of_lt (by rw [BitVec.toNat_ofNat]; omega), BitVec.toNat_ofNat, Nat.mod_eq_of_lt (by omega)]
  simp

theorem cmp_oeq (a b : EReal) : Ideal.cmp .oeq a b = if a = b then 1#1 else 0#1 := by
  show BitVec.ofBool (decide (a = b)) = _
  by_cases h : a = b <;> simp [h]

theorem select_ite (c : Prop) [Decidable c] (a b : EReal) : Scalar.select (if c then 1#1 else 0#1) a b = if c then a else b := by
  by_cases h : c <;> simp [h, Scalar.select]

end Cert.Proof.Maths
end
-- ==== Proof.KernelIdeal.DecodeRow.lean ====
/- The decode call's row: the pixel's channels picked out of the gathered row, and its best heading bin. -/
module

public import proofs.«01_k».proof.Proof.KernelIdeal.DecodeSum
public import proofs.«01_k».proof.Proof.Maths.Words

@[expose] public section

set_option maxRecDepth 8192

noncomputable section

namespace Cert.Proof.KernelIdeal

open Cert.KernelIdeal Cert.KernelIdeal.Gen
open Idealize.ShloMosaic hiding ix1 ix2 ix3 ix4 ix5 ix6
open Idealize.ShloMosaic.ValueIdx
open Cert.Proof.Maths

theorem spread_at {α : Type} (v : S4096x1.Idx → α) (n : Fin 4096) (c : Fin 32) :
    broadcastTo S4096x32 v broadcasts_S4096x1_S4096x32 (ix2 n c) = v (ix2 n 0) := by
  unfold broadcastTo
  congr 1; funext q; refine Fin.ext ?_
  match q with
  | ⟨0, _⟩ => rfl
  | ⟨1, _⟩ => rfl

/-- One quarter of the gathered row, where the lane number is `w`, else zero. -/
theorem lane_at (x0 : FVec Ideal S4096x128 .f32) (L : FVec Ideal S4096x1 .f32) (w : Ideal .f32) (n : Fin 4096) (c : Fin 32) (o : ℕ) (ho : o + 32 ≤ 128)
    (h : S4096x128.Slices ![0, o] S4096x32) (h1 h2) :
    select (broadcastTo S4096x32 (shapeCast S4096x1 (cmpf .oeq L (broadcast S4096x1 w)) h1) broadcasts_S4096x1_S4096x32)
      (extractStridedSlice S4096x32 ![0, o] (shapeCast S4096x128 x0 h2) h) (broadcast S4096x32 (Scalar.ofBits (F := Ideal) .f32 0x00000000#32)) (ix2 n c)
      = if L (ix2 n 0) = w then x0 (ix2 n ⟨o + c.val, by omega⟩) else 0 := by
  have e : extractStridedSlice S4096x32 ![0, o] (shapeCast S4096x128 x0 h2) h (ix2 n c) = x0 (ix2 n ⟨o + c.val, by omega⟩) := by
    unfold extractStridedSlice
    refine (cast_self _ _ _).trans ?_
    congr 1; funext q; refine Fin.ext ?_
    match q with
    | ⟨0, _⟩ => show 0 + n.val = n.val; omega
    | ⟨1, _⟩ => rfl
  have f : broadcastTo S4096x32 (shapeCast S4096x1 (cmpf .oeq L (broadcast S4096x1 w)) h1) broadcasts_S4096x1_S4096x32 (ix2 n c)
      = if L (ix2 n 0) = w then 1#1 else 0#1 := by
    rw [spread_at, cast_self]
    exact cmp_oeq _ _
  refine (select_apply _ _ _ _).trans ?_
  rw [e, f]
  refine (select_ite _ _ _).trans ?_
  by_cases hh : L (ix2 n 0) = w
  · rw [if_pos hh, if_pos hh]
  · rw [if_neg hh, if_neg hh]; exact Ideal.ofBits_zero_f32

/-- The lane number of a row's position. -/
def laneOf (x1 : FVec Ideal S4096x1 .f32) : FVec Ideal S4096x1 .f32 :=
  subf (k2_pay1 (F := Ideal) x1) (mulf (floor (mulf (k2_pay1 (F := Ideal) x1) (broadcast S4096x1 (Scalar.ofBits (F := Ideal) .f32 0x3E800000#32))))
    (broadcast S4096x1 (Scalar.ofBits (F := Ideal) .f32 0x40800000#32)))

theorem pay1_at (x1 : FVec Ideal S4096x1 .f32) (j) : k2_pay1 (F := Ideal) x1 j = x1 j := cast_self _ _ _

theorem laneOf_at (x1 : FVec Ideal S4096x1 .f32) (n : Fin 4096) (p : ℕ) (hp : x1 (ix2 n 0) = ((p : ℝ) : EReal)) :
    laneOf x1 (ix2 n 0) = (((p % 4 : ℕ) : ℝ) : EReal) := by
  rw [← rem_quarter, ← hp, ← pay1_at x1]
  rfl

theorem rows_at (x0 : FVec Ideal S4096x128 .f32) (x1 : FVec Ideal S4096x1 .f32) (n : Fin 4096) (p : ℕ) (hp : x1 (ix2 n 0) = ((p : ℝ) : EReal)) (c : Fin 32) :
    k2_pay2 (F := Ideal) x0 x1 (ix2 n c) = x0 (ix2 n ⟨32 * (p % 4) + c.val, by omega⟩) := by
  have hL := laneOf_at x1 n p hp
  unfold k2_pay2
  refine (congrArg₂ (· + ·) (congrArg₂ (· + ·) (congrArg₂ (· + ·) (congrArg₂ (· + ·) (Ideal.ofBits_zero_f32)
    (lane_at x0 (laneOf x1) _ n c 0 (by omega) _ _ _)) (lane_at x0 (laneOf x1) _ n c 32 (by omega) _ _ _))
    (lane_at x0 (laneOf x1) _ n c 64 (by omega) _ _ _)) (lane_at x0 (laneOf x1) _ n c 96 (by omega) _ _ _)).trans ?_
  rw [hL]
  have h0 : (Scalar.ofBits (F := Ideal) .f32 0x00000000#32 : EReal) = ((0 : ℝ) : EReal) := Ideal.ofBits_zero_f32
  have h1 : (Scalar.ofBits (F := Ideal) .f32 0x3F800000#32 : EReal) = ((1 : ℝ) : EReal) := Ideal.ofBits_one_f32
  have h2 : (Scalar.ofBits (F := Ideal) .f32 0x40000000#32 : EReal) = ((2 : ℝ) : EReal) := ofBits_2
  have h3 : (Scalar.ofBits (F := Ideal) .f32 0x40400000#32 : EReal) = ((3 : ℝ) : EReal) := ofBits_3
  have h4 : p % 4 < 4 := Nat.mod_lt _ (by norm_num)
  have hc (a : ℕ) (b : ℝ) : (((a : ℝ) : EReal) = (b : EReal)) ↔ (a : ℝ) = b := EReal.coe_eq_coe_iff
  rw [h0, h1, h2, h3]
  simp only [hc]
  have key : ∀ (l : ℕ) (hl : l < 4), ((((0 + if (l : ℝ) = 0 then x0 (ix2 n ⟨0 + c.val, by omega⟩) else 0) + if (l : ℝ) = 1 then x0 (ix2 n ⟨32 + c.val, by omega⟩) else 0)
      + if (l : ℝ) = 2 then x0 (ix2 n ⟨64 + c.val, by omega⟩) else 0) + if (l : ℝ) = 3 then x0 (ix2 n ⟨96 + c.val, by omega⟩) else 0 : EReal)
      = x0 (ix2 n ⟨32 * l + c.val, by omega⟩) := by
    intro l hl
    interval_cases l <;> norm_num
  exact key _ h4

theorem pay3_at (n : Fin 4096) (k : Fin 32) : k2_pay3 (F := Ideal) (ix2 n k) = ((k.val : ℝ) : EReal) :=
  (congrArg (FloatOps.sitofp (F := Ideal) .f32) (cols_at n k)).trans (ofInt_word k.val (by omega))

theorem bin_word : ∀ k : Fin 32, IntOp.andi (IntOp.cmpi .sge (BitVec.ofNat 32 k.val) 5#32) (IntOp.cmpi .sle (BitVec.ofNat 32 k.val) 16#32)
    = if 5 ≤ k.val ∧ k.val ≤ 16 then 1#1 else 0#1 := by decide +kernel
theorem res_word : ∀ k : Fin 32, IntOp.cmpi .sge (BitVec.ofNat 32 k.val) 17#32 = if 17 ≤ k.val then 1#1 else 0#1 := by decide +kernel

theorem and_ite (a b : Prop) [Decidable a] [Decidable b] : IntOp.andi (if a then 1#1 else 0#1) (if b then 1#1 else 0#1) = if a ∧ b then 1#1 else 0#1 := by
  by_cases ha : a <;> by_cases hb : b <;> simp [ha, hb, IntOp.andi]

theorem both_at (M : IVec S4096x32 1) (a b : FVec Ideal S4096x32 .f32) (j : S4096x32.Idx) :
    andi M (cmpf .oeq a b) j = IntOp.andi (M j) (Ideal.cmp .oeq (a j) (b j)) := rfl

variable (v : FVec Ideal S4096x32 .f32) (n : Fin 4096) (q : Fin 12)

/-- The heading bins of a row. -/
abbrev binsOf (k : Fin 12) : EReal := v (ix2 n ⟨5 + k.val, by omega⟩)

/-- The columns of the heading bins. -/
def binMask : IVec S4096x32 1 := andi (cmpi .sge cols (broadcast S4096x32 5#32)) (cmpi .sle cols (broadcast S4096x32 16#32))

theorem binMask_at (k : Fin 32) : binMask (ix2 n k) = if 5 ≤ k.val ∧ k.val ≤ 16 then 1#1 else 0#1 := by
  show IntOp.andi (IntOp.cmpi .sge (cols (ix2 n k)) 5#32) (IntOp.cmpi .sle (cols (ix2 n k)) 16#32) = _
  rw [cols_at, bin_word]

/-- The highest score. -/
def bestScore : FVec Ideal S4096x1 .f32 :=
  shapeCast S4096x1 (multiReduction .maximumf [1] S4096 (select binMask v (broadcast S4096x32 (Scalar.ofBits (F := Ideal) .f32 0xFF800000#32)))
    0xFF800000#32 reduces_S4096x32_S4096 (.inl rfl) rfl) shapeCasts_S4096_S4096x1

theorem bestScore_at (hq : IsFirst (binsOf v n) q) : bestScore v (ix2 n 0) = binsOf v n q := by
  unfold bestScore
  have h (k : Fin 32) : select binMask v (broadcast S4096x32 (Scalar.ofBits (F := Ideal) .f32 0xFF800000#32)) (ix2 n k)
      = if 5 ≤ k.val ∧ k.val ≤ 16 then v (ix2 n k) else ⊥ := by
    refine (select_apply _ _ _ _).trans ?_
    rw [binMask_at]
    refine (select_ite _ _ _).trans ?_
    rw [show broadcast S4096x32 (Scalar.ofBits (F := Ideal) .f32 0xFF800000#32) (ix2 n k) = (⊥ : EReal) from ofBits_bot]
  refine (rowMax_at _ n _ _).trans ((congrArg (fun g => Finset.univ.fold max ⊥ g) (funext h)).trans ?_)
  refine le_antisymm ((Finset.fold_max_le _).2 ⟨bot_le, fun k _ => ?_⟩) ((Finset.le_fold_max _).2 (Or.inr ⟨⟨5 + q.val, by omega⟩, Finset.mem_univ _, ?_⟩))
  · by_cases hk : 5 ≤ k.val ∧ k.val ≤ 16
    · rw [if_pos hk]
      have := (hq ⟨k.val - 5, by omega⟩).1
      have e : (⟨5 + (k.val - 5), by omega⟩ : Fin 32) = k := Fin.ext (by show 5 + (k.val - 5) = k.val; omega)
      unfold binsOf at this
      rw [e] at this
      exact this
    · rw [if_neg hk]; exact bot_le
  · rw [if_pos (show 5 ≤ 5 + q.val ∧ 5 + q.val ≤ 16 by omega)]

/-- The index of the best bin. -/
def bestBin : FVec Ideal S4096x1 .f32 :=
  shapeCast S4096x1 (multiReduction .minimumf [1] S4096 (select (andi binMask (cmpf .oeq v (broadcastTo S4096x32 (bestScore v) broadcasts_S4096x1_S4096x32)))
    (subf (k2_pay3 (F := Ideal)) (broadcast S4096x32 (Scalar.ofBits (F := Ideal) .f32 0x40A00000#32))) (broadcast S4096x32 (Scalar.ofBits (F := Ideal) .f32 0x4E6E6B28#32)))
    0x7F800000#32 reduces_S4096x32_S4096 (.inl rfl) rfl) shapeCasts_S4096_S4096x1

theorem bestBin_at (hq : IsFirst (binsOf v n) q) : bestBin v (ix2 n 0) = ((q.val : ℝ) : EReal) := by
  unfold bestBin
  have h (k : Fin 32) : select (andi binMask (cmpf .oeq v (broadcastTo S4096x32 (bestScore v) broadcasts_S4096x1_S4096x32)))
      (subf (k2_pay3 (F := Ideal)) (broadcast S4096x32 (Scalar.ofBits (F := Ideal) .f32 0x40A00000#32))) (broadcast S4096x32 (Scalar.ofBits (F := Ideal) .f32 0x4E6E6B28#32)) (ix2 n k)
      = if (5 ≤ k.val ∧ k.val ≤ 16) ∧ v (ix2 n k) = binsOf v n q then ((k.val - 5 : ℝ) : EReal) else ((1000000000 : ℝ) : EReal) := by
    refine (select_apply _ _ _ _).trans ?_
    have e : andi binMask (cmpf .oeq v (broadcastTo S4096x32 (bestScore v) broadcasts_S4096x1_S4096x32)) (ix2 n k)
        = if (5 ≤ k.val ∧ k.val ≤ 16) ∧ v (ix2 n k) = binsOf v n q then 1#1 else 0#1 := by
      rw [← and_ite, ← binMask_at n k, ← cmp_oeq, ← bestScore_at v n q hq, ← spread_at (bestScore v) n k]
      rfl
    rw [e]
    refine (select_ite _ _ _).trans ?_
    congr 1
    · show k2_pay3 (F := Ideal) (ix2 n k) - Ideal.ofBits .f32 0x40A00000#32 = _
      rw [pay3_at, ofBits_5, ← EReal.coe_sub]
    · exact ofBits_far
  refine (rowMin_at _ n _ _).trans ((congrArg (fun g => Finset.univ.fold min ⊤ g) (funext h)).trans ?_)
  refine le_antisymm ((Finset.fold_min_le _).2 (Or.inr ⟨⟨5 + q.val, by omega⟩, Finset.mem_univ _, ?_⟩)) ((Finset.le_fold_min _).2 ⟨le_top, fun k _ => ?_⟩)
  · rw [if_pos ⟨show 5 ≤ 5 + q.val ∧ 5 + q.val ≤ 16 by omega, rfl⟩]
    refine EReal.coe_le_coe_iff.2 ?_
    push_cast; linarith
  · by_cases hk : (5 ≤ k.val ∧ k.val ≤ 16) ∧ v (ix2 n k) = binsOf v n q
    · rw [if_pos hk]
      refine EReal.coe_le_coe_iff.2 ?_
      have hle : q.val + 5 ≤ k.val := by
        by_contra hlt
        have := (hq ⟨k.val - 5, by omega⟩).2 (Fin.lt_def.2 (by show k.val - 5 < q.val; omega))
        have e : (⟨5 + (k.val - 5), by omega⟩ : Fin 32) = k := Fin.ext (by show 5 + (k.val - 5) = k.val; omega)
        have e' : binsOf v n ⟨k.val - 5, by omega⟩ = v (ix2 n k) := congrArg (fun t => v (ix2 n t)) e
        rw [e', hk.2] at this
        exact lt_irrefl _ this
      have : ((q.val + 5 : ℕ) : ℝ) ≤ k.val := by exact_mod_cast hle
      push_cast at this; linarith
    · rw [if_neg hk]
      refine EReal.coe_le_coe_iff.2 ?_
      have : (q.val : ℝ) < 12 := by exact_mod_cast q.isLt
      linarith

/-- The columns from the residuals on. -/
def restMask : IVec S4096x32 1 := cmpi .sge cols (broadcast S4096x32 17#32)

theorem restMask_at (k : Fin 32) : restMask (ix2 n k) = if 17 ≤ k.val then 1#1 else 0#1 := by
  show IntOp.cmpi .sge (cols (ix2 n k)) 17#32 = _
  rw [cols_at, res_word]

/-- How far each column lies from the residuals' first. -/
def offsetOf : FVec Ideal S4096x32 .f32 := subf (k2_pay3 (F := Ideal)) (broadcast S4096x32 (Scalar.ofBits (F := Ideal) .f32 0x41880000#32))

theorem offsetOf_at (k : Fin 32) : offsetOf (ix2 n k) = ((k.val - 17 : ℝ) : EReal) := by
  show k2_pay3 (F := Ideal) (ix2 n k) - Ideal.ofBits .f32 0x41880000#32 = _
  rw [pay3_at, ofBits_17, ← EReal.coe_sub]

/-- The residual of the best bin. -/
def bestRest : FVec Ideal S4096x1 .f32 :=
  shapeCast S4096x1 (multiReduction .add [1] S4096 (select (andi restMask
    (cmpf .oeq offsetOf (broadcastTo S4096x32 (bestBin v) broadcasts_S4096x1_S4096x32)))
    v (broadcast S4096x32 (Scalar.ofBits (F := Ideal) .f32 0x00000000#32))) 0x00000000#32 reduces_S4096x32_S4096 (.inl rfl) rfl) shapeCasts_S4096_S4096x1

theorem bestRest_at (hq : IsFirst (binsOf v n) q) : bestRest v (ix2 n 0) = v (ix2 n ⟨17 + q.val, by omega⟩) := by
  unfold bestRest
  have h (k : Fin 32) : select (andi restMask
      (cmpf .oeq offsetOf (broadcastTo S4096x32 (bestBin v) broadcasts_S4096x1_S4096x32)))
      v (broadcast S4096x32 (Scalar.ofBits (F := Ideal) .f32 0x00000000#32)) (ix2 n k)
      = if k = ⟨17 + q.val, by omega⟩ then v (ix2 n k) else 0 := by
    refine (select_apply _ _ _ _).trans ?_
    have e : andi restMask
      (cmpf .oeq offsetOf (broadcastTo S4096x32 (bestBin v) broadcasts_S4096x1_S4096x32))
      (ix2 n k) = if 17 ≤ k.val ∧ ((k.val - 17 : ℝ) : EReal) = ((q.val : ℝ) : EReal) then 1#1 else 0#1 := by
      rw [both_at, restMask_at, offsetOf_at, spread_at, bestBin_at v n q hq, cmp_oeq, and_ite]
    have hiff : (17 ≤ k.val ∧ ((k.val - 17 : ℝ) : EReal) = ((q.val : ℝ) : EReal)) ↔ k = ⟨17 + q.val, by omega⟩ := by
      rw [EReal.coe_eq_coe_iff, Fin.ext_iff]
      show _ ↔ k.val = 17 + q.val
      constructor
      · rintro ⟨-, hh⟩
        have : (k.val : ℝ) = ((17 + q.val : ℕ) : ℝ) := by push_cast; linarith
        exact_mod_cast this
      · intro hh
        refine ⟨by omega, ?_⟩
        rw [hh]; push_cast; ring
    rw [e]
    refine (select_ite _ _ _).trans ?_
    simp only [hiff]
    congr 1
    exact Ideal.ofBits_zero_f32
  refine (rowSum_at _ n _ _).trans ((Finset.sum_congr rfl fun k _ => h k).trans ?_)
  rw [Finset.sum_ite_eq' Finset.univ, if_pos (Finset.mem_univ _)]

end Cert.Proof.KernelIdeal
end
-- ==== Proof.KernelIdeal.DecodeAt.lean ====
/- The decode call's output, at an index: a decoded box. -/
module

public import proofs.«01_k».proof.Proof.KernelIdeal.DecodeRow

@[expose] public section

set_option maxRecDepth 8192

noncomputable section

namespace Cert.Proof.KernelIdeal

open Cert.KernelIdeal Cert.KernelIdeal.Gen
open Idealize.ShloMosaic hiding ix1 ix2 ix3 ix4 ix5 ix6
open Idealize.ShloMosaic.ValueIdx
open Cert.Proof.Maths

variable (v : FVec Ideal S4096x32 .f32) (x1 : FVec Ideal S4096x1 .f32) (n : Fin 4096) (q : Fin 12) (p : ℕ)

/-- The angle before it is brought into a turn. -/
def angle : FVec Ideal S4096x1 .f32 :=
  addf (mulf (bestBin v) (broadcast S4096x1 (Scalar.ofBits (F := Ideal) .f32 0x3F060A92#32)))
    (mulf (bestRest v) (broadcast S4096x1 (Scalar.ofBits (F := Ideal) .f32 0x3E860A92#32)))

theorem angle_at (hq : IsFirst (binsOf v n) q) : angle v (ix2 n 0)
    = ((q.val : ℝ) : EReal) * Ideal.ofBits .f32 0x3F060A92#32 + v (ix2 n ⟨17 + q.val, by omega⟩) * Ideal.ofBits .f32 0x3E860A92#32 := by
  have h : angle v (ix2 n 0) = bestBin v (ix2 n 0) * Ideal.ofBits .f32 0x3F060A92#32 + bestRest v (ix2 n 0) * Ideal.ofBits .f32 0x3E860A92#32 := rfl
  rw [h, bestBin_at v n q hq, bestRest_at v n q hq]

theorem rem_at (a b : FVec Ideal S4096x1 .f32) (j : S4096x1.Idx) : remf a b j = Ideal.remf (a j) (b j) := rfl
theorem cmp_at (P : CmpFPredicate) (a b : FVec Ideal S4096x1 .f32) (j : S4096x1.Idx) : cmpf P a b j = Ideal.cmp P (a j) (b j) := rfl
theorem flat_at (w : BitVec 32) (j : S4096x1.Idx) : broadcast S4096x1 (Scalar.ofBits (F := Ideal) .f32 w) j = Ideal.ofBits .f32 w := rfl

/-- The remainder of the angle. -/
theorem pay4_eq : k2_pay4 (F := Ideal) v cols (k2_pay3 (F := Ideal)) = remf (angle v) (broadcast S4096x1 (Scalar.ofBits (F := Ideal) .f32 0x40C90FDB#32)) := rfl

theorem pay4_at : k2_pay4 (F := Ideal) v cols (k2_pay3 (F := Ideal)) (ix2 n 0) = Ideal.remf (angle v (ix2 n 0)) (Ideal.ofBits .f32 0x40C90FDB#32) := by
  rw [pay4_eq, rem_at, flat_at]

/-- The heading from the remainder `z` and three masks. -/
theorem pay8_at (c : Ideal .f32) (z : FVec Ideal S4096x1 .f32) (a b e : IVec S4096x1 1) (j : S4096x1.Idx) :
    k2_pay8 (F := Ideal) c z a b e j = foldAt (Scalar.select (IntOp.andi (IntOp.xori (b j) (e j)) (a j)) (z j + c) (z j)) := rfl

theorem pay7_at : k2_pay7 (F := Ideal) (ix2 n 0) = Ideal.cmp .olt (Ideal.ofBits .f32 0x40C90FDB#32) 0 := by
  rw [← Ideal.ofBits_zero_f32]; rfl

theorem pay5_at (y : FVec Ideal S4096x32 .f32) : k2_pay5 (F := Ideal) v cols y (ix2 n 0) = Ideal.cmp .one (k2_pay4 (F := Ideal) v cols y (ix2 n 0)) 0 := by
  unfold k2_pay5
  rw [cmp_at, flat_at, Ideal.ofBits_zero_f32]

theorem pay6_at (y : FVec Ideal S4096x32 .f32) : k2_pay6 (F := Ideal) v cols y (ix2 n 0) = Ideal.cmp .olt (k2_pay4 (F := Ideal) v cols y (ix2 n 0)) 0 := by
  unfold k2_pay6
  rw [cmp_at, flat_at, Ideal.ofBits_zero_f32]

theorem heading_at (hq : IsFirst (binsOf v n) q) :
    k2_pay8 (F := Ideal) (Scalar.ofBits .f32 0x40C90FDB#32) (k2_pay4 (F := Ideal) v cols (k2_pay3 (F := Ideal))) (k2_pay5 (F := Ideal) v cols (k2_pay3 (F := Ideal)))
      (k2_pay6 (F := Ideal) v cols (k2_pay3 (F := Ideal))) (k2_pay7 (F := Ideal)) (ix2 n 0)
      = headingAt q.val (v (ix2 n ⟨17 + q.val, by omega⟩)) := by
  rw [pay8_at, pay5_at, pay6_at, pay7_at, pay4_at, angle_at v n q hq]
  rfl

theorem pay9_at : k2_pay9 (F := Ideal) v cols (ix2 n 0) = v (ix2 n 29) * Ideal.ofBits .f32 0x40966666#32 + Ideal.ofBits .f32 0x40966666#32 :=
  congrArg (fun t => t * Ideal.ofBits .f32 0x40966666#32 + Ideal.ofBits .f32 0x40966666#32) (pick_at v n 29 29#32 rfl _ _)
theorem pay10_at : k2_pay10 (F := Ideal) v cols (ix2 n 0) = v (ix2 n 30) * Ideal.ofBits .f32 0x40066666#32 + Ideal.ofBits .f32 0x40066666#32 :=
  congrArg (fun t => t * Ideal.ofBits .f32 0x40066666#32 + Ideal.ofBits .f32 0x40066666#32) (pick_at v n 30 30#32 rfl _ _)
theorem pay11_at : k2_pay11 (F := Ideal) v cols (ix2 n 0) = v (ix2 n 31) * Ideal.ofBits .f32 0x3FD9999A#32 + Ideal.ofBits .f32 0x3FD9999A#32 :=
  congrArg (fun t => t * Ideal.ofBits .f32 0x3FD9999A#32 + Ideal.ofBits .f32 0x3FD9999A#32) (pick_at v n 31 31#32 rfl _ _)
theorem pay15_at : k2_pay15 (F := Ideal) v cols (ix2 n 0) = v (ix2 n 4) := pick_at v n 4 4#32 rfl _ _

/-- The row of the map a position lies in. -/
theorem pay13_at (hp : x1 (ix2 n 0) = ((p : ℝ) : EReal)) : k2_pay13 (F := Ideal) (k2_pay12 (F := Ideal) (k2_pay1 (F := Ideal) x1)) (ix2 n 0) = (((p / 512 : ℕ) : ℝ) : EReal) := by
  rw [← div_512, ← hp, ← pay1_at x1]
  rfl

theorem pay18_at (hp : x1 (ix2 n 0) = ((p : ℝ) : EReal)) :
    k2_pay18 (F := Ideal) v cols (k2_pay12 (F := Ideal) (k2_pay1 (F := Ideal) x1)) (ix2 n 0) = centre (p / 512) + v (ix2 n 2) := by
  unfold k2_pay18
  refine (cast_self _ _ _).trans ?_
  refine (congrArg (fun t => Ideal.ofBits .f32 0xC2A3D70A#32 + (k2_pay13 (F := Ideal) (k2_pay12 (F := Ideal) (k2_pay1 (F := Ideal) x1)) (ix2 n 0)
    + Ideal.ofBits .f32 0x3F000000#32) * Ideal.ofBits .f32 0x3EA3D70A#32 + t) (pick_at v n 2 2#32 rfl _ _)).trans ?_
  rw [pay13_at x1 n p hp]
  rfl

theorem pay14_at (hp : x1 (ix2 n 0) = ((p : ℝ) : EReal)) :
    k2_pay14 (F := Ideal) (k2_pay1 (F := Ideal) x1) v cols (k2_pay12 (F := Ideal) (k2_pay1 (F := Ideal) x1)) (ix2 n 0) = centre (p % 512) + v (ix2 n 3) := by
  refine (congrArg (fun t => Ideal.ofBits .f32 0xC2A3D70A#32 + ((k2_pay1 (F := Ideal) x1 (ix2 n 0)
    - k2_pay13 (F := Ideal) (k2_pay12 (F := Ideal) (k2_pay1 (F := Ideal) x1)) (ix2 n 0) * Ideal.ofBits .f32 0x44000000#32)
    + Ideal.ofBits .f32 0x3F000000#32) * Ideal.ofBits .f32 0x3EA3D70A#32 + t) (pick_at v n 3 3#32 rfl _ _)).trans ?_
  rw [pay13_at x1 n p hp, pay1_at, hp, rem_512]
  rfl

/-- The output's column numbers. -/
def outCols : IVec S4096x8 32 := iota .tc S4096x8 32 [1] iota_S4096x8_d1_w32

theorem outCols_at (c : Fin 8) : outCols (ix2 n c) = BitVec.ofNat 32 c.val := by
  show BitVec.ofNat 32 (0 * 8 + c.val) = _
  rw [Nat.zero_mul, Nat.zero_add]

theorem eq_word8 (k c : Fin 8) : IntOp.cmpi .eq (BitVec.ofNat 32 k.val) (BitVec.ofNat 32 c.val) = if k = c then 1#1 else 0#1 := by
  revert k c; decide +kernel

/-- A column put into column `k` of the output, the rest zero. -/
theorem place_at (u : FVec Ideal S4096x1 .f32) (k : Fin 8) (w : BitVec 32) (hw : w = BitVec.ofNat 32 k.val) (c : Fin 8) :
    select (cmpi .eq outCols (broadcast S4096x8 w)) (broadcastTo S4096x8 u broadcasts_S4096x1_S4096x8)
      (broadcast S4096x8 (Scalar.ofBits (F := Ideal) .f32 0x00000000#32)) (ix2 n c) = if c = k then u (ix2 n 0) else 0 := by
  subst hw
  have hb : broadcastTo S4096x8 u broadcasts_S4096x1_S4096x8 (ix2 n c) = u (ix2 n 0) := by
    unfold broadcastTo
    congr 1; funext z; refine Fin.ext ?_
    match z with
    | ⟨0, _⟩ => rfl
    | ⟨1, _⟩ => rfl
  have hm : cmpi .eq outCols (broadcast S4096x8 (BitVec.ofNat 32 k.val)) (ix2 n c) = if c = k then 1#1 else 0#1 := by
    show IntOp.cmpi .eq (outCols (ix2 n c)) (BitVec.ofNat 32 k.val) = _
    rw [outCols_at, eq_word8]
  refine (select_apply _ _ _ _).trans ?_
  rw [hb, hm, show broadcast S4096x8 (Scalar.ofBits (F := Ideal) .f32 0x00000000#32) (ix2 n c) = (0 : EReal) from Ideal.ofBits_zero_f32]
  exact select_ite _ _ _

theorem sum_at (a b : FVec Ideal S4096x8 .f32) (j : S4096x8.Idx) : addf a b j = a j + b j := rfl

/-- The output's columns side by side. -/
theorem pay19_at (hd a9 a10 a11 a14 a15 a18 : FVec Ideal S4096x1 .f32) (c : Fin 8) :
    k2_pay19 (F := Ideal) hd a9 a10 a11 a14 a15 outCols (k2_pay16 (F := Ideal)) k2_pay17 (Scalar.ofBits .f32 0x00000000#32) a18 (ix2 n c)
      = 0 + (if c = 0 then a18 (ix2 n 0) else 0) + (if c = 1 then a14 (ix2 n 0) else 0) + (if c = 2 then a15 (ix2 n 0) else 0) + (if c = 3 then a9 (ix2 n 0) else 0)
        + (if c = 4 then a10 (ix2 n 0) else 0) + (if c = 5 then a11 (ix2 n 0) else 0) + (if c = 6 then hd (ix2 n 0) else 0) := by
  have hs (u : FVec Ideal S4096x1 .f32) (h) : shapeCast S4096x1 u h = u := funext fun j => cast_self _ _ _
  have h17 : k2_pay17 = cmpi .eq outCols (broadcast S4096x8 0#32) := rfl
  have h16 : k2_pay16 (F := Ideal) (ix2 n c) = 0 := Ideal.ofBits_zero_f32
  unfold k2_pay19
  simp only [hs]
  rw [sum_at, sum_at, sum_at, sum_at, sum_at, sum_at, sum_at, h16, h17, place_at n a18 0 0#32 rfl c, place_at n a14 1 1#32 rfl c, place_at n a15 2 2#32 rfl c,
    place_at n a9 3 3#32 rfl c, place_at n a10 4 4#32 rfl c, place_at n a11 5 5#32 rfl c, place_at n hd 6 6#32 rfl c]

/-- The decode call's output, by its columns. -/
theorem decode_eq (x0 : FVec Ideal S4096x128 .f32) : decodeBlock (F := Ideal) x0 x1
    = k2_pay19 (F := Ideal) (k2_pay8 (F := Ideal) (Scalar.ofBits .f32 0x40C90FDB#32) (k2_pay4 (F := Ideal) (k2_pay2 (F := Ideal) x0 x1) cols (k2_pay3 (F := Ideal)))
        (k2_pay5 (F := Ideal) (k2_pay2 (F := Ideal) x0 x1) cols (k2_pay3 (F := Ideal))) (k2_pay6 (F := Ideal) (k2_pay2 (F := Ideal) x0 x1) cols (k2_pay3 (F := Ideal))) (k2_pay7 (F := Ideal)))
      (k2_pay9 (F := Ideal) (k2_pay2 (F := Ideal) x0 x1) cols) (k2_pay10 (F := Ideal) (k2_pay2 (F := Ideal) x0 x1) cols) (k2_pay11 (F := Ideal) (k2_pay2 (F := Ideal) x0 x1) cols)
      (k2_pay14 (F := Ideal) (k2_pay1 (F := Ideal) x1) (k2_pay2 (F := Ideal) x0 x1) cols (k2_pay12 (F := Ideal) (k2_pay1 (F := Ideal) x1)))
      (k2_pay15 (F := Ideal) (k2_pay2 (F := Ideal) x0 x1) cols) outCols (k2_pay16 (F := Ideal)) k2_pay17 (Scalar.ofBits .f32 0x00000000#32)
      (k2_pay18 (F := Ideal) (k2_pay2 (F := Ideal) x0 x1) cols (k2_pay12 (F := Ideal) (k2_pay1 (F := Ideal) x1))) := rfl

theorem decode_at (x0 : FVec Ideal S4096x128 .f32) (r : Fin 32 → EReal) (hp : x1 (ix2 n 0) = ((p : ℝ) : EReal))
    (hr : ∀ c : Fin 32, x0 (ix2 n ⟨32 * (p % 4) + c.val, by omega⟩) = r c) (hq : IsFirst (fun k : Fin 12 => r ⟨5 + k.val, by omega⟩) q) (c : Fin 7) :
    decodeBlock (F := Ideal) x0 x1 (ix2 n ⟨c.val, by omega⟩) = boxAt r p q c := by
  have hv : ∀ k : Fin 32, k2_pay2 (F := Ideal) x0 x1 (ix2 n k) = r k := fun k => (rows_at x0 x1 n p hp k).trans (hr k)
  have hq' : IsFirst (binsOf (k2_pay2 (F := Ideal) x0 x1) n) q := by
    have : binsOf (k2_pay2 (F := Ideal) x0 x1) n = fun k : Fin 12 => r ⟨5 + k.val, by omega⟩ := funext fun k => hv _
    rw [this]; exact hq
  rw [decode_eq]
  refine (pay19_at n _ _ _ _ _ _ _ _).trans ?_
  have e8 := heading_at (k2_pay2 (F := Ideal) x0 x1) n q hq'
  have e9 := pay9_at (k2_pay2 (F := Ideal) x0 x1) n
  have e10 := pay10_at (k2_pay2 (F := Ideal) x0 x1) n
  have e11 := pay11_at (k2_pay2 (F := Ideal) x0 x1) n
  have e14 := pay14_at (k2_pay2 (F := Ideal) x0 x1) x1 n p hp
  have e15 := pay15_at (k2_pay2 (F := Ideal) x0 x1) n
  have e18 := pay18_at (k2_pay2 (F := Ideal) x0 x1) x1 n p hp
  rw [hv] at e8 e9 e10 e11 e14 e15 e18
  match c with
  | 0 => exact (by simp [boxAt]; exact e18)
  | 1 => exact (by simp [boxAt]; exact e14)
  | 2 => exact (by simp [boxAt]; exact e15)
  | 3 => exact (by simp [boxAt]; exact e9)
  | 4 => exact (by simp [boxAt]; exact e10)
  | 5 => exact (by simp [boxAt]; exact e11)
  | 6 => exact (by simp [boxAt]; exact e8)

end Cert.Proof.KernelIdeal
end
-- ==== Proof.KernelIdeal.BoxAt.lean ====
/- The kernel's boxes: each is decoded from its peak's pixel. -/
module

public import proofs.«01_k».proof.Proof.KernelIdeal.DecodeAt
public import proofs.«01_k».proof.Proof.KernelIdeal.Peaks

@[expose] public section

set_option maxRecDepth 8192

noncomputable section

namespace Cert.Proof.KernelIdeal

open Cert.KernelIdeal Cert.KernelIdeal.Gen
open Idealize.ShloMosaic hiding ix1 ix2 ix3 ix4 ix5 ix6
open Idealize.ShloMosaic.ValueIdx
open Idealize.ShloMosaic.TcCoe Idealize.ShloMosaic.Tactic
open Cert.Proof.Maths

/-- Where the decode call's blocks lie: each is its whole array. -/
theorem idx2 : ∀ t : Fin cfg2.N, win2_0.index t = ![0, 0] ∧ win2_1.index t = ![0, 0] ∧ win2_2.index t = ![0, 0] := (by decide +kernel : ∀ t : Fin grid2.N, _)

/-- The decode call's output array, over any entry contents. -/
theorem arr2 (n : ℕ) (V : (c : Dev nD) → Valuation τ sig (Elt Ideal)) (c : Dev nD) :
    (dat2 (F := Ideal) n V c).arrAt 2 cfg2.N = decodeBlock (F := Ideal) (V c main_v27) (V c main_v29) := by
  refine (dat2 (F := Ideal) n V c).arrAt_eq_of_covers 2 _ (by decide +kernel) fun t hf y => ?_
  blk_simp
  have e : ((cfg2.win 2).blk t).view.emb y = (y : S4096x8.Idx) := by
    funext q; refine Fin.ext ?_
    match q with
    | ⟨0, _⟩ => blk_simp [idx2 t]
    | ⟨1, _⟩ => blk_simp [idx2 t]
  have e0 : ((cfg2.win 0).blk t).view.read (Elt Ideal) (V c main_v27) = (V c main_v27 : FVec Ideal S4096x128 .f32) := by
    funext z
    refine congrArg (V c main_v27) ?_
    funext q; refine Fin.ext ?_
    match q with
    | ⟨0, _⟩ => blk_simp [idx2 t]
    | ⟨1, _⟩ => blk_simp [idx2 t]
  have e1 : ((cfg2.win 1).blk t).view.read (Elt Ideal) (V c main_v29) = (V c main_v29 : FVec Ideal S4096x1 .f32) := by
    funext z
    refine congrArg (V c main_v29) ?_
    funext q; refine Fin.ext ?_
    match q with
    | ⟨0, _⟩ => blk_simp [idx2 t]
    | ⟨1, _⟩ => blk_simp [idx2 t]
  rw [e]
  show decodeBlock (F := Ideal) (((cfg2.win 0).blk t).view.read (Elt Ideal) (V c main_v27)) (((cfg2.win 1).blk t).view.read (Elt Ideal) (V c main_v29)) y = _
  rw [e0, e1]

variable (m : (ℓ : Loc nD τ sig) → Buf (Elt Ideal) ℓ) (d : Dev nD)

theorem ve_v30 : VE m d main_v30 = decodeBlock (F := Ideal) (VC m d main_v27) (VC m d main_v29) := by
  unfold VE
  have h : Pipeline.afterRegion (cfg := cfgs 1) (dats 1 (VC m) d 1) (VC m d) main_v30 = (dat2 (F := Ideal) 1 (VC m) d).arrAt 2 cfg2.N :=
    Pipeline.afterRegion_arr (cfg := cfgs 1) (dats 1 (VC m) d 1) (VC m d) launch2.win.arr_inj 2
  rw [h, arr2]

theorem vc_v27 : VC m d main_v27 = gathered (F := Ideal) (tb m d) (ix m d) := by
  unfold VC; rw [c_v27]
  unfold VG; exact Function.update_self ..

theorem tb_eq : tb m d = shapeCast S262144x128 (arg m d) shapeCasts_S4x512x512x32_S262144x128 := by
  unfold tb VB
  rw [b_v26, vm_arg]

theorem vc_v29 : VC m d main_v29 = shapeCast S4096x1 (sitofp (F := Ideal) .f32 (padIdx (peaks (masked m d)))) shapeCasts_S4x1024_S4096x1 := by
  unfold VC; rw [c_v29]
  unfold VG; rw [Function.update_of_ne (by decide)]
  unfold VB; rw [b_v17]; rfl

theorem toFloat_at (i : IVec S4x1024 32) (j : S4x1024.Idx) : sitofp (F := Ideal) .f32 i j = FloatOps.sitofp (F := Ideal) .f32 (i j) := rfl

/-- The place of a row's peak in its image, as a float. -/
theorem place_float (b : Fin 4) (k : Fin 1000) (n : Fin 4096) (hn : n.val = 1024 * b.val + k.val) :
    (VC m d main_v29 : FVec Ideal S4096x1 .f32) (ix2 n 0) = (((peak (masked m d) b k).val : ℝ) : EReal) := by
  rw [vc_v29]
  refine (cast_at _ _ _ (ix2 b ⟨k.val, by omega⟩ : S4x1024.Idx) (by
    rw [Shape.rowMajor_val_two, Shape.rowMajor_val_two]; show b.val * 1024 + k.val = n.val * 1 + 0; omega)).trans ?_
  rw [toFloat_at, padIdx_at, ofInt_word _ (by omega)]
  unfold padPeak
  rw [dif_pos k.isLt]

/-- The row gathered for a peak: its pixel's channels are a quarter of it. -/
theorem row_of (b : Fin 4) (k : Fin 1000) (n : Fin 4096) (hn : n.val = 1024 * b.val + k.val) (c : Fin 32) :
    (VC m d main_v27 : FVec Ideal S4096x128 .f32) (ix2 n ⟨32 * ((peak (masked m d) b k).val % 4) + c.val, by omega⟩)
      = arg m d (ix4 b ⟨(peak (masked m d) b k).val / 512, by omega⟩ ⟨(peak (masked m d) b k).val % 512, by omega⟩ c) := by
  have hb : batchPos (masked m d) n = (peak (masked m d) b k).val + b.val * 262144 := by
    have h1 : n.val / 1024 = b.val := by omega
    have h2 : n.val % 1024 = k.val := by omega
    unfold batchPos padPeak
    simp only [h1, h2]
    rw [dif_pos k.isLt]
  have hr : rowOf (ix m d (ix1 n)) = ⟨((peak (masked m d) b k).val + b.val * 262144) / 4, by omega⟩ := by
    rw [ix_eq, row_at, hb]
    refine Fin.ext ?_
    show (BitVec.ofNat 32 _).toNat % 262144 = _
    rw [BitVec.toNat_ofNat]
    show _ = ((peak (masked m d) b k).val + b.val * 262144) / 4
    omega
  rw [vc_v27]
  show tb m d (ix2 (rowOf (ix m d (ix1 n))) ⟨32 * ((peak (masked m d) b k).val % 4) + c.val, by omega⟩) = _
  rw [hr, tb_eq]
  refine cast_at _ _ _ _ ?_
  rw [Shape.rowMajor_val_four, Shape.rowMajor_val_two]
  show ((b.val * 512 + (peak (masked m d) b k).val / 512) * 512 + (peak (masked m d) b k).val % 512) * 32 + c.val
    = ((peak (masked m d) b k).val + b.val * 262144) / 4 * 128 + (32 * ((peak (masked m d) b k).val % 4) + c.val)
  omega

/-- Seven columns of the first 1000 rows of every 1024. -/
theorem cut_at (x : FVec Ideal S4096x8 .f32) (b : Fin 4) (k : Fin 1000) (c : Fin 7) :
    extractStridedSlice S4x1000x7 ![0, 0, 0] (shapeCast S4x1024x8 x shapeCasts_S4096x8_S4x1024x8) slices_S4x1024x8_S4x1000x7_0_0_0 (ix3 b k c)
      = x (ix2 ⟨1024 * b.val + k.val, by omega⟩ ⟨c.val, by omega⟩) := by
  unfold extractStridedSlice
  refine cast_at _ _ _ _ ?_
  rw [Shape.rowMajor_val_three, Shape.rowMajor_val_two]
  show (1024 * b.val + k.val) * 8 + c.val = ((0 + b.val) * 1024 + (0 + k.val)) * 8 + (0 + c.val)
  omega

/-- The kernel's box of a peak. -/
theorem box_at (b : Fin 4) (k : Fin 1000) (q : Fin 12) (r : Fin 32 → EReal)
    (hr : ∀ c, arg m d (ix4 b ⟨(peak (masked m d) b k).val / 512, by omega⟩ ⟨(peak (masked m d) b k).val % 512, by omega⟩ c) = r c)
    (hq : IsFirst (fun k : Fin 12 => r ⟨5 + k.val, by omega⟩) q) (c : Fin 7) :
    (VZ m d main_v32 : FVec Ideal S4x1000x7 .f32) (ix3 b k c) = boxAt r (peak (masked m d) b k).val q c := by
  unfold VZ; rw [d_v32, ve_v30]
  refine Eq.trans ?_ (decode_at (VC m d main_v29) ⟨1024 * b.val + k.val, by omega⟩ q (peak (masked m d) b k).val (VC m d main_v27) r
    (place_float m d b k _ rfl) (fun c => (row_of m d b k _ rfl c).trans (hr c)) hq c)
  exact cut_at _ b k c

end Cert.Proof.KernelIdeal
end
-- ==== Proof.Ref.TakeAt.lean ====
/- The reference's gathers at indices that lie in range: the entries they name. -/
module

public import proofs.«01_k».proof.Proof.Ref.Chain
public import proofs.«01_k».proof.Proof.Maths.TopPos
public import Idealize.ShloMosaic.Lib.WordCmp
public import Idealize.ShloMosaic.Lib.Routing.Words

@[expose] public section

set_option maxRecDepth 8192

noncomputable section

namespace Cert.Proof.Ref

open Cert.ReferenceIdeal Cert.ReferenceIdeal.Gen
open Idealize.ShloMosaic Idealize.ShloMosaic.ValueIdx
open Cert.Proof.Maths

variable {F : FTy → Type} [FloatOps F]

/-- A word below 2³¹ is not negative. -/
theorem not_neg (z : BitVec 32) (q : ℕ) (hq : q < 2 ^ 31) (h : z = BitVec.ofNat 32 q) : IntOp.cmpi .slt z 0#32 = 0#1 := by
  rw [h, show (0#32 : BitVec 32) = BitVec.ofNat 32 0 from rfl, WordCmp.cmpi_slt_ofNat_eq_zero_iff (by omega) (by omega)]; omega

/-- A word from zero to a limit passes both comparisons. -/
theorem in_range (z : BitVec 32) (q n : ℕ) (hn : n < 2 ^ 31) (hq : q ≤ n) (h : z = BitVec.ofNat 32 q) :
    IntOp.andi (IntOp.cmpi .sge z (BitVec.ofNat 32 0)) (IntOp.cmpi .sle z (BitVec.ofNat 32 n)) = 1#1 := by
  rw [h, (WordCmp.cmpi_sge_ofNat_eq_one_iff (by omega) (by omega)).2 (by omega), (WordCmp.cmpi_sle_ofNat_eq_one_iff (by omega) (by omega)).2 (by omega)]
  rfl

theorem column_at (i : IVec S4x1000 32) (b : Fin 4) (k : Fin 1000) (u : Fin 1) : column i (ix3 b k u) = i (ix2 b k) := by
  unfold column broadcastInDim
  congr 1
  funext a; refine Fin.ext ?_
  match a with
  | ⟨0, _⟩ => rfl
  | ⟨1, _⟩ => rfl

theorem wrap3_at (i : IVec S4x1000x1 32) (j : S4x1000x1.Idx) (q : ℕ) (hq : q < 2 ^ 31) (h : i j = BitVec.ofNat 32 q) : wrap3 i j = BitVec.ofNat 32 q := by
  show Scalar.select (IntOp.cmpi .slt (i j) 0#32) (IntOp.addi (i j) 262144#32) (i j) = _
  rw [not_neg _ q hq h, select_zero, h]

theorem wrap1_at (i : IVec S4x1000 32) (b : Fin 4) (k : Fin 1000) (u : Fin 1) (q : ℕ) (hq : q < 2 ^ 31) (h : i (ix2 b k) = BitVec.ofNat 32 q) :
    wrap1 i (ix3 b k u) = BitVec.ofNat 32 q := by
  unfold wrap1
  rw [cast_at _ _ _ (ix2 b k : S4x1000.Idx) (by
    rw [Shape.rowMajor_val_three, Shape.rowMajor_val_two]; simp)]
  show Scalar.select (IntOp.cmpi .slt (i (ix2 b k)) 0#32) (IntOp.addi (i (ix2 b k)) 262144#32) (i (ix2 b k)) = _
  rw [not_neg _ q hq h, select_zero, h]

theorem ok3_at (w : IVec S4x1000x1 32) (q : Fin 4 → Fin 1000 → Fin 262144) (h : ∀ b k u, w (ix3 b k u) = BitVec.ofNat 32 (q b k).val) (j : S4x1000.Idx) :
    ok3 w j = 1#1 := by
  refine Host.reduce_andi_one _ _ _ _ _ rfl fun v => ?_
  obtain ⟨b, k, u, rfl⟩ : ∃ (b : Fin 4) (k : Fin 1000) (u : Fin 1), v = ix3 b k u := ⟨v 0, v 1, v 2, eq_ix3 v⟩
  have hq := (q b k).isLt
  exact in_range _ _ 262143 (by omega) (by omega) (h b k u)

theorem wrap12_at (i : IVec S4000x1 32) (n : Fin 4000) (u v : Fin 1) (q : ℕ) (hq : q < 2 ^ 31) (h : i (ix2 n 0) = BitVec.ofNat 32 q) :
    wrap12 i (ix3 n u v) = BitVec.ofNat 32 q := by
  unfold wrap12
  rw [cast_at _ _ _ (ix2 n 0 : S4000x1.Idx) (by
    rw [Shape.rowMajor_val_three, Shape.rowMajor_val_two]; simp)]
  show Scalar.select (IntOp.cmpi .slt (i (ix2 n 0)) 0#32) (IntOp.addi (i (ix2 n 0)) 12#32) (i (ix2 n 0)) = _
  rw [not_neg _ q hq h, select_zero, h]

theorem ok12_at (w : IVec S4000x1x1 32) (q : Fin 4000 → Fin 12) (h : ∀ n u v, w (ix3 n u v) = BitVec.ofNat 32 (q n).val) (j : S4000x1.Idx) :
    ok12 w j = 1#1 := by
  refine Host.reduce_andi_one _ _ _ _ _ rfl fun v => ?_
  obtain ⟨b, k, u, rfl⟩ : ∃ (b : Fin 4000) (k : Fin 1) (u : Fin 1), v = ix3 b k u := ⟨v 0, v 1, v 2, eq_ix3 v⟩
  have hq := (q b).isLt
  exact in_range _ _ 11 (by omega) (by omega) (h b k u)

theorem operand30 (w : IVec S4x1000x1 32) (b : Fin 4) (k : Fin 1000) (c : Fin 30) (q : Fin 262144) (h : w (ix3 b k 0) = BitVec.ofNat 32 q.val) :
    GatherDims.operandIdx gather_S4x262144x30_S4x1000x1_S4x1000x30_2_1_0_0_1_2_1130 (ix3 b k c) w = (ix3 b q c : S4x262144x30.Idx) := by
  funext a
  refine Fin.ext ?_
  show GatherDims.start gather_S4x262144x30_S4x1000x1_S4x1000x30_2_1_0_0_1_2_1130 (ix3 b k c) w a + GatherDims.batchCoord gather_S4x262144x30_S4x1000x1_S4x1000x30_2_1_0_0_1_2_1130 (ix3 b k c) a + GatherDims.offCoord gather_S4x262144x30_S4x1000x1_S4x1000x30_2_1_0_0_1_2_1130 (ix3 b k c) a = _
  match a with
  | ⟨0, _⟩ =>
    change GatherDims.start gather_S4x262144x30_S4x1000x1_S4x1000x30_2_1_0_0_1_2_1130 (ix3 b k c) w (0 : Fin 3) + GatherDims.batchCoord gather_S4x262144x30_S4x1000x1_S4x1000x30_2_1_0_0_1_2_1130 (ix3 b k c) (0 : Fin 3) + GatherDims.offCoord gather_S4x262144x30_S4x1000x1_S4x1000x30_2_1_0_0_1_2_1130 (ix3 b k c) (0 : Fin 3) = b.val
    rw [GatherDims.start_batching gather_S4x262144x30_S4x1000x1_S4x1000x30_2_1_0_0_1_2_1130 _ _ _ (List.mem_singleton.2 rfl),
      GatherDims.offCoord_eq_zero gather_S4x262144x30_S4x1000x1_S4x1000x30_2_1_0_0_1_2_1130 _ _ (fun h => ((GatherDims.mem_sKept _ _).1 h).2 (List.mem_singleton.2 rfl))]
    unfold GatherDims.batchCoord
    rw [dif_pos (show (0 : Fin 3) ∈ GatherDims.operandBatchingDims gather_S4x262144x30_S4x1000x1_S4x1000x30_2_1_0_0_1_2_1130 from List.mem_singleton.2 rfl)]
    simp only [Nat.zero_add, Nat.add_zero]
    rfl
  | ⟨1, _⟩ =>
    change GatherDims.start gather_S4x262144x30_S4x1000x1_S4x1000x30_2_1_0_0_1_2_1130 (ix3 b k c) w (1 : Fin 3) + GatherDims.batchCoord gather_S4x262144x30_S4x1000x1_S4x1000x30_2_1_0_0_1_2_1130 (ix3 b k c) (1 : Fin 3) + GatherDims.offCoord gather_S4x262144x30_S4x1000x1_S4x1000x30_2_1_0_0_1_2_1130 (ix3 b k c) (1 : Fin 3) = q.val
    rw [GatherDims.batchCoord_eq_zero gather_S4x262144x30_S4x1000x1_S4x1000x30_2_1_0_0_1_2_1130 _ _ (show (1 : Fin 3) ∉ GatherDims.operandBatchingDims gather_S4x262144x30_S4x1000x1_S4x1000x30_2_1_0_0_1_2_1130 from by
        show _ ∉ [(0 : Fin 3)]; decide),
      GatherDims.offCoord_eq_zero gather_S4x262144x30_S4x1000x1_S4x1000x30_2_1_0_0_1_2_1130 _ _ (fun h => ((GatherDims.mem_sKept _ _).1 h).1 (List.mem_singleton.2 rfl))]
    simp only [Nat.add_zero]
    unfold GatherDims.start
    rw [dif_pos (show (1 : Fin 3) ∈ GatherDims.startIndexMap gather_S4x262144x30_S4x1000x1_S4x1000x30_2_1_0_0_1_2_1130 from List.mem_singleton.2 rfl)]
    have hsi : GatherDims.siIdx gather_S4x262144x30_S4x1000x1_S4x1000x30_2_1_0_0_1_2_1130 (ix3 b k c) ⟨List.idxOf (1 : Fin 3) (GatherDims.startIndexMap gather_S4x262144x30_S4x1000x1_S4x1000x30_2_1_0_0_1_2_1130),
        List.idxOf_lt_length_iff.2 (List.mem_singleton.mpr rfl)⟩ = (ix3 b k 0 : S4x1000x1.Idx) := by
      funext e; refine Fin.ext ?_
      match e with
      | ⟨0, _⟩ => rfl
      | ⟨1, _⟩ => rfl
      | ⟨2, _⟩ => rfl
    refine (congrArg (fun z => min (w z).toInt.toNat 262143) hsi).trans ?_
    rw [h]
    have hq := q.isLt
    have : (BitVec.ofNat 32 q.val).toInt.toNat = q.val := by
      rw [WordCmp.toInt_ofNat_of_lt (by omega)]; rfl
    rw [this]
    exact Nat.min_eq_left (by omega)
  | ⟨2, _⟩ =>
    change GatherDims.start gather_S4x262144x30_S4x1000x1_S4x1000x30_2_1_0_0_1_2_1130 (ix3 b k c) w (2 : Fin 3) + GatherDims.batchCoord gather_S4x262144x30_S4x1000x1_S4x1000x30_2_1_0_0_1_2_1130 (ix3 b k c) (2 : Fin 3) + GatherDims.offCoord gather_S4x262144x30_S4x1000x1_S4x1000x30_2_1_0_0_1_2_1130 (ix3 b k c) (2 : Fin 3) = c.val
    rw [GatherDims.batchCoord_eq_zero gather_S4x262144x30_S4x1000x1_S4x1000x30_2_1_0_0_1_2_1130 _ _ (show (2 : Fin 3) ∉ GatherDims.operandBatchingDims gather_S4x262144x30_S4x1000x1_S4x1000x30_2_1_0_0_1_2_1130 from by
        show _ ∉ [(0 : Fin 3)]; decide)]
    unfold GatherDims.start
    rw [dif_neg (show (2 : Fin 3) ∉ GatherDims.startIndexMap gather_S4x262144x30_S4x1000x1_S4x1000x30_2_1_0_0_1_2_1130 from by
        show _ ∉ [(1 : Fin 3)]; decide)]
    simp only [Nat.zero_add]
    unfold GatherDims.offCoord
    rw [dif_pos (show (2 : Fin 3) ∈ GatherDims.sKept gather_S4x262144x30_S4x1000x1_S4x1000x30_2_1_0_0_1_2_1130 from (GatherDims.mem_sKept _ _).2 ⟨by
        show _ ∉ [(1 : Fin 3)]; decide, by show _ ∉ [(0 : Fin 3)]; decide⟩)]
    rfl

theorem operand3 (w : IVec S4x1000x1 32) (b : Fin 4) (k : Fin 1000) (c : Fin 3) (q : Fin 262144) (h : w (ix3 b k 0) = BitVec.ofNat 32 q.val) :
    GatherDims.operandIdx gather_S4x262144x3_S4x1000x1_S4x1000x3_2_1_0_0_1_2_113 (ix3 b k c) w = (ix3 b q c : S4x262144x3.Idx) := by
  funext a
  refine Fin.ext ?_
  show GatherDims.start gather_S4x262144x3_S4x1000x1_S4x1000x3_2_1_0_0_1_2_113 (ix3 b k c) w a + GatherDims.batchCoord gather_S4x262144x3_S4x1000x1_S4x1000x3_2_1_0_0_1_2_113 (ix3 b k c) a + GatherDims.offCoord gather_S4x262144x3_S4x1000x1_S4x1000x3_2_1_0_0_1_2_113 (ix3 b k c) a = _
  match a with
  | ⟨0, _⟩ =>
    change GatherDims.start gather_S4x262144x3_S4x1000x1_S4x1000x3_2_1_0_0_1_2_113 (ix3 b k c) w (0 : Fin 3) + GatherDims.batchCoord gather_S4x262144x3_S4x1000x1_S4x1000x3_2_1_0_0_1_2_113 (ix3 b k c) (0 : Fin 3) + GatherDims.offCoord gather_S4x262144x3_S4x1000x1_S4x1000x3_2_1_0_0_1_2_113 (ix3 b k c) (0 : Fin 3) = b.val
    rw [GatherDims.start_batching gather_S4x262144x3_S4x1000x1_S4x1000x3_2_1_0_0_1_2_113 _ _ _ (List.mem_singleton.2 rfl),
      GatherDims.offCoord_eq_zero gather_S4x262144x3_S4x1000x1_S4x1000x3_2_1_0_0_1_2_113 _ _ (fun h => ((GatherDims.mem_sKept _ _).1 h).2 (List.mem_singleton.2 rfl))]
    unfold GatherDims.batchCoord
    rw [dif_pos (show (0 : Fin 3) ∈ GatherDims.operandBatchingDims gather_S4x262144x3_S4x1000x1_S4x1000x3_2_1_0_0_1_2_113 from List.mem_singleton.2 rfl)]
    simp only [Nat.zero_add, Nat.add_zero]
    rfl
  | ⟨1, _⟩ =>
    change GatherDims.start gather_S4x262144x3_S4x1000x1_S4x1000x3_2_1_0_0_1_2_113 (ix3 b k c) w (1 : Fin 3) + GatherDims.batchCoord gather_S4x262144x3_S4x1000x1_S4x1000x3_2_1_0_0_1_2_113 (ix3 b k c) (1 : Fin 3) + GatherDims.offCoord gather_S4x262144x3_S4x1000x1_S4x1000x3_2_1_0_0_1_2_113 (ix3 b k c) (1 : Fin 3) = q.val
    rw [GatherDims.batchCoord_eq_zero gather_S4x262144x3_S4x1000x1_S4x1000x3_2_1_0_0_1_2_113 _ _ (show (1 : Fin 3) ∉ GatherDims.operandBatchingDims gather_S4x262144x3_S4x1000x1_S4x1000x3_2_1_0_0_1_2_113 from by
        show _ ∉ [(0 : Fin 3)]; decide),
      GatherDims.offCoord_eq_zero gather_S4x262144x3_S4x1000x1_S4x1000x3_2_1_0_0_1_2_113 _ _ (fun h => ((GatherDims.mem_sKept _ _).1 h).1 (List.mem_singleton.2 rfl))]
    simp only [Nat.add_zero]
    unfold GatherDims.start
    rw [dif_pos (show (1 : Fin 3) ∈ GatherDims.startIndexMap gather_S4x262144x3_S4x1000x1_S4x1000x3_2_1_0_0_1_2_113 from List.mem_singleton.2 rfl)]
    have hsi : GatherDims.siIdx gather_S4x262144x3_S4x1000x1_S4x1000x3_2_1_0_0_1_2_113 (ix3 b k c) ⟨List.idxOf (1 : Fin 3) (GatherDims.startIndexMap gather_S4x262144x3_S4x1000x1_S4x1000x3_2_1_0_0_1_2_113),
        List.idxOf_lt_length_iff.2 (List.mem_singleton.mpr rfl)⟩ = (ix3 b k 0 : S4x1000x1.Idx) := by
      funext e; refine Fin.ext ?_
      match e with
      | ⟨0, _⟩ => rfl
      | ⟨1, _⟩ => rfl
      | ⟨2, _⟩ => rfl
    refine (congrArg (fun z => min (w z).toInt.toNat 262143) hsi).trans ?_
    rw [h]
    have hq := q.isLt
    have : (BitVec.ofNat 32 q.val).toInt.toNat = q.val := by
      rw [WordCmp.toInt_ofNat_of_lt (by omega)]; rfl
    rw [this]
    exact Nat.min_eq_left (by omega)
  | ⟨2, _⟩ =>
    change GatherDims.start gather_S4x262144x3_S4x1000x1_S4x1000x3_2_1_0_0_1_2_113 (ix3 b k c) w (2 : Fin 3) + GatherDims.batchCoord gather_S4x262144x3_S4x1000x1_S4x1000x3_2_1_0_0_1_2_113 (ix3 b k c) (2 : Fin 3) + GatherDims.offCoord gather_S4x262144x3_S4x1000x1_S4x1000x3_2_1_0_0_1_2_113 (ix3 b k c) (2 : Fin 3) = c.val
    rw [GatherDims.batchCoord_eq_zero gather_S4x262144x3_S4x1000x1_S4x1000x3_2_1_0_0_1_2_113 _ _ (show (2 : Fin 3) ∉ GatherDims.operandBatchingDims gather_S4x262144x3_S4x1000x1_S4x1000x3_2_1_0_0_1_2_113 from by
        show _ ∉ [(0 : Fin 3)]; decide)]
    unfold GatherDims.start
    rw [dif_neg (show (2 : Fin 3) ∉ GatherDims.startIndexMap gather_S4x262144x3_S4x1000x1_S4x1000x3_2_1_0_0_1_2_113 from by
        show _ ∉ [(1 : Fin 3)]; decide)]
    simp only [Nat.zero_add]
    unfold GatherDims.offCoord
    rw [dif_pos (show (2 : Fin 3) ∈ GatherDims.sKept gather_S4x262144x3_S4x1000x1_S4x1000x3_2_1_0_0_1_2_113 from (GatherDims.mem_sKept _ _).2 ⟨by
        show _ ∉ [(1 : Fin 3)]; decide, by show _ ∉ [(0 : Fin 3)]; decide⟩)]
    rfl

theorem operand1 (w : IVec S4x1000x1 32) (b : Fin 4) (k : Fin 1000) (q : Fin 262144) (h : w (ix3 b k 0) = BitVec.ofNat 32 q.val) :
    GatherDims.operandIdx gather_S4x262144_S4x1000x1_S4x1000_n_1_0_0_1_2_11 (ix2 b k) w = (ix2 b q : S4x262144.Idx) := by
  funext a
  refine Fin.ext ?_
  show GatherDims.start gather_S4x262144_S4x1000x1_S4x1000_n_1_0_0_1_2_11 (ix2 b k) w a + GatherDims.batchCoord gather_S4x262144_S4x1000x1_S4x1000_n_1_0_0_1_2_11 (ix2 b k) a + GatherDims.offCoord gather_S4x262144_S4x1000x1_S4x1000_n_1_0_0_1_2_11 (ix2 b k) a = _
  match a with
  | ⟨0, _⟩ =>
    change GatherDims.start gather_S4x262144_S4x1000x1_S4x1000_n_1_0_0_1_2_11 (ix2 b k) w (0 : Fin 2) + GatherDims.batchCoord gather_S4x262144_S4x1000x1_S4x1000_n_1_0_0_1_2_11 (ix2 b k) (0 : Fin 2) + GatherDims.offCoord gather_S4x262144_S4x1000x1_S4x1000_n_1_0_0_1_2_11 (ix2 b k) (0 : Fin 2) = b.val
    rw [GatherDims.start_batching gather_S4x262144_S4x1000x1_S4x1000_n_1_0_0_1_2_11 _ _ _ (List.mem_singleton.2 rfl),
      GatherDims.offCoord_eq_zero gather_S4x262144_S4x1000x1_S4x1000_n_1_0_0_1_2_11 _ _ (fun h => ((GatherDims.mem_sKept _ _).1 h).2 (List.mem_singleton.2 rfl))]
    unfold GatherDims.batchCoord
    rw [dif_pos (show (0 : Fin 2) ∈ GatherDims.operandBatchingDims gather_S4x262144_S4x1000x1_S4x1000_n_1_0_0_1_2_11 from List.mem_singleton.2 rfl)]
    simp only [Nat.zero_add, Nat.add_zero]
    rfl
  | ⟨1, _⟩ =>
    change GatherDims.start gather_S4x262144_S4x1000x1_S4x1000_n_1_0_0_1_2_11 (ix2 b k) w (1 : Fin 2) + GatherDims.batchCoord gather_S4x262144_S4x1000x1_S4x1000_n_1_0_0_1_2_11 (ix2 b k) (1 : Fin 2) + GatherDims.offCoord gather_S4x262144_S4x1000x1_S4x1000_n_1_0_0_1_2_11 (ix2 b k) (1 : Fin 2) = q.val
    rw [GatherDims.batchCoord_eq_zero gather_S4x262144_S4x1000x1_S4x1000_n_1_0_0_1_2_11 _ _ (show (1 : Fin 2) ∉ GatherDims.operandBatchingDims gather_S4x262144_S4x1000x1_S4x1000_n_1_0_0_1_2_11 from by
        show _ ∉ [(0 : Fin 2)]; decide),
      GatherDims.offCoord_eq_zero gather_S4x262144_S4x1000x1_S4x1000_n_1_0_0_1_2_11 _ _ (fun h => ((GatherDims.mem_sKept _ _).1 h).1 (List.mem_singleton.2 rfl))]
    simp only [Nat.add_zero]
    unfold GatherDims.start
    rw [dif_pos (show (1 : Fin 2) ∈ GatherDims.startIndexMap gather_S4x262144_S4x1000x1_S4x1000_n_1_0_0_1_2_11 from List.mem_singleton.2 rfl)]
    have hsi : GatherDims.siIdx gather_S4x262144_S4x1000x1_S4x1000_n_1_0_0_1_2_11 (ix2 b k) ⟨List.idxOf (1 : Fin 2) (GatherDims.startIndexMap gather_S4x262144_S4x1000x1_S4x1000_n_1_0_0_1_2_11),
        List.idxOf_lt_length_iff.2 (List.mem_singleton.mpr rfl)⟩ = (ix3 b k 0 : S4x1000x1.Idx) := by
      funext e; refine Fin.ext ?_
      match e with
      | ⟨0, _⟩ => rfl
      | ⟨1, _⟩ => rfl
      | ⟨2, _⟩ => rfl
    refine (congrArg (fun z => min (w z).toInt.toNat 262143) hsi).trans ?_
    rw [h]
    have hq := q.isLt
    have : (BitVec.ofNat 32 q.val).toInt.toNat = q.val := by
      rw [WordCmp.toInt_ofNat_of_lt (by omega)]; rfl
    rw [this]
    exact Nat.min_eq_left (by omega)

theorem operand12 (w : IVec S4000x1x1 32) (b : Fin 4000) (k : Fin 1) (q : Fin 12) (h : w (ix3 b k 0) = BitVec.ofNat 32 q.val) :
    GatherDims.operandIdx gather_S4000x12_S4000x1x1_S4000x1_n_1_0_0_1_2_11 (ix2 b k) w = (ix2 b q : S4000x12.Idx) := by
  funext a
  refine Fin.ext ?_
  show GatherDims.start gather_S4000x12_S4000x1x1_S4000x1_n_1_0_0_1_2_11 (ix2 b k) w a + GatherDims.batchCoord gather_S4000x12_S4000x1x1_S4000x1_n_1_0_0_1_2_11 (ix2 b k) a + GatherDims.offCoord gather_S4000x12_S4000x1x1_S4000x1_n_1_0_0_1_2_11 (ix2 b k) a = _
  match a with
  | ⟨0, _⟩ =>
    change GatherDims.start gather_S4000x12_S4000x1x1_S4000x1_n_1_0_0_1_2_11 (ix2 b k) w (0 : Fin 2) + GatherDims.batchCoord gather_S4000x12_S4000x1x1_S4000x1_n_1_0_0_1_2_11 (ix2 b k) (0 : Fin 2) + GatherDims.offCoord gather_S4000x12_S4000x1x1_S4000x1_n_1_0_0_1_2_11 (ix2 b k) (0 : Fin 2) = b.val
    rw [GatherDims.start_batching gather_S4000x12_S4000x1x1_S4000x1_n_1_0_0_1_2_11 _ _ _ (List.mem_singleton.2 rfl),
      GatherDims.offCoord_eq_zero gather_S4000x12_S4000x1x1_S4000x1_n_1_0_0_1_2_11 _ _ (fun h => ((GatherDims.mem_sKept _ _).1 h).2 (List.mem_singleton.2 rfl))]
    unfold GatherDims.batchCoord
    rw [dif_pos (show (0 : Fin 2) ∈ GatherDims.operandBatchingDims gather_S4000x12_S4000x1x1_S4000x1_n_1_0_0_1_2_11 from List.mem_singleton.2 rfl)]
    simp only [Nat.zero_add, Nat.add_zero]
    rfl
  | ⟨1, _⟩ =>
    change GatherDims.start gather_S4000x12_S4000x1x1_S4000x1_n_1_0_0_1_2_11 (ix2 b k) w (1 : Fin 2) + GatherDims.batchCoord gather_S4000x12_S4000x1x1_S4000x1_n_1_0_0_1_2_11 (ix2 b k) (1 : Fin 2) + GatherDims.offCoord gather_S4000x12_S4000x1x1_S4000x1_n_1_0_0_1_2_11 (ix2 b k) (1 : Fin 2) = q.val
    rw [GatherDims.batchCoord_eq_zero gather_S4000x12_S4000x1x1_S4000x1_n_1_0_0_1_2_11 _ _ (show (1 : Fin 2) ∉ GatherDims.operandBatchingDims gather_S4000x12_S4000x1x1_S4000x1_n_1_0_0_1_2_11 from by
        show _ ∉ [(0 : Fin 2)]; decide),
      GatherDims.offCoord_eq_zero gather_S4000x12_S4000x1x1_S4000x1_n_1_0_0_1_2_11 _ _ (fun h => ((GatherDims.mem_sKept _ _).1 h).1 (List.mem_singleton.2 rfl))]
    simp only [Nat.add_zero]
    unfold GatherDims.start
    rw [dif_pos (show (1 : Fin 2) ∈ GatherDims.startIndexMap gather_S4000x12_S4000x1x1_S4000x1_n_1_0_0_1_2_11 from List.mem_singleton.2 rfl)]
    have hsi : GatherDims.siIdx gather_S4000x12_S4000x1x1_S4000x1_n_1_0_0_1_2_11 (ix2 b k) ⟨List.idxOf (1 : Fin 2) (GatherDims.startIndexMap gather_S4000x12_S4000x1x1_S4000x1_n_1_0_0_1_2_11),
        List.idxOf_lt_length_iff.2 (List.mem_singleton.mpr rfl)⟩ = (ix3 b k 0 : S4000x1x1.Idx) := by
      funext e; refine Fin.ext ?_
      match e with
      | ⟨0, _⟩ => rfl
      | ⟨1, _⟩ => rfl
      | ⟨2, _⟩ => rfl
    refine (congrArg (fun z => min (w z).toInt.toNat 11) hsi).trans ?_
    rw [h]
    have hq := q.isLt
    have : (BitVec.ofNat 32 q.val).toInt.toNat = q.val := by
      rw [WordCmp.toInt_ofNat_of_lt (by omega)]; rfl
    rw [this]
    exact Nat.min_eq_left (by omega)

variable (i : IVec S4x1000 32) (q : Fin 4 → Fin 1000 → Fin 262144) (h : ∀ b k, i (ix2 b k) = BitVec.ofNat 32 (q b k).val)

include h in
theorem col_wrap (b : Fin 4) (k : Fin 1000) (u : Fin 1) : wrap3 (column i) (ix3 b k u) = BitVec.ofNat 32 (q b k).val :=
  wrap3_at _ _ _ (by have := (q b k).isLt; omega) ((column_at i b k u).trans (h b k))

include h in
theorem take30_at (a : FVec F S4x262144x30 .f32) (b : Fin 4) (k : Fin 1000) (c : Fin 30) : take30 a (column i) (ix3 b k c) = a (ix3 b (q b k) c) := by
  show Scalar.select (ok3 (wrap3 (column i)) _) (a (GatherDims.operandIdx gather_S4x262144x30_S4x1000x1_S4x1000x30_2_1_0_0_1_2_1130 (ix3 b k c) (wrap3 (column i)))) _ = _
  rw [ok3_at _ q (col_wrap i q h), select_one, operand30 _ b k c (q b k) (col_wrap i q h b k 0)]

include h in
theorem take3_at (a : FVec F S4x262144x3 .f32) (b : Fin 4) (k : Fin 1000) (c : Fin 3) : take3 a (column i) (ix3 b k c) = a (ix3 b (q b k) c) := by
  show Scalar.select (ok3 (wrap3 (column i)) _) (a (GatherDims.operandIdx gather_S4x262144x3_S4x1000x1_S4x1000x3_2_1_0_0_1_2_113 (ix3 b k c) (wrap3 (column i)))) _ = _
  rw [ok3_at _ q (col_wrap i q h), select_one, operand3 _ b k c (q b k) (col_wrap i q h b k 0)]

include h in
theorem take1_at (a : FVec F S4x262144 .f32) (b : Fin 4) (k : Fin 1000) : take1 a i (ix2 b k) = a (ix2 b (q b k)) := by
  have hw : ∀ b k u, wrap1 i (ix3 b k u) = BitVec.ofNat 32 (q b k).val := fun b k u => wrap1_at i b k u _ (by have := (q b k).isLt; omega) (h b k)
  show Scalar.select (ok3 (wrap1 i) _) (a (GatherDims.operandIdx gather_S4x262144_S4x1000x1_S4x1000_n_1_0_0_1_2_11 (ix2 b k) (wrap1 i))) _ = _
  rw [ok3_at _ q hw, select_one, operand1 _ b k (q b k) (hw b k 0)]

theorem take12_at (a : FVec F S4000x12 .f32) (i : IVec S4000x1 32) (q : Fin 4000 → Fin 12) (h : ∀ n, i (ix2 n 0) = BitVec.ofNat 32 (q n).val) (n : Fin 4000) :
    take12 a i (ix2 n 0) = a (ix2 n (q n)) := by
  have hw : ∀ n u v, wrap12 i (ix3 n u v) = BitVec.ofNat 32 (q n).val := fun n u v => wrap12_at i n u v _ (by have := (q n).isLt; omega) (h n)
  show Scalar.select (ok12 (wrap12 i) _) (a (GatherDims.operandIdx gather_S4000x12_S4000x1x1_S4000x1_n_1_0_0_1_2_11 (ix2 n 0) (wrap12 i))) _ = _
  rw [ok12_at _ q hw, select_one, operand12 _ n 0 (q n) (hw n 0 0)]

end Cert.Proof.Ref
end
-- ==== Proof.Ref.BestAt.lean ====
/- The reference's best heading bin: the first of the highest scores. -/
module

public import proofs.«01_k».proof.Proof.Ref.TakeAt
public import proofs.«01_k».proof.Proof.Maths.Box

@[expose] public section

set_option maxRecDepth 8192

noncomputable section

namespace Cert.Proof.Ref

open Cert.ReferenceIdeal Cert.ReferenceIdeal.Gen
open Idealize.ShloMosaic
open Idealize.ShloMosaic.ValueIdx
open Cert.Proof.Maths

/-- A fold whose step keeps the winner `w` against every pair that may come, before and after it. -/
theorem foldl_win {γ : Type} (f : γ → γ → γ) (w : γ) (ok : γ → Prop) (hw : f w w = w) (h1 : ∀ p, ok p → f w p = w) (h2 : ∀ p, ok p → f p w = w)
    (h3 : ∀ p q, ok p → ok q → ok (f p q)) (l : List γ) (hl : ∀ p ∈ l, ok p ∨ p = w) (z : γ) (hz : z = w ∨ (ok z ∧ w ∈ l)) : l.foldl f z = w := by
  induction l generalizing z with
  | nil => rcases hz with h | ⟨-, h⟩
           · exact h
           · simp at h
  | cons p l ih =>
    refine ih (fun p hp => hl p (List.mem_cons_of_mem _ hp)) _ ?_
    rcases hz with rfl | ⟨hz, hm⟩
    · left
      rcases hl p List.mem_cons_self with h | rfl
      · exact h1 p h
      · exact hw
    · rcases hl p List.mem_cons_self with h | rfl
      · rcases List.mem_cons.1 hm with rfl | hm
        · left; exact h2 z hz
        · right; exact ⟨h3 z p hz h, hm⟩
      · left; exact h2 z hz

/-- The step of the arg-max on values and places. -/
theorem step_eq (a b : EReal) (i j : BitVec 32) : reducer_argmax_f32_i32 (F := Ideal) (a, i) (b, j)
    = (if b < a then a else b, if b < a ∨ (a = b ∧ i.toInt < j.toInt) then i else j) := by
  have e1 : FloatOps.cmpf (F := Ideal) (φ := .f32) .ogt a b = if b < a then 1#1 else 0#1 := by
    show BitVec.ofBool (decide (b < a)) = _
    by_cases h : b < a <;> simp [h]
  have e2 : FloatOps.cmpf (F := Ideal) (φ := .f32) .une a a = 0#1 := by
    show BitVec.ofBool (decide (a ≠ a)) = _
    simp
  have e3 : FloatOps.cmpf (F := Ideal) (φ := .f32) .oeq a b = if a = b then 1#1 else 0#1 := by
    show BitVec.ofBool (decide (a = b)) = _
    by_cases h : a = b <;> simp [h]
  have e4 : IntOp.cmpi .slt i j = if i.toInt < j.toInt then 1#1 else 0#1 := by
    show BitVec.ofBool (i.slt j) = _
    by_cases h : i.toInt < j.toInt <;> simp [h, BitVec.slt]
  unfold reducer_argmax_f32_i32
  dsimp only
  rw [e1, e2, e3, e4]
  by_cases h1 : b < a <;> by_cases h2 : a = b <;> by_cases h3 : i.toInt < j.toInt <;> simp [h1, h2, h3, IntOp.ori, IntOp.andi, Scalar.select]

theorem dropRow (i : S4000x12.Idx) (n : Fin 4000) : reducesTo_S4000x12_S4000_d1.drop i = (ix1 n : S4000.Idx) ↔ i 0 = n := by
  constructor
  · intro h
    have := congrFun h 0
    exact Fin.ext (congrArg Fin.val this)
  · intro h
    funext z; refine Fin.ext ?_
    match z with
    | ⟨0, _⟩ => exact congrArg Fin.val h

/-- The best bin of a row whose scores are real numbers. -/
theorem best_at (v : FVec Ideal S4000x12 .f32) (n : Fin 4000) (q : Fin 12) (hq : IsFirst (fun k : Fin 12 => v (ix2 n k)) q) (hv : ∀ k : Fin 12, ⊥ < v (ix2 n k)) :
    best (F := Ideal) v (ix1 n) = BitVec.ofNat 32 q.val := by
  unfold best
  rw [Ideal.argReduce_eq_reduce2, Host.reduce2_eq_foldl_fiber]
  have key : ∀ z : EReal × BitVec 32, z = (⊥, 0#32) → (Host.argReduceFiber v (iotaInDim S4000x12 32 1) reducesTo_S4000x12_S4000_d1 (ix1 n : S4000.Idx)).foldl (reducer_argmax_f32_i32 (F := Ideal))
      z = (v (ix2 n q), BitVec.ofNat 32 q.val) := by
    rintro z rfl
    have ht : ∀ k : Fin 12, (BitVec.ofNat 32 k.val).toInt = (k.val : ℤ) := by decide
    refine foldl_win _ _ (fun p => p.1 < v (ix2 n q) ∨ (p.1 = v (ix2 n q) ∧ (q.val : ℤ) < p.2.toInt)) ?_ ?_ ?_ ?_ _ ?_ _ ?_
    · rw [step_eq]; simp
    · rintro ⟨b, j⟩ h
      rw [step_eq]
      rcases h with h | ⟨h, h'⟩
      · dsimp only at h; simp [h]
      · dsimp only at h h'; subst h; simp [ht, h']
    · rintro ⟨b, j⟩ h
      rw [step_eq]
      rcases h with h | ⟨h, h'⟩
      · dsimp only at h; simp [not_lt.2 h.le, h.ne]
      · dsimp only at h h'; subst h; simp [ht, not_lt.2 h'.le]
    · rintro ⟨a, i⟩ ⟨b, j⟩ ha hb
      rw [step_eq]
      dsimp only at ha hb ⊢
      rcases ha with ha | ⟨ha, ha'⟩ <;> rcases hb with hb | ⟨hb, hb'⟩
      · left; split <;> assumption
      · right; subst hb; simp [not_lt.2 ha.le, ha.ne, hb']
      · right; subst ha; simp [hb, ha']
      · right; subst ha; subst hb; simp; split <;> assumption
    · intro p hp
      obtain ⟨z, hz, rfl⟩ := List.mem_map.1 hp
      have h0 : (S4000x12.rowMajor.symm z) 0 = n := (dropRow _ n).1 (of_decide_eq_true (List.mem_filter.1 hz).2)
      obtain ⟨k, hk⟩ : ∃ k : Fin 12, S4000x12.rowMajor.symm z = ix2 n k := ⟨_, (eq_ix2 _).trans (congrArg (fun t => ix2 t _) h0)⟩
      rw [hk]
      have hi : iotaInDim S4000x12 32 1 (ix2 n k) = BitVec.ofNat 32 k.val := rfl
      rw [hi]
      dsimp only
      rw [ht]
      have hk := hq k
      rcases lt_trichotomy k q with h | h | h
      · exact Or.inl (Or.inl (hk.2 h))
      · subst h; exact Or.inr rfl
      · rcases hk.1.lt_or_eq with h' | h'
        · exact Or.inl (Or.inl h')
        · exact Or.inl (Or.inr ⟨h', by exact_mod_cast h⟩)
    · right
      refine ⟨Or.inl (hv q), List.mem_map.2 ⟨S4000x12.rowMajor (ix2 n q), List.mem_filter.2 ⟨List.mem_finRange _, ?_⟩, ?_⟩⟩
      · rw [Equiv.symm_apply_apply]
        exact decide_eq_true ((dropRow _ n).2 rfl)
      · rw [Equiv.symm_apply_apply]; rfl
  exact congrArg Prod.snd (key _ (Prod.ext ofBits_bot rfl))

end Cert.Proof.Ref
end
-- ==== Proof.Ref.RowAt.lean ====
/- The reference's decoding of a box from its row of channels. -/
module

public import proofs.«01_k».proof.Proof.Ref.BestAt
public import proofs.«01_k».proof.Proof.Maths.Words
public import Idealize.ShloMosaic.Lib.Pipeline.Value

@[expose] public section

set_option maxRecDepth 8192

noncomputable section

namespace Cert.Proof.Ref

open Cert.ReferenceIdeal Cert.ReferenceIdeal.Gen
open Idealize.ShloMosaic
open Idealize.ShloMosaic.ValueIdx
open Cert.Proof.Maths

variable (v : FVec Ideal S4000x30 .f32) (n : Fin 4000)

/-! ## The columns -/

theorem cutAt {a b o : ℕ} {α : Type} (h : (⟨2, ![4000, a]⟩ : Shape).Slices ![0, o] ⟨2, ![4000, b]⟩) (x : (⟨2, ![4000, a]⟩ : Shape).Idx → α) (k : Fin b) (hk : o + k.val < a) :
    extractStridedSlice ⟨2, ![4000, b]⟩ ![0, o] x h (ix2 n k) = x (ix2 n ⟨o + k.val, hk⟩) := by
  unfold extractStridedSlice
  congr 1
  funext z; refine Fin.ext ?_
  match z with
  | ⟨0, _⟩ => show 0 + n.val = n.val; omega
  | ⟨1, _⟩ => rfl

theorem flatAt (x : FVec Ideal S4000x1 .f32) : shapeCast S4000 x shapeCasts_S4000x1_S4000 (ix1 n) = x (ix2 n 0) :=
  cast_at _ _ _ _ (by rw [Shape.rowMajor_val_one, Shape.rowMajor_val_two]; simp)

theorem colX_at : colX (F := Ideal) v (ix1 n) = v (ix2 n 0) := (flatAt n _).trans (cutAt n _ v 0 (by decide))
theorem colY_at : colY (F := Ideal) v (ix1 n) = v (ix2 n 1) := (flatAt n _).trans (cutAt n _ v 0 (by decide))
theorem colZ_at : colZ (F := Ideal) v (ix1 n) = v (ix2 n 2) := (flatAt n _).trans (cutAt n _ v 0 (by decide))
theorem bins_at (k : Fin 12) : bins (F := Ideal) v (ix2 n k) = v (ix2 n ⟨3 + k.val, by omega⟩) := by
  unfold bins
  refine (cutAt n _ _ k (by omega)).trans ((cutAt n _ v _ (by dsimp only; omega)).trans ?_)
  refine congrArg (fun t => v (ix2 n t)) (Fin.ext ?_)
  show 3 + (0 + k.val) = 3 + k.val
  omega
theorem residuals_at (k : Fin 12) : residuals (F := Ideal) v (ix2 n k) = v (ix2 n ⟨15 + k.val, by omega⟩) := by
  unfold residuals
  refine (cutAt n _ _ k (by omega)).trans ((cutAt n _ v _ (by dsimp only; omega)).trans ?_)
  refine congrArg (fun t => v (ix2 n t)) (Fin.ext ?_)
  show 3 + (12 + k.val) = 15 + k.val
  omega

/-! ## The heading -/

section
variable (q : Fin 4000 → Fin 12) (hq : ∀ n, IsFirst (fun k : Fin 12 => v (ix2 n ⟨3 + k.val, by omega⟩)) (q n)) (hv : ∀ n (k : Fin 30), ⊥ < v (ix2 n k))
include hq hv

theorem bestBin_at : best (F := Ideal) (bins (F := Ideal) v) (ix1 n) = BitVec.ofNat 32 (q n).val := by
  refine best_at _ n (q n) ?_ fun k => ?_
  · have e : (fun k : Fin 12 => bins (F := Ideal) v (ix2 n k)) = fun k : Fin 12 => v (ix2 n ⟨3 + k.val, by omega⟩) := funext fun k => bins_at v n k
    rw [e]; exact hq n
  · rw [bins_at]; exact hv n _

theorem residual_at : residual (F := Ideal) v (ix1 n) = v (ix2 n ⟨15 + (q n).val, by omega⟩) := by
  unfold residual
  refine (flatAt n _).trans ?_
  refine (take12_at _ _ q (fun n => ?_) n).trans (residuals_at v n _)
  refine Eq.trans ?_ (bestBin_at v n q hq hv)
  unfold broadcastInDim
  congr 1
  funext z; refine Fin.ext ?_
  match z with
  | ⟨0, _⟩ => rfl
end

theorem ne_xor (a b : BitVec 1) : IntOp.cmpi .ne a b = IntOp.xori a b := by revert a b; decide
theorem cmp_une (a b : EReal) : Ideal.cmp .une a b = Ideal.cmp .one a b := by
  show BitVec.ofBool _ = BitVec.ofBool _
  simp

theorem modulo_at (a : FVec Ideal S4000 .f32) (w : BitVec 32) (j : S4000.Idx) :
    modulo (F := Ideal) a (constant S_ .f32 w) j = moduloAt (a j) (Ideal.ofBits .f32 w) := by
  unfold moduloAt
  rw [← cmp_une, ← ne_xor, ← Ideal.ofBits_zero_f32]
  rfl

theorem headingOf_at (b e : FVec Ideal S4000 .f32) (j : S4000.Idx) : headingOf (F := Ideal) b e j
    = foldAt (moduloAt (b j * Ideal.ofBits .f32 0x3F060A92#32 + e j * Ideal.ofBits .f32 0x3E860A92#32) (Ideal.ofBits .f32 0x40C90FDB#32)) := by
  have h (z : FVec Ideal S4000 .f32) : select (cmpf .ogt z (broadcastInDim S4000 ![] bcast_S_S4000 (constant S_ .f32 0x40490FDB#32)))
    (subf z (broadcastInDim S4000 ![] bcast_S_S4000 (constant S_ .f32 0x40C90FDB#32))) z j = foldAt (z j) := rfl
  unfold headingOf
  refine (h _).trans (congrArg foldAt ?_)
  exact modulo_at _ _ _

theorem toFloat_at (i : IVec S4000 32) (j : S4000.Idx) : sitofp (F := Ideal) .f32 i j = FloatOps.sitofp (F := Ideal) .f32 (i j) := rfl

/-! ## The sizes -/

theorem sizesOf_at (k : Fin 3) : sizesOf (F := Ideal) means v (ix2 n k)
    = v (ix2 n ⟨27 + k.val, by omega⟩) * Ideal.ofBits .f32 (lit0 k) + Ideal.ofBits .f32 (lit0 k) := by
  have hm : broadcastInDim S4000x3 ![0, 1] bcast_S1x3_S4000x3_0_1 (broadcastInDim S1x3 ![1] bcast_S3_S1x3_1 (means (F := Ideal))) (ix2 n k) = Ideal.ofBits .f32 (lit0 k) := by
    have hi : ∀ i : S3.Idx, (i 0).val = k.val → means (F := Ideal) i = Ideal.ofBits .f32 (lit0 k) := by
      intro i hi
      have : S3.rowMajor i = k := Fin.ext (by rw [eq_ix1 i]; exact (Shape.rowMajor_val_one _).trans hi)
      unfold means; rw [this]; rfl
    unfold broadcastInDim
    exact hi _ rfl
  have hs : extractStridedSlice S4000x3 ![0, 27] v slices_S4000x30_S4000x3_0_27 (ix2 n k) = v (ix2 n ⟨27 + k.val, by omega⟩) := cutAt n _ v k _
  have ha (a b : FVec Ideal S4000x3 .f32) (j : S4000x3.Idx) : addf (mulf a b) b j = a j * b j + b j := rfl
  unfold sizesOf
  rw [ha, hm, hs]

/-! ## The columns side by side -/

theorem asCol_at (a : FVec Ideal S4000 .f32) (u : Fin 1) : asCol (F := Ideal) a (ix2 n u) = a (ix1 n) := by
  unfold asCol broadcastInDim
  congr 1
  funext z; refine Fin.ext ?_
  match z with
  | ⟨0, _⟩ => rfl

theorem three_at (x y z : FVec Ideal S4000x1 .f32) (c : Fin 3) :
    concatenate S4000x3 1 [⟨S4000x1, x⟩, ⟨S4000x1, y⟩, ⟨S4000x1, z⟩] concatenates_S4000x1_S4000x1_S4000x1_S4000x3_d1 (ix2 n c)
      = (![x (ix2 n 0), y (ix2 n 0), z (ix2 n 0)] : Fin 3 → EReal) c := by
  match c with
  | 0 =>
    refine concatenate_apply_piece (t := S4000x3) 1 [⟨S4000x1, x⟩, ⟨S4000x1, y⟩, ⟨S4000x1, z⟩] _ (ix2 n 0) 0 (by simp) S4000x1 x rfl rfl 0 rfl (ix2 n 0) (fun b hb => ?_) rfl
    match b with
    | ⟨0, _⟩ => rfl
    | ⟨1, _⟩ => exact absurd rfl hb
  | 1 =>
    refine concatenate_apply_piece (t := S4000x3) 1 [⟨S4000x1, x⟩, ⟨S4000x1, y⟩, ⟨S4000x1, z⟩] _ (ix2 n 1) 1 (by simp) S4000x1 y rfl rfl 1 rfl (ix2 n 0) (fun b hb => ?_) rfl
    match b with
    | ⟨0, _⟩ => rfl
    | ⟨1, _⟩ => exact absurd rfl hb
  | 2 =>
    refine concatenate_apply_piece (t := S4000x3) 1 [⟨S4000x1, x⟩, ⟨S4000x1, y⟩, ⟨S4000x1, z⟩] _ (ix2 n 2) 2 (by simp) S4000x1 z rfl rfl 2 rfl (ix2 n 0) (fun b hb => ?_) rfl
    match b with
    | ⟨0, _⟩ => rfl
    | ⟨1, _⟩ => exact absurd rfl hb

theorem seven_low (x y : FVec Ideal S4000x3 .f32) (z : FVec Ideal S4000x1 .f32) (c : Fin 3) :
    concatenate S4000x7 1 [⟨S4000x3, x⟩, ⟨S4000x3, y⟩, ⟨S4000x1, z⟩] concatenates_S4000x3_S4000x3_S4000x1_S4000x7_d1 (ix2 n ⟨c.val, by omega⟩) = x (ix2 n c) := by
  refine concatenate_apply_piece (t := S4000x7) 1 [⟨S4000x3, x⟩, ⟨S4000x3, y⟩, ⟨S4000x1, z⟩] _ (ix2 n ⟨c.val, by omega⟩) 0 (by simp) S4000x3 x rfl rfl 0 rfl (ix2 n c) (fun b hb => ?_) (Nat.zero_add _)
  match b with
  | ⟨0, _⟩ => rfl
  | ⟨1, _⟩ => exact absurd rfl hb
theorem seven_mid (x y : FVec Ideal S4000x3 .f32) (z : FVec Ideal S4000x1 .f32) (c : Fin 3) :
    concatenate S4000x7 1 [⟨S4000x3, x⟩, ⟨S4000x3, y⟩, ⟨S4000x1, z⟩] concatenates_S4000x3_S4000x3_S4000x1_S4000x7_d1 (ix2 n ⟨3 + c.val, by omega⟩) = y (ix2 n c) := by
  refine concatenate_apply_piece (t := S4000x7) 1 [⟨S4000x3, x⟩, ⟨S4000x3, y⟩, ⟨S4000x1, z⟩] _ (ix2 n ⟨3 + c.val, by omega⟩) 1 (by simp) S4000x3 y rfl rfl 3 rfl (ix2 n c) (fun b hb => ?_) rfl
  match b with
  | ⟨0, _⟩ => rfl
  | ⟨1, _⟩ => exact absurd rfl hb
theorem seven_last (x y : FVec Ideal S4000x3 .f32) (z : FVec Ideal S4000x1 .f32) :
    concatenate S4000x7 1 [⟨S4000x3, x⟩, ⟨S4000x3, y⟩, ⟨S4000x1, z⟩] concatenates_S4000x3_S4000x3_S4000x1_S4000x7_d1 (ix2 n 6) = z (ix2 n 0) := by
  refine concatenate_apply_piece (t := S4000x7) 1 [⟨S4000x3, x⟩, ⟨S4000x3, y⟩, ⟨S4000x1, z⟩] _ (ix2 n 6) 2 (by simp) S4000x1 z rfl rfl 6 rfl (ix2 n 0) (fun b hb => ?_) rfl
  match b with
  | ⟨0, _⟩ => rfl
  | ⟨1, _⟩ => exact absurd rfl hb

/-- A box's offsets, sizes and heading. -/
theorem raw_at (r : Fin 32 → EReal) (q : Fin 4000 → Fin 12) (hq : ∀ n, IsFirst (fun k : Fin 12 => v (ix2 n ⟨3 + k.val, by omega⟩)) (q n))
    (hv : ∀ n (k : Fin 30), ⊥ < v (ix2 n k)) (b : Fin 4) (k : Fin 1000) (hn : n.val = 1000 * b.val + k.val)
    (hr : ∀ c : Fin 30, v (ix2 n c) = r ⟨2 + c.val, by omega⟩) (c : Fin 7) :
    raw (F := Ideal) v (ix3 b k c) = (![r 2, r 3, r 4, r 29 * Ideal.ofBits .f32 0x40966666#32 + Ideal.ofBits .f32 0x40966666#32,
      r 30 * Ideal.ofBits .f32 0x40066666#32 + Ideal.ofBits .f32 0x40066666#32, r 31 * Ideal.ofBits .f32 0x3FD9999A#32 + Ideal.ofBits .f32 0x3FD9999A#32,
      headingAt (q n).val (r ⟨17 + (q n).val, by omega⟩)] : Fin 7 → EReal) c := by
  unfold raw boxesOf
  refine (cast_at _ _ _ (ix2 n c : S4000x7.Idx) (by
    rw [Shape.rowMajor_val_two, Shape.rowMajor_val_three]; show n.val * 7 + c.val = (b.val * 1000 + k.val) * 7 + c.val; omega)).trans ?_
  match c with
  | 0 => exact (seven_low n _ _ _ 0).trans ((three_at n _ _ _ 0).trans ((asCol_at n _ 0).trans ((colX_at v n).trans (hr 0))))
  | 1 => exact (seven_low n _ _ _ 1).trans ((three_at n _ _ _ 1).trans ((asCol_at n _ 0).trans ((colY_at v n).trans (hr 1))))
  | 2 => exact (seven_low n _ _ _ 2).trans ((three_at n _ _ _ 2).trans ((asCol_at n _ 0).trans ((colZ_at v n).trans (hr 2))))
  | 3 => exact (seven_mid n _ _ _ 0).trans ((sizesOf_at v n 0).trans (congrArg (fun t => t * Ideal.ofBits .f32 0x40966666#32 + Ideal.ofBits .f32 0x40966666#32) (hr 27)))
  | 4 => exact (seven_mid n _ _ _ 1).trans ((sizesOf_at v n 1).trans (congrArg (fun t => t * Ideal.ofBits .f32 0x40066666#32 + Ideal.ofBits .f32 0x40066666#32) (hr 28)))
  | 5 => exact (seven_mid n _ _ _ 2).trans ((sizesOf_at v n 2).trans (congrArg (fun t => t * Ideal.ofBits .f32 0x3FD9999A#32 + Ideal.ofBits .f32 0x3FD9999A#32) (hr 29)))
  | 6 =>
    refine (seven_last n _ _ _).trans ((asCol_at n _ 0).trans ((headingOf_at _ _ _).trans ?_))
    rw [toFloat_at, bestBin_at v n q hq hv, residual_at v n q hq hv, ofInt_word _ (by omega), hr]
    have e : (⟨2 + (15 + (q n).val), by omega⟩ : Fin 32) = ⟨17 + (q n).val, by omega⟩ := Fin.ext (by show 2 + (15 + (q n).val) = 17 + (q n).val; omega)
    show foldAt (moduloAt (((q n).val : ℝ) * _ + r ⟨2 + (15 + (q n).val), by omega⟩ * _) _) = _
    rw [e]
    rfl

end Cert.Proof.Ref
end
-- ==== Proof.Ref.Anchors.lean ====
/- The reference's anchor centres and channels at an index. -/
module

public import proofs.«01_k».proof.Proof.Ref.TakeAt
public import proofs.«01_k».proof.Proof.Maths.Box
public import proofs.«01_k».proof.Proof.Maths.Words
public import Idealize.ShloMosaic.Lib.Pipeline.Value

@[expose] public section

set_option maxRecDepth 8192

noncomputable section

namespace Cert.Proof.Ref

open Cert.ReferenceIdeal Cert.ReferenceIdeal.Gen
open Idealize.ShloMosaic
open Idealize.ShloMosaic.ValueIdx
open Cert.Proof.Maths

theorem centres_at (i : Fin 512) : centres (F := Ideal) (ix1 i) = centre i.val := by
  unfold centre
  rw [← ofInt_word i.val (by omega)]
  rfl

theorem pieces_at (x y z : FVec Ideal S512x512x1 .f32) (i j : Fin 512) (c : Fin 3) :
    concatenate S512x512x3 2 [⟨S512x512x1, x⟩, ⟨S512x512x1, y⟩, ⟨S512x512x1, z⟩] concatenates_S512x512x1_S512x512x1_S512x512x1_S512x512x3_d2 (ix3 i j c)
      = (![x (ix3 i j 0), y (ix3 i j 0), z (ix3 i j 0)] : Fin 3 → EReal) c := by
  match c with
  | 0 =>
    refine concatenate_apply_piece (t := S512x512x3) 2 [⟨S512x512x1, x⟩, ⟨S512x512x1, y⟩, ⟨S512x512x1, z⟩] _ (ix3 i j 0) 0 (by simp) S512x512x1 x rfl rfl 0 rfl (ix3 i j 0) (fun b hb => ?_) rfl
    match b with
    | ⟨0, _⟩ => rfl
    | ⟨1, _⟩ => rfl
    | ⟨2, _⟩ => exact absurd rfl hb
  | 1 =>
    refine concatenate_apply_piece (t := S512x512x3) 2 [⟨S512x512x1, x⟩, ⟨S512x512x1, y⟩, ⟨S512x512x1, z⟩] _ (ix3 i j 1) 1 (by simp) S512x512x1 y rfl rfl 1 rfl (ix3 i j 0) (fun b hb => ?_) rfl
    match b with
    | ⟨0, _⟩ => rfl
    | ⟨1, _⟩ => rfl
    | ⟨2, _⟩ => exact absurd rfl hb
  | 2 =>
    refine concatenate_apply_piece (t := S512x512x3) 2 [⟨S512x512x1, x⟩, ⟨S512x512x1, y⟩, ⟨S512x512x1, z⟩] _ (ix3 i j 2) 2 (by simp) S512x512x1 z rfl rfl 2 rfl (ix3 i j 0) (fun b hb => ?_) rfl
    match b with
    | ⟨0, _⟩ => rfl
    | ⟨1, _⟩ => rfl
    | ⟨2, _⟩ => exact absurd rfl hb

theorem grid_at (i j : Fin 512) (c : Fin 3) : grid (F := Ideal) (ix3 i j c) = (![centre i.val, centre j.val, 0] : Fin 3 → EReal) c := by
  have h0 (a : FVec Ideal S512 .f32) : broadcastInDim S512x512x1 ![0, 1] bcast_S512x512_S512x512x1_0_1 (broadcastInDim S512x512 ![0] bcast_S512_S512x512_0 a) (ix3 i j 0) = a (ix1 i) := by
    unfold broadcastInDim
    congr 1; funext z; refine Fin.ext ?_
    match z with
    | ⟨0, _⟩ => rfl
  have h1 (a : FVec Ideal S512 .f32) : broadcastInDim S512x512x1 ![0, 1] bcast_S512x512_S512x512x1_0_1 (broadcastInDim S512x512 ![1] bcast_S512_S512x512_1 a) (ix3 i j 0) = a (ix1 j) := by
    unfold broadcastInDim
    congr 1; funext z; refine Fin.ext ?_
    match z with
    | ⟨0, _⟩ => rfl
  unfold grid
  rw [pieces_at, h0, h1, centres_at, centres_at, ← Ideal.ofBits_zero_f32]
  rfl

/-- The anchor centre of a pixel. -/
theorem anchors_at (b : Fin 4) (p : Fin 262144) (c : Fin 3) :
    anchors (F := Ideal) (ix3 b p c) = (![centre (p.val / 512), centre (p.val % 512), 0] : Fin 3 → EReal) c := by
  have hs (u w : FVec Ideal S4x512x512x3 .f32) (j : S4x512x512x3.Idx) : addf u w j = u j + w j := rfl
  unfold anchors
  refine (cast_at _ _ _ (ix4 b ⟨p.val / 512, by omega⟩ ⟨p.val % 512, by omega⟩ c : S4x512x512x3.Idx) (by
    rw [Shape.rowMajor_val_four, Shape.rowMajor_val_three]
    show ((b.val * 512 + p.val / 512) * 512 + p.val % 512) * 3 + c.val = (b.val * 262144 + p.val) * 3 + c.val
    omega)).trans ?_
  refine (cast_at _ _ _ (ix5 b ⟨p.val / 512, by omega⟩ ⟨p.val % 512, by omega⟩ 0 c : S4x512x512x1x3.Idx) (by
    rw [Shape.rowMajor_val_four, Shape.rowMajor_val_five]; simp)).trans ?_
  have hb (u : FVec Ideal S4x512x512x3 .f32) : broadcastInDim S4x512x512x1x3 ![0, 1, 2, 4] bcast_S4x512x512x3_S4x512x512x1x3_0_1_2_4 u
      (ix5 b ⟨p.val / 512, by omega⟩ ⟨p.val % 512, by omega⟩ 0 c) = u (ix4 b ⟨p.val / 512, by omega⟩ ⟨p.val % 512, by omega⟩ c) := by
    unfold broadcastInDim
    congr 1; funext z; refine Fin.ext ?_
    match z with
    | ⟨0, _⟩ => rfl
    | ⟨1, _⟩ => rfl
    | ⟨2, _⟩ => rfl
    | ⟨3, _⟩ => rfl
  have hg (u : FVec Ideal S512x512x3 .f32) (i j : Fin 512) : broadcastInDim S4x512x512x3 ![0, 1, 2, 3] bcast_S1x512x512x3_S4x512x512x3_0_1_2_3
      (broadcastInDim S1x512x512x3 ![1, 2, 3] bcast_S512x512x3_S1x512x512x3_1_2_3 u) (ix4 b i j c) = u (ix3 i j c) := by
    unfold broadcastInDim
    congr 1; funext z; refine Fin.ext ?_
    match z with
    | ⟨0, _⟩ => rfl
    | ⟨1, _⟩ => rfl
    | ⟨2, _⟩ => rfl
  have hz (j : S4x512x512x3.Idx) : broadcastInDim S4x512x512x3 ![0, 1, 2, 3] bcast_S4x1x1x3_S4x512x512x3_0_1_2_3 (broadcastInDim S4x1x1x3 ![0, 3] bcast_S4x3_S4x1x1x3_0_3
        (broadcastInDim S4x3 ![] bcast_S_S4x3 (constant (F := Ideal) S_ .f32 0x00000000#32))) j = (0 : EReal) := Ideal.ofBits_zero_f32
  rw [hb, hs, hg, hz, grid_at, add_zero]

/-- The regression channels of a pixel. -/
theorem channels_at (x : FVec Ideal S4x512x512x32 .f32) (b : Fin 4) (p : Fin 262144) (c : Fin 30) : channels (F := Ideal) x (ix3 b p c)
    = x (ix4 b ⟨p.val / 512, by omega⟩ ⟨p.val % 512, by omega⟩ ⟨2 + c.val, by omega⟩) := by
  unfold channels
  refine (cast_at _ _ _ (ix4 b ⟨p.val / 512, by omega⟩ ⟨p.val % 512, by omega⟩ c : S4x512x512x30.Idx) (by
    rw [Shape.rowMajor_val_four, Shape.rowMajor_val_three]
    show ((b.val * 512 + p.val / 512) * 512 + p.val % 512) * 30 + c.val = (b.val * 262144 + p.val) * 30 + c.val
    omega)).trans ?_
  unfold extractStridedSlice
  congr 1
  funext z; refine Fin.ext ?_
  match z with
  | ⟨0, _⟩ => show 0 + b.val = b.val; omega
  | ⟨1, _⟩ => show 0 + p.val / 512 = p.val / 512; omega
  | ⟨2, _⟩ => show 0 + p.val % 512 = p.val % 512; omega
  | ⟨3, _⟩ => rfl

/-- The offsets of a box moved by its anchor centre, and the rest of it. -/
theorem placed_at (a : FVec Ideal S4x1000x3 .f32) (y : FVec Ideal S4x1000x7 .f32) (b : Fin 4) (k : Fin 1000) (c : Fin 7) :
    placed (F := Ideal) a y (ix3 b k c) = if h : c.val < 3 then a (ix3 b k ⟨c.val, h⟩) + y (ix3 b k c) else y (ix3 b k c) := by
  unfold placed
  by_cases h : c.val < 3
  · rw [dif_pos h]
    refine (concatenate_apply_piece (t := S4x1000x7) 2 [⟨S4x1000x3, addf a (extractStridedSlice S4x1000x3 ![0, 0, 0] y slices_S4x1000x7_S4x1000x3_0_0_0)⟩,
      ⟨S4x1000x4, extractStridedSlice S4x1000x4 ![0, 0, 3] y slices_S4x1000x7_S4x1000x4_0_0_3⟩] _ (ix3 b k c) 0 (by simp) S4x1000x3 _ rfl rfl 0 rfl (ix3 b k ⟨c.val, h⟩) (fun z hz => ?_) (Nat.zero_add _)).trans ?_
    · match z with
      | ⟨0, _⟩ => rfl
      | ⟨1, _⟩ => rfl
      | ⟨2, _⟩ => exact absurd rfl hz
    · show a _ + extractStridedSlice _ _ _ _ _ = _
      congr 1
      unfold extractStridedSlice
      congr 1
      funext z; refine Fin.ext ?_
      match z with
      | ⟨0, _⟩ => show 0 + b.val = b.val; omega
      | ⟨1, _⟩ => show 0 + k.val = k.val; omega
      | ⟨2, _⟩ => show 0 + c.val = c.val; omega
  · rw [dif_neg h]
    refine (concatenate_apply_piece (t := S4x1000x7) 2 [⟨S4x1000x3, addf a (extractStridedSlice S4x1000x3 ![0, 0, 0] y slices_S4x1000x7_S4x1000x3_0_0_0)⟩,
      ⟨S4x1000x4, extractStridedSlice S4x1000x4 ![0, 0, 3] y slices_S4x1000x7_S4x1000x4_0_0_3⟩] _ (ix3 b k c) 1 (by simp) S4x1000x4 _ rfl rfl 3 rfl (ix3 b k ⟨c.val - 3, by omega⟩) (fun z hz => ?_)
      (by show 3 + (c.val - 3) = c.val; omega)).trans ?_
    · match z with
      | ⟨0, _⟩ => rfl
      | ⟨1, _⟩ => rfl
      | ⟨2, _⟩ => exact absurd rfl hz
    · unfold extractStridedSlice
      congr 1
      funext z; refine Fin.ext ?_
      match z with
      | ⟨0, _⟩ => show 0 + b.val = b.val; omega
      | ⟨1, _⟩ => show 0 + k.val = k.val; omega
      | ⟨2, _⟩ => show 3 + (c.val - 3) = c.val; omega

end Cert.Proof.Ref
end
-- ==== Proof.Ref.Window.lean ====
/- The maximum over a 3×3 window, at an index. -/
module

public import proofs.«01_k».proof.Proof.Ref.Chain
public import proofs.«01_k».proof.Proof.Maths.Heat

@[expose] public section

set_option maxRecDepth 8192

noncomputable section

namespace Cert.Proof.Ref

open Cert.ReferenceIdeal Cert.ReferenceIdeal.Gen
open Idealize.ShloMosaic
open Idealize.ShloMosaic.ValueIdx
open Cert.Proof.Maths

/-- The window's positions, row by row. -/
theorem nine : (List.finRange (⟨4, ![1, 3, 3, 1]⟩ : Shape).numel).map (fun n => ((⟨4, ![1, 3, 3, 1]⟩ : Shape).rowMajor.symm n))
    = [ix4 0 0 0 0, ix4 0 0 1 0, ix4 0 0 2 0, ix4 0 1 0 0, ix4 0 1 1 0, ix4 0 1 2 0, ix4 0 2 0 0, ix4 0 2 1 0, ix4 0 2 2 0] := by
  decide +kernel

/-- The maximum of the 3×3 windows, at an index. -/
theorem window_at (h : FVec Ideal S4x512x512x1 .f32) (v : FVec Ideal S_ .f32) (hv : v (Shape.Idx.first h_S_) = ⊥) (b : Fin 4) (i j : Fin 512) :
    Host.reduceWindow (FloatOps.maximumf (F := Ideal) (φ := .f32)) ![1, 3, 3, 1] ![1, 1, 1, 1] ![0, 1, 1, 0] ![0, 1, 1, 0] h v
      reduceWindows_S4x512x512x1_S4x512x512x1_w1s1p0_0_w3s1p1_1_w3s1p1_1_w1s1p0_0 h_S_ (ix4 b i j 0)
    = pool9 (fun i j => h (ix4 b i j 0)) i.val j.val := by
  unfold Host.reduceWindow
  rw [hv]
  have hstep : ∀ (w : (⟨4, ![1, 3, 3, 1]⟩ : Shape).Idx) (inst : Decidable (∀ a : Fin 4, (![0, 1, 1, 0] : Fin 4 → ℕ) a ≤ ((ix4 b i j (0 : Fin 1) : S4x512x512x1.Idx) a).val * (![1, 1, 1, 1] : Fin 4 → ℕ) a + (w a).val
          ∧ ((ix4 b i j (0 : Fin 1) : S4x512x512x1.Idx) a).val * (![1, 1, 1, 1] : Fin 4 → ℕ) a + (w a).val - (![0, 1, 1, 0] : Fin 4 → ℕ) a < S4x512x512x1.size a)),
      (if hin : ∀ a : Fin 4, (![0, 1, 1, 0] : Fin 4 → ℕ) a ≤ ((ix4 b i j (0 : Fin 1) : S4x512x512x1.Idx) a).val * (![1, 1, 1, 1] : Fin 4 → ℕ) a + (w a).val
          ∧ ((ix4 b i j (0 : Fin 1) : S4x512x512x1.Idx) a).val * (![1, 1, 1, 1] : Fin 4 → ℕ) a + (w a).val - (![0, 1, 1, 0] : Fin 4 → ℕ) a < S4x512x512x1.size a
        then h (fun a => ⟨_, (hin a).2⟩) else (⊥ : EReal))
      = nbr (fun i j => h (ix4 b i j 0)) ((w (1 : Fin 4)).val + i.val) ((w (2 : Fin 4)).val + j.val) := by
    intro w inst
    have h0 : (w (0 : Fin 4)).val < 1 := (w (0 : Fin 4)).isLt
    have h3 : (w (3 : Fin 4)).val < 1 := (w (3 : Fin 4)).isLt
    unfold nbr
    by_cases hb : (1 ≤ (w (1 : Fin 4)).val + i.val ∧ (w (1 : Fin 4)).val + i.val < 513) ∧ 1 ≤ (w (2 : Fin 4)).val + j.val ∧ (w (2 : Fin 4)).val + j.val < 513
    · rw [dif_pos hb, dif_pos (by
        intro a
        match a with
        | ⟨0, _⟩ => show 0 ≤ b.val * 1 + (w (0 : Fin 4)).val ∧ b.val * 1 + (w (0 : Fin 4)).val - 0 < 4; omega
        | ⟨1, _⟩ => show 1 ≤ i.val * 1 + (w (1 : Fin 4)).val ∧ i.val * 1 + (w (1 : Fin 4)).val - 1 < 512; omega
        | ⟨2, _⟩ => show 1 ≤ j.val * 1 + (w (2 : Fin 4)).val ∧ j.val * 1 + (w (2 : Fin 4)).val - 1 < 512; omega
        | ⟨3, _⟩ => show 0 ≤ 0 * 1 + (w (3 : Fin 4)).val ∧ 0 * 1 + (w (3 : Fin 4)).val - 0 < 1; omega)]
      congr 1
      funext a; refine Fin.ext ?_
      match a with
      | ⟨0, _⟩ => show b.val * 1 + (w (0 : Fin 4)).val - 0 = b.val; omega
      | ⟨1, _⟩ => show i.val * 1 + (w (1 : Fin 4)).val - 1 = (w (1 : Fin 4)).val + i.val - 1; omega
      | ⟨2, _⟩ => show j.val * 1 + (w (2 : Fin 4)).val - 1 = (w (2 : Fin 4)).val + j.val - 1; omega
      | ⟨3, _⟩ => show 0 * 1 + (w (3 : Fin 4)).val - 0 = 0; omega
    · rw [dif_neg hb, dif_neg (by
        intro hin
        have e1 : 1 ≤ i.val * 1 + (w (1 : Fin 4)).val ∧ i.val * 1 + (w (1 : Fin 4)).val - 1 < 512 := hin (1 : Fin 4)
        have e2 : 1 ≤ j.val * 1 + (w (2 : Fin 4)).val ∧ j.val * 1 + (w (2 : Fin 4)).val - 1 < 512 := hin (2 : Fin 4)
        omega)]
  refine Eq.trans (b := (((List.finRange (⟨4, ![1, 3, 3, 1]⟩ : Shape).numel).map (fun n => ((⟨4, ![1, 3, 3, 1]⟩ : Shape).rowMajor.symm n))).foldl
    (fun (r : EReal) w => max r (nbr (fun i j => h (ix4 b i j 0)) ((w (1 : Fin 4)).val + i.val) ((w (2 : Fin 4)).val + j.val))) ⊥)) ?_ ?_
  · rw [List.foldl_map]
    refine congrArg (fun g => List.foldl g (⊥ : EReal) (List.finRange (⟨4, ![1, 3, 3, 1]⟩ : Shape).numel)) ?_
    funext r n
    exact congrArg (max r) (hstep _ _)
  · rw [nine]
    rfl

end Cert.Proof.Ref
end
-- ==== Proof.Ref.HeatAt.lean ====
/- The reference's masked heat map at an index. -/
module

public import proofs.«01_k».proof.Proof.Ref.Window
public import proofs.«01_k».proof.Proof.Maths.Heat

@[expose] public section

set_option maxRecDepth 8192

noncomputable section

namespace Cert.Proof.Ref

open Cert.ReferenceIdeal Cert.ReferenceIdeal.Gen
open Idealize.ShloMosaic
open Idealize.ShloMosaic.ValueIdx
open Cert.Proof.Maths

theorem fold_two (f : Fin 2 → EReal) : Finset.univ.fold max ⊥ f = max (f 0) (f 1) := by
  rw [show (Finset.univ : Finset (Fin 2)) = {0, 1} from rfl, Finset.fold_insert (by decide), Finset.fold_singleton, max_eq_left (bot_le : ⊥ ≤ f 1)]

theorem rmax_at (z : FVec Ideal S4x512x512x2 .f32) (b : Fin 4) (i j : Fin 512) :
    Host.reduce FloatOps.maximumf z (constant (F := Ideal) S_ .f32 0xFF800000#32) reducesTo_S4x512x512x2_S4x512x512_d3 h_S_ (ix3 b i j)
      = max (z (ix4 b i j 0)) (z (ix4 b i j 1)) := by
  refine (Host.reduce_eq_fold_single FloatOps.maximumf z _ reducesTo_S4x512x512x2_S4x512x512_d3 (by decide) h_S_ (ix3 b i j)).trans ?_
  refine Eq.trans ?_ (fold_two (fun k : Fin 2 => z (ix4 b i j k)))
  show Finset.univ.fold max (Ideal.ofBits .f32 0xFF800000#32) _ = _
  rw [ofBits_bot]
  refine congrArg (fun g => Finset.univ.fold max ⊥ g) (funext fun k => ?_)
  show z _ = _
  congr 1; funext q; refine Fin.ext ?_
  match q with
  | ⟨0, _⟩ => rfl
  | ⟨1, _⟩ => rfl
  | ⟨2, _⟩ => rfl
  | ⟨3, _⟩ => rfl

theorem rsum_at (z : FVec Ideal S4x512x512x2 .f32) (b : Fin 4) (i j : Fin 512) :
    Host.reduceAdd z (constant (F := Ideal) S_ .f32 0x00000000#32) reducesTo_S4x512x512x2_S4x512x512_d3 h_S_ (ix3 b i j)
      = z (ix4 b i j 0) + z (ix4 b i j 1) := by
  refine (Ideal.hostReduceAdd_single reducesTo_S4x512x512x2_S4x512x512_d3 (by decide) z _ (ix3 b i j)).trans ?_
  show Ideal.ofBits .f32 0x00000000#32 + _ = _
  rw [Ideal.ofBits_zero_f32, zero_add]
  refine (Fin.sum_univ_two _).trans ?_
  congr 1
  all_goals
    congr 1; funext q; refine Fin.ext ?_
    match q with
    | ⟨0, _⟩ => rfl
    | ⟨1, _⟩ => rfl
    | ⟨2, _⟩ => rfl
    | ⟨3, _⟩ => rfl

/-- A map of images laid along the two channels. -/
theorem along_at (m : FVec Ideal S4x512x512 .f32) (b : Fin 4) (i j : Fin 512) (k : Fin 2) :
    broadcastInDim S4x512x512x2 ![0, 1, 2, 3] bcast_S4x512x512x1_S4x512x512x2_0_1_2_3
      (broadcastInDim S4x512x512x1 ![0, 1, 2] bcast_S4x512x512_S4x512x512x1_0_1_2 m) (ix4 b i j k) = m (ix3 b i j) := by
  unfold broadcastInDim
  congr 1; funext q; refine Fin.ext ?_
  match q with
  | ⟨0, _⟩ => rfl
  | ⟨1, _⟩ => rfl
  | ⟨2, _⟩ => rfl

/-- The exponentials of a softmax, given the maxima. -/
def expOf (z : FVec Ideal S4x512x512x2 .f32) (m : FVec Ideal S4x512x512 .f32) : FVec Ideal S4x512x512x2 .f32 :=
  Host.exp (subf z (broadcastInDim S4x512x512x2 ![0, 1, 2, 3] bcast_S4x512x512x1_S4x512x512x2_0_1_2_3
    (broadcastInDim S4x512x512x1 ![0, 1, 2] bcast_S4x512x512_S4x512x512x1_0_1_2 m)))

theorem expOf_at (z : FVec Ideal S4x512x512x2 .f32) (m : FVec Ideal S4x512x512 .f32) (b : Fin 4) (i j : Fin 512) (k : Fin 2) :
    expOf z m (ix4 b i j k) = Ideal.exp (z (ix4 b i j k) - m (ix3 b i j)) :=
  congrArg (fun t => Ideal.exp (z (ix4 b i j k) - t)) (along_at m b i j k)

/-- The maxima of a softmax. -/
def maxOf (z : FVec Ideal S4x512x512x2 .f32) : FVec Ideal S4x512x512 .f32 :=
  maximumf (broadcastInDim S4x512x512 ![] bcast_S_S4x512x512 (constant (F := Ideal) S_ .f32 0xFF800000#32))
    (Host.reduce FloatOps.maximumf z (constant (F := Ideal) S_ .f32 0xFF800000#32) reducesTo_S4x512x512x2_S4x512x512_d3 h_S_)

theorem maxOf_at (z : FVec Ideal S4x512x512x2 .f32) (b : Fin 4) (i j : Fin 512) : maxOf z (ix3 b i j) = max (z (ix4 b i j 0)) (z (ix4 b i j 1)) := by
  have hmax (u v : FVec Ideal S4x512x512 .f32) (y : S4x512x512.Idx) : maximumf u v y = max (u y) (v y) := rfl
  have hb : broadcastInDim S4x512x512 ![] bcast_S_S4x512x512 (constant (F := Ideal) S_ .f32 0xFF800000#32) (ix3 b i j) = ⊥ := ofBits_bot
  unfold maxOf
  rw [hmax, rmax_at, hb, max_eq_right bot_le]

/-- A softmax from its exponentials. -/
def quotOf (e : FVec Ideal S4x512x512x2 .f32) : FVec Ideal S4x512x512x2 .f32 :=
  Host.divf e (broadcastInDim S4x512x512x2 ![0, 1, 2, 3] bcast_S4x512x512x1_S4x512x512x2_0_1_2_3
    (broadcastInDim S4x512x512x1 ![0, 1, 2] bcast_S4x512x512_S4x512x512x1_0_1_2
      (Host.reduceAdd e (constant (F := Ideal) S_ .f32 0x00000000#32) reducesTo_S4x512x512x2_S4x512x512_d3 h_S_)))

theorem quotOf_at (e : FVec Ideal S4x512x512x2 .f32) (b : Fin 4) (i j : Fin 512) (k : Fin 2) :
    quotOf e (ix4 b i j k) = Ideal.div (e (ix4 b i j k)) (e (ix4 b i j 0) + e (ix4 b i j 1)) :=
  congrArg (Ideal.div (e (ix4 b i j k))) ((along_at _ b i j k).trans (rsum_at e b i j))

theorem soft_eq (z : FVec Ideal S4x512x512x2 .f32) : soft (F := Ideal) z = quotOf (expOf z (maxOf z)) := rfl

theorem soft_at (z : FVec Ideal S4x512x512x2 .f32) (b : Fin 4) (i j : Fin 512) :
    soft (F := Ideal) z (ix4 b i j 1) = softmax2 (z (ix4 b i j 0)) (z (ix4 b i j 1)) := by
  rw [soft_eq, quotOf_at, expOf_at, expOf_at, maxOf_at]
  rfl

theorem heat_at (x : FVec Ideal S4x512x512x32 .f32) (b : Fin 4) (i j : Fin 512) :
    heat (F := Ideal) x (ix4 b i j 0) = softmax2 (x (ix4 b i j 0)) (x (ix4 b i j 1)) := by
  unfold heat
  unfold extractStridedSlice
  refine Eq.trans (congrArg _ ?_) ((soft_at _ b i j).trans ?_)
  · funext q; refine Fin.ext ?_
    match q with
    | ⟨0, _⟩ => show 0 + b.val = b.val; omega
    | ⟨1, _⟩ => show 0 + i.val = i.val; omega
    | ⟨2, _⟩ => show 0 + j.val = j.val; omega
    | ⟨3, _⟩ => rfl
  · congr 1
    all_goals
      congr 1
      funext q; refine Fin.ext ?_
      match q with
      | ⟨0, _⟩ => show 0 + b.val = b.val; omega
      | ⟨1, _⟩ => show 0 + i.val = i.val; omega
      | ⟨2, _⟩ => show 0 + j.val = j.val; omega
      | ⟨3, _⟩ => rfl

theorem masked_at (h : FVec Ideal S4x512x512x1 .f32) (b : Fin 4) (i j : Fin 512) :
    maskedOf (F := Ideal) h (ix4 b i j 0) = keep (fun i j => h (ix4 b i j 0)) i j := by
  unfold maskedOf keep
  rw [← window_at h (broadcastInDim S_ ![] bcast_S_S_ (constant (F := Ideal) S_ .f32 0xFF800000#32)) ofBits_bot, ← Ideal.ofBits_zero_f32]
  rfl

/-- The reference's masked heat map, an image a row. -/
theorem map_at (x : FVec Ideal S4x512x512x32 .f32) (b : Fin 4) (n : Fin 262144) :
    map (F := Ideal) x (ix2 b n) = keep (fun i j => softmax2 (x (ix4 b i j 0)) (x (ix4 b i j 1))) ⟨n.val / 512, by omega⟩ ⟨n.val % 512, by omega⟩ := by
  unfold map flatMap
  rw [cast_at _ _ _ (ix3 b ⟨n.val / 512, by omega⟩ ⟨n.val % 512, by omega⟩ : S4x512x512.Idx) (by
    rw [Shape.rowMajor_val_two, Shape.rowMajor_val_three]
    show (b.val * 512 + n.val / 512) * 512 + n.val % 512 = b.val * 262144 + n.val; omega),
    cast_at _ _ _ (ix4 b ⟨n.val / 512, by omega⟩ ⟨n.val % 512, by omega⟩ 0 : S4x512x512x1.Idx) (by
    rw [Shape.rowMajor_val_four, Shape.rowMajor_val_three]; simp)]
  rw [masked_at]
  congr 1
  funext i j
  exact heat_at x b i j

end Cert.Proof.Ref
end
-- ==== Proof.Ref.Places.lean ====
/- Where the reference finds an image's highest, and what it reads there. -/
module

public import proofs.«01_k».proof.Proof.Ref.HeatAt
public import proofs.«01_k».proof.Proof.Ref.TakeAt
public import proofs.«01_k».proof.Proof.Maths.TwoStage

@[expose] public section

set_option maxRecDepth 8192

noncomputable section

namespace Cert.Proof.Ref

open Cert.ReferenceIdeal Cert.ReferenceIdeal.Gen
open Idealize.ShloMosaic
open Idealize.ShloMosaic.ValueIdx
open Cert.Proof.Maths

variable (x : FVec Ideal S4x512x512x32 .f32)

/-- The masked heat map of an image, its pixels in a row. -/
def image (b : Fin 4) : Fin 262144 → EReal := fun n => map (F := Ideal) x (ix2 b n)

/-- The image's k-th highest pixel, ties going to the lower index. -/
def high (b : Fin 4) (k : Fin 1000) : Fin 262144 := sortedFrom (before (image x b)) (k.castLE (by omega))

theorem gtR_iff (a b : EReal) : FloatOps.cmpfTotal (F := Ideal) (φ := .f32) .gt a b = 1#1 ↔ b < a := by
  show Ideal.cmpTotal .gt a b = 1#1 ↔ _
  by_cases h : b < a <;> simp [Ideal.cmpTotal, Ideal.cmp, CmpDirection.ordered, h]

theorem places_at (b : Fin 4) (k : Fin 1000) : places (F := Ideal) x (ix2 b k) = BitVec.ofNat 32 (high x b k).val := by
  unfold places top high
  rw [topK_idx _ _ _ (by omega), tkPos_eq _ gtR_iff]
  rfl

theorem scores_at (b : Fin 4) (k : Fin 1000) : take1 (F := Ideal) (map (F := Ideal) x) (places (F := Ideal) x) (ix2 b k) = image x b (high x b k) :=
  take1_at (places (F := Ideal) x) (high x) (places_at x) (map (F := Ideal) x) b k

theorem classes_at : classes = fun _ => 1#32 := by
  funext j
  show 1#32 * 1#32 = 1#32
  decide

end Cert.Proof.Ref
end
-- ==== Proof.Ref.BoxAt.lean ====
/- The reference's boxes: each is decoded from its pixel among the highest. -/
module

public import proofs.«01_k».proof.Proof.Ref.RowAt
public import proofs.«01_k».proof.Proof.Ref.Anchors
public import proofs.«01_k».proof.Proof.Ref.Places

@[expose] public section

set_option maxRecDepth 8192

noncomputable section

namespace Cert.Proof.Ref

open Cert.ReferenceIdeal Cert.ReferenceIdeal.Gen
open Idealize.ShloMosaic
open Idealize.ShloMosaic.ValueIdx
open Cert.Proof.Maths

variable (x : FVec Ideal S4x512x512x32 .f32)

/-- The channels of a pixel. -/
def pixel (b : Fin 4) (p : Fin 262144) (c : Fin 32) : EReal := x (ix4 b ⟨p.val / 512, by omega⟩ ⟨p.val % 512, by omega⟩ c)

/-- The row of channels of a box. -/
theorem rows_at (b : Fin 4) (k : Fin 1000) (n : Fin 4000) (hn : n.val = 1000 * b.val + k.val) (c : Fin 30) :
    rows (F := Ideal) x (ix2 n c) = pixel x b (high x b k) ⟨2 + c.val, by omega⟩ := by
  unfold rows rowsOf
  refine (cast_at _ _ _ (ix3 b k c : S4x1000x30.Idx) (by
    rw [Shape.rowMajor_val_two, Shape.rowMajor_val_three]; show (b.val * 1000 + k.val) * 30 + c.val = n.val * 30 + c.val; omega)).trans ?_
  exact (take30_at (places (F := Ideal) x) (high x) (places_at x) _ b k c).trans (channels_at x b _ c)

variable (hx : ∀ i, ⊥ < x i)
include hx

/-- The reference's box of each of the highest pixels: some bin is the first of the highest scores, and the box is decoded with it. -/
theorem boxes_at (b : Fin 4) (k : Fin 1000) : ∃ q : Fin 12, IsFirst (fun z : Fin 12 => pixel x b (high x b k) ⟨5 + z.val, by omega⟩) q
    ∧ ∀ c : Fin 7, boxes (F := Ideal) x (ix3 b k c) = boxAt (pixel x b (high x b k)) (high x b k).val q c := by
  have hrow : ∀ n : Fin 4000, ∃ (b : Fin 4) (k : Fin 1000), n.val = 1000 * b.val + k.val := fun n =>
    ⟨⟨n.val / 1000, by omega⟩, ⟨n.val % 1000, by omega⟩, by show n.val = 1000 * (n.val / 1000) + n.val % 1000; omega⟩
  have hv : ∀ n (c : Fin 30), ⊥ < rows (F := Ideal) x (ix2 n c) := by
    intro n c
    obtain ⟨b, k, hn⟩ := hrow n
    rw [rows_at x b k n hn]
    exact hx _
  have hex : ∀ n : Fin 4000, ∃ q, IsFirst (fun z : Fin 12 => rows (F := Ideal) x (ix2 n ⟨3 + z.val, by omega⟩)) q := fun n => exists_first _
  choose q hq using hex
  have hr := rows_at x b k ⟨1000 * b.val + k.val, by omega⟩ rfl
  refine ⟨q ⟨1000 * b.val + k.val, by omega⟩, ?_, fun c => ?_⟩
  · have h := hq ⟨1000 * b.val + k.val, by omega⟩
    have e : (fun z : Fin 12 => rows (F := Ideal) x (ix2 ⟨1000 * b.val + k.val, by omega⟩ ⟨3 + z.val, by omega⟩))
        = fun z : Fin 12 => pixel x b (high x b k) ⟨5 + z.val, by omega⟩ := by
      funext z
      refine (hr ⟨3 + z.val, by omega⟩).trans (congrArg (pixel x b (high x b k)) (Fin.ext ?_))
      show 2 + (3 + z.val) = 5 + z.val
      omega
    rw [e] at h
    exact h
  · have ht (c : Fin 3) : take3 (F := Ideal) anchors (column (places (F := Ideal) x)) (ix3 b k c)
        = (![centre ((high x b k).val / 512), centre ((high x b k).val % 512), 0] : Fin 3 → EReal) c :=
      (take3_at (places (F := Ideal) x) (high x) (places_at x) _ b k c).trans (anchors_at b _ c)
    have hw := raw_at (rows (F := Ideal) x) ⟨1000 * b.val + k.val, by omega⟩ (pixel x b (high x b k)) q hq hv b k rfl hr
    unfold boxes
    refine (placed_at _ _ b k c).trans ?_
    rw [hw]
    match c with
    | 0 => exact congrArg (· + pixel x b (high x b k) 2) (ht 0)
    | 1 => exact congrArg (· + pixel x b (high x b k) 3) (ht 1)
    | 2 => exact (congrArg (· + pixel x b (high x b k) 4) (ht 2)).trans (zero_add _)
    | 3 => rfl
    | 4 => rfl
    | 5 => rfl
    | 6 => rfl

end Cert.Proof.Ref
end
-- ==== Proof.Same.lean ====
/- The kernel's results are the reference's, where the input is finite. -/
module

public import proofs.«01_k».proof.Proof.KernelIdeal.MaskAt
public import proofs.«01_k».proof.Proof.KernelIdeal.Peaks
public import proofs.«01_k».proof.Proof.KernelIdeal.BoxAt
public import proofs.«01_k».proof.Proof.Ref.BoxAt

@[expose] public section

set_option maxRecDepth 8192

noncomputable section

namespace Cert.Proof.Same

open Idealize.ShloMosaic hiding ix1 ix2 ix3 ix4 ix5 ix6
open Idealize.ShloMosaic.ValueIdx
open Idealize.ShloMosaic.TcCoe
open Cert.Proof.Maths Cert.Proof.KernelIdeal

/-- Every entry a real number. -/
def Real4 (x : FVec Ideal Cert.ReferenceIdeal.S4x512x512x32 .f32) : Prop := ∀ i, ∃ r : ℝ, x i = (r : EReal)

variable (m : (ℓ : Loc Cert.KernelIdeal.nD Cert.KernelIdeal.τ Cert.KernelIdeal.sig) → Buf (Elt Ideal) ℓ) (d : Dev Cert.KernelIdeal.nD)
variable (hx : Real4 (arg m d))
include hx

theorem image_eq (b : Fin 4) : imageAt (masked m d) b = Ref.image (arg m d) b := by
  funext n
  unfold imageAt Ref.image
  rw [masked_eq]
  refine Eq.trans ?_ (Ref.map_at (arg m d) b n).symm
  refine congrArg (fun f => keep f _ _) ?_
  funext i j
  obtain ⟨u, hu⟩ := hx (ix4 b i j 0)
  obtain ⟨v, hv⟩ := hx (ix4 b i j 1)
  rw [diff_at]
  refine Eq.trans ?_ ((congrArg₂ softmax2 hu hv).trans (softmax_eq_sigm u v)).symm
  exact congrArg sigm (congrArg₂ (· - ·) hv hu)

theorem peak_same (b : Fin 4) (k : Fin 1000) : peak (masked m d) b k = Ref.high (arg m d) b k := by
  rw [peak_eq, image_eq m d hx]
  rfl

/-- The scores are the same. -/
theorem scores_same : VZ m d Cert.KernelIdeal.main_values_0 = Ref.take1 (F := Ideal) (Ref.map (F := Ideal) (arg m d)) (Ref.places (F := Ideal) (arg m d)) := by
  rw [vz_values]
  funext y
  obtain ⟨b, k, rfl⟩ : ∃ (b : Fin 4) (k : Fin 1000), y = ix2 b k := ⟨y 0, y 1, ValueIdx.eq_ix2 y⟩
  refine (top2_val (masked m d) b k).trans (Eq.trans ?_ (Ref.scores_at (arg m d) b k).symm)
  rw [image_eq m d hx, peak_same m d hx]

/-- The boxes are the same. -/
theorem boxes_same : VZ m d Cert.KernelIdeal.main_v32 = Ref.boxes (F := Ideal) (arg m d) := by
  funext y
  obtain ⟨b, k, c, rfl⟩ : ∃ (b : Fin 4) (k : Fin 1000) (c : Fin 7), y = ix3 b k c := ⟨y 0, y 1, y 2, ValueIdx.eq_ix3 y⟩
  have hb : ∀ i, ⊥ < arg m d i := by
    intro i
    obtain ⟨r, hr⟩ := hx i
    rw [hr]; exact EReal.bot_lt_coe r
  obtain ⟨q, hq, hc⟩ := Ref.boxes_at (arg m d) hb b k
  refine Eq.trans ?_ (hc c).symm
  rw [← peak_same m d hx] at hq ⊢
  exact box_at m d b k q _ (fun _ => rfl) hq c

omit hx in
/-- The classes are the same. -/
theorem classes_same : VZ m d Cert.KernelIdeal.main_v33 = Ref.classes := by
  rw [vz_v33, Ref.classes_at]
  rfl

end Cert.Proof.Same
end
-- ==== Proof.Finite.lean ====
/- What the precondition says over the extended reals: every entry of the argument is a real number. -/
module

public import proofs.«01_k».proof.Pre_finite
public import proofs.«01_k».proof.Proof.Same
public import Idealize.ShloMosaic.Lib.ReduceAll

@[expose] public section

set_option maxRecDepth 8192

noncomputable section

namespace Cert.Proof

open Idealize.ShloMosaic
open Cert.Proof.Maths

theorem facts_finite : Cert.Pre_finite.Facts := ⟨by decide, by decide, by decide⟩

theorem real_of_lt (a : EReal) (h : Ideal.cmp .olt (max a (-a)) ⊤ = 1#1) : ∃ r : ℝ, a = (r : EReal) := by
  have h' : max a (-a) < ⊤ := by
    by_contra hn
    have : Ideal.cmp .olt (max a (-a)) ⊤ = BitVec.ofBool (decide (max a (-a) < ⊤)) := rfl
    rw [this, decide_eq_false hn] at h
    exact absurd h (by decide)
  induction a with
  | bot => simp at h'
  | coe r => exact ⟨r, rfl⟩
  | top => simp at h'

theorem compare_at {s : Shape} (x y : FVec Ideal s .f32) (i : s.Idx) : cmpf .olt (Host.absf x) y i = Ideal.cmp .olt (max (x i) (-(x i))) (y i) := rfl

/-- A finite argument's entries are real numbers. -/
theorem real_of_finite (x : FVec Ideal Cert.ReferenceIdeal.S4x512x512x32 .f32)
    (h : @Cert.Pre_finite.fn facts_finite Ideal _ x = fun _ => 1#1) : Same.Real4 x := by
  intro i
  have : Subsingleton Cert.Pre_finite.S_.Idx := ⟨fun a b => funext fun z => z.elim0⟩
  have e := Host.reduce_andi_all _ _ _ _ (Shape.Idx.first (by decide : 0 < Cert.Pre_finite.S_.numel)) (congrFun h _) i
  refine real_of_lt (x i) ?_
  rw [← ofBits_top]
  exact (compare_at x _ i).symm.trans e

end Cert.Proof
end
-- ==== Proof.lean ====
module

public import proofs.«01_k».proof.Defs
public import proofs.«01_k».proof.Proof.Kernel.End
public import proofs.«01_k».proof.Proof.KernelIdeal.End
public import proofs.«01_k».proof.Proof.Ref.Chain
public import proofs.«01_k».proof.Proof.Finite

@[expose] public section

noncomputable section

namespace Cert.Proof

open Idealize.ShloMosaic Idealize.SL.Sem

/-- The kernel runs, its argument ends as it was, every counter at zero. -/
theorem frame_kernel : @Cert.quiescent_Kernel Cert.Kernel.Gen.facts := by
  intro m g _
  refine θ_run_mono (Kernel.run_main m g (Kernel.inRange m)) fun r h => ⟨fun c => ?_, h.2⟩
  exact (h.1 c (Proc.devRef .tc Cert.Kernel.main_arg0) (Pipeline.devRef_mem_ucRefs (by decide))).trans (Kernel.vz_arg m c)

/-- The same read over the extended reals. -/
theorem frame_ideal : @Cert.quiescent_KernelIdeal Cert.KernelIdeal.Gen.facts := by
  intro m g _
  refine θ_run_mono (KernelIdeal.run_main m g (KernelIdeal.inRange m)) fun r h => ⟨fun c => ?_, h.2⟩
  exact (h.1 c (Proc.devRef .tc Cert.KernelIdeal.main_arg0) (Pipeline.devRef_mem_ucRefs (by decide))).trans (KernelIdeal.vz_arg m c)

/-- The reference runs, its argument ends as it was. -/
theorem frame_reference : @Cert.quiescent_ReferenceIdeal Cert.ReferenceIdeal.Gen.facts := by
  intro m g _
  refine θ_run_mono (Ref.run_main m g) fun r h => ⟨fun c => ?_, h.2⟩
  exact (h.1 c Cert.ReferenceIdeal.main_arg0).trans (Ref.end_arg _)

theorem frame_ideal_finite : @Cert.quiescent_KernelIdeal_pre_finite Cert.KernelIdeal.Gen.facts facts_finite :=
  fun m g _ => frame_ideal m g trivial

theorem frame_reference_finite : @Cert.quiescent_ReferenceIdeal_pre_finite Cert.ReferenceIdeal.Gen.facts facts_finite :=
  fun m g _ => frame_reference m g trivial

/-- From a finite argument the kernel and the reference end with the same boxes, classes and scores. -/
theorem same_results : @Cert.algebraic_KernelIdeal_ReferenceIdeal_pre_finite Cert.KernelIdeal.Gen.facts Cert.ReferenceIdeal.Gen.facts facts_finite := by
  intro m g m' g' hpre hargs
  have hx : ∀ c, Same.Real4 (KernelIdeal.arg m c) := fun c => real_of_finite _ (hpre c)
  have ha : ∀ c, StableHlo.launchContents m' c (Proc.devRef .tc Cert.ReferenceIdeal.main_arg0) = KernelIdeal.arg m c := hargs
  refine ⟨fun c => KernelIdeal.VZ m c (Proc.devRef .tc Cert.KernelIdeal.main_v32), fun c => KernelIdeal.VZ m c (Proc.devRef .tc Cert.KernelIdeal.main_v33),
    fun c => KernelIdeal.VZ m c (Proc.devRef .tc Cert.KernelIdeal.main_values_0), ?_, ?_⟩
  · refine θ_run_mono (KernelIdeal.run_main m g (KernelIdeal.inRange m)) fun r h c => ⟨?_, ?_, ?_, ?_⟩
    · exact h.1 c (Proc.devRef .tc Cert.KernelIdeal.main_v32) (Pipeline.devRef_mem_ucRefs (by decide))
    · exact h.1 c (Proc.devRef .tc Cert.KernelIdeal.main_v33) (Pipeline.devRef_mem_ucRefs (by decide))
    · exact h.1 c (Proc.devRef .tc Cert.KernelIdeal.main_values_0) (Pipeline.devRef_mem_ucRefs (by decide))
    · exact (h.1 c (Proc.devRef .tc Cert.KernelIdeal.main_arg0) (Pipeline.devRef_mem_ucRefs (by decide))).trans (KernelIdeal.vz_arg m c)
  · refine θ_run_mono (Ref.run_main m' g') fun r h c => ⟨?_, ?_, ?_, ?_⟩
    · exact ((h.1 c Cert.ReferenceIdeal.main_v105).trans (Ref.end_v105 _)).trans ((congrArg (Ref.boxes (F := Ideal)) (ha c)).trans (Same.boxes_same m c (hx c)).symm)
    · exact ((h.1 c Cert.ReferenceIdeal.main_v29).trans (Ref.end_v29 _)).trans (Same.classes_same m c).symm
    · exact ((h.1 c Cert.ReferenceIdeal.main_v26).trans (Ref.end_v26 _)).trans
        ((congrArg (fun x => Ref.take1 (F := Ideal) (Ref.map (F := Ideal) x) (Ref.places (F := Ideal) x)) (ha c)).trans (Same.scores_same m c (hx c)).symm)
    · exact (h.1 c Cert.ReferenceIdeal.main_arg0).trans (Ref.end_arg _)

theorem claim : Cert.Claim := ⟨Cert.Kernel.Gen.facts, Cert.KernelIdeal.Gen.facts, Cert.ReferenceIdeal.Gen.facts, facts_finite,
  frame_kernel, frame_ideal, frame_ideal_finite, frame_reference, frame_reference_finite, trivial, same_results⟩

end Cert.Proof

end
